-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)) (v4 : (c : Dev Cert.KernelIdeal.nD) → Buf (Elt Ideal) ((c.tc : Thread Cert.KernelIdeal.nD Cert.KernelIdeal.τ).loc Cert.KernelIdeal.main_v25_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_v25_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v73_7) = v1 c
          ∧ r.2.mem ((c.tc : Thread Cert.ReferenceIdeal.nD Cert.ReferenceIdeal.τ).loc Cert.ReferenceIdeal.main_v142) = v2 c
          ∧ r.2.mem ((c.tc : Thread Cert.ReferenceIdeal.nD Cert.ReferenceIdeal.τ).loc Cert.ReferenceIdeal.main_v144) = v3 c
          ∧ r.2.mem ((c.tc : Thread Cert.ReferenceIdeal.nD Cert.ReferenceIdeal.τ).loc Cert.ReferenceIdeal.main_v145) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v26_0)) (v1 : (c : Dev Cert.Kernel3Ideal.nD) → Buf (Elt Ideal) ((c.tc : Thread Cert.Kernel3Ideal.nD Cert.Kernel3Ideal.τ).loc Cert.Kernel3Ideal.main_v26_1)) (v2 : (c : Dev Cert.Kernel3Ideal.nD) → Buf (Elt Ideal) ((c.tc : Thread Cert.Kernel3Ideal.nD Cert.Kernel3Ideal.τ).loc Cert.Kernel3Ideal.main_v26_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26_0) = v0 c
          ∧ r.2.mem ((c.tc : Thread Cert.Kernel3Ideal.nD Cert.Kernel3Ideal.τ).loc Cert.Kernel3Ideal.main_v26_1) = v1 c
          ∧ r.2.mem ((c.tc : Thread Cert.Kernel3Ideal.nD Cert.Kernel3Ideal.τ).loc Cert.Kernel3Ideal.main_v26_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S16384x8192 : Shape := ⟨2, ![16384, 8192]⟩
abbrev S16384x128 : Shape := ⟨2, ![16384, 128]⟩
abbrev S4x512 : Shape := ⟨2, ![4, 512]⟩
abbrev S512 : Shape := ⟨1, ![512]⟩
abbrev S4x128x128 : Shape := ⟨3, ![4, 128, 128]⟩
abbrev S4 : Shape := ⟨1, ![4]⟩
abbrev S128 : Shape := ⟨1, ![128]⟩
abbrev S4x4x128x128 : Shape := ⟨4, ![4, 4, 128, 128]⟩
abbrev S4x4x128 : Shape := ⟨3, ![4, 4, 128]⟩
abbrev S4x4 : Shape := ⟨2, ![4, 4]⟩
abbrev S4x3x512 : Shape := ⟨3, ![4, 3, 512]⟩
abbrev S_ : Shape := ⟨0, ![]⟩
abbrev S1x128 : Shape := ⟨2, ![1, 128]⟩
abbrev S1 : Shape := ⟨1, ![1]⟩
abbrev S2 : Shape := ⟨1, ![2]⟩
abbrev S8 : Shape := ⟨1, ![8]⟩
abbrev S8x1 : Shape := ⟨2, ![8, 1]⟩
abbrev S1x512 : Shape := ⟨2, ![1, 512]⟩
abbrev S16384x8 : Shape := ⟨2, ![16384, 8]⟩
abbrev S8x16384 : Shape := ⟨2, ![8, 16384]⟩
abbrev S8x64x256 : Shape := ⟨3, ![8, 64, 256]⟩
abbrev S64x8x256 : Shape := ⟨3, ![64, 8, 256]⟩
abbrev S4x4x1x128 : Shape := ⟨4, ![4, 4, 1, 128]⟩
abbrev S4x4x1x1 : Shape := ⟨4, ![4, 4, 1, 1]⟩
abbrev S4x8x512 : Shape := ⟨3, ![4, 8, 512]⟩
abbrev S16384x512 : Shape := ⟨2, ![16384, 512]⟩
abbrev S256x512 : Shape := ⟨2, ![256, 512]⟩
abbrev S256x128 : Shape := ⟨2, ![256, 128]⟩
abbrev S1x8x256 : Shape := ⟨3, ![1, 8, 256]⟩
abbrev S1x4x128x128 : Shape := ⟨4, ![1, 4, 128, 128]⟩
abbrev S1x4x1x128 : Shape := ⟨4, ![1, 4, 1, 128]⟩
abbrev S1x8x512 : Shape := ⟨3, ![1, 8, 512]⟩
abbrev S264x512 : Shape := ⟨2, ![264, 512]⟩
abbrev S4x1x128 : Shape := ⟨3, ![4, 1, 128]⟩
abbrev S8x512 : Shape := ⟨2, ![8, 512]⟩
abbrev S8x256 : Shape := ⟨2, ![8, 256]⟩
abbrev S64x64 : Shape := ⟨2, ![64, 64]⟩
abbrev S1x128x128 : Shape := ⟨3, ![1, 128, 128]⟩
abbrev S128x128 : Shape := ⟨2, ![128, 128]⟩
abbrev S64x128 : Shape := ⟨2, ![64, 128]⟩
abbrev S8x64 : Shape := ⟨2, ![8, 64]⟩
abbrev S64x1 : Shape := ⟨2, ![64, 1]⟩
abbrev S1x64 : Shape := ⟨2, ![1, 64]⟩
abbrev S1x1x128 : Shape := ⟨3, ![1, 1, 128]⟩
abbrev S1x1 : Shape := ⟨2, ![1, 1]⟩
abbrev S64 : Shape := ⟨1, ![64]⟩

abbrev nBuf : Space → Nat
  | .hbm => 52
  | .vmem => 41
  | .smem => 0
  | _ => 0

abbrev bufTy : (tb : Table) → Fin (tcTables nBuf tb) → BufTy
  | .hbm, ⟨0, _⟩ => ⟨S16384x8192, .f32⟩
  | .hbm, ⟨1, _⟩ => ⟨S16384x128, .f32⟩
  | .hbm, ⟨2, _⟩ => ⟨S4x512, .f32⟩
  | .hbm, ⟨3, _⟩ => ⟨S512, .f32⟩
  | .hbm, ⟨4, _⟩ => ⟨S4x128x128, .f32⟩
  | .hbm, ⟨5, _⟩ => ⟨S4x128x128, .f32⟩
  | .hbm, ⟨6, _⟩ => ⟨S4x128x128, .f32⟩
  | .hbm, ⟨7, _⟩ => ⟨S4, .f32⟩
  | .hbm, ⟨8, _⟩ => ⟨S4, .f32⟩
  | .hbm, ⟨9, _⟩ => ⟨S128, .f32⟩
  | .hbm, ⟨10, _⟩ => ⟨S512, .f32⟩
  | .hbm, ⟨11, _⟩ => ⟨S4x4x128x128, .f32⟩
  | .hbm, ⟨12, _⟩ => ⟨S4x4x128, .f32⟩
  | .hbm, ⟨13, _⟩ => ⟨S4x4, .f32⟩
  | .hbm, ⟨14, _⟩ => ⟨S4x3x512, .f32⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S1x128, .f32⟩
  | .hbm, ⟨29, _⟩ => ⟨S8, .f32⟩
  | .hbm, ⟨30, _⟩ => ⟨S8x1, .f32⟩
  | .hbm, ⟨31, _⟩ => ⟨S1x512, .f32⟩
  | .hbm, ⟨32, _⟩ => ⟨S4x128x128, .bf16⟩
  | .hbm, ⟨33, _⟩ => ⟨S4x128x128, .bf16⟩
  | .hbm, ⟨34, _⟩ => ⟨S4x128x128, .bf16⟩
  | .hbm, ⟨35, _⟩ => ⟨S1x128, .f32⟩
  | .hbm, ⟨36, _⟩ => ⟨S1x512, .f32⟩
  | .hbm, ⟨37, _⟩ => ⟨S16384x8, .f32⟩
  | .hbm, ⟨38, _⟩ => ⟨S8x16384, .f32⟩
  | .hbm, ⟨39, _⟩ => ⟨S8x64x256, .f32⟩
  | .hbm, ⟨40, _⟩ => ⟨S64x8x256, .f32⟩
  | .hbm, ⟨41, _⟩ => ⟨S4x4x1x128, .f32⟩
  | .hbm, ⟨42, _⟩ => ⟨S4x4x1x1, .f32⟩
  | .hbm, ⟨43, _⟩ => ⟨S4x4x1x128, .f32⟩
  | .hbm, ⟨44, _⟩ => ⟨S_, .i32⟩
  | .hbm, ⟨45, _⟩ => ⟨S_, .f32⟩
  | .hbm, ⟨46, _⟩ => ⟨S4x8x512, .f32⟩
  | .hbm, ⟨47, _⟩ => ⟨S16384x512, .f32⟩
  | .hbm, ⟨48, _⟩ => ⟨S4x4x128x128, .f32⟩
  | .hbm, ⟨49, _⟩ => ⟨S4x4x1x128, .f32⟩
  | .hbm, ⟨50, _⟩ => ⟨S4x4x1x128, .f32⟩
  | .hbm, ⟨51, _⟩ => ⟨S4x8x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x128, .f32⟩
  | .local _ .vmem, ⟨7, _⟩ => ⟨S256x128, .f32⟩
  | .local _ .vmem, ⟨8, _⟩ => ⟨S1x8x256, .f32⟩
  | .local _ .vmem, ⟨9, _⟩ => ⟨S1x8x256, .f32⟩
  | .local _ .vmem, ⟨10, _⟩ => ⟨S4x512, .f32⟩
  | .local _ .vmem, ⟨11, _⟩ => ⟨S1x512, .f32⟩
  | .local _ .vmem, ⟨12, _⟩ => ⟨S4x128x128, .bf16⟩
  | .local _ .vmem, ⟨13, _⟩ => ⟨S4x128x128, .bf16⟩
  | .local _ .vmem, ⟨14, _⟩ => ⟨S4x128x128, .bf16⟩
  | .local _ .vmem, ⟨15, _⟩ => ⟨S1x128, .f32⟩
  | .local _ .vmem, ⟨16, _⟩ => ⟨S8x1, .f32⟩
  | .local _ .vmem, ⟨17, _⟩ => ⟨S1x128, .f32⟩
  | .local _ .vmem, ⟨18, _⟩ => ⟨S1x512, .f32⟩
  | .local _ .vmem, ⟨19, _⟩ => ⟨S1x4x128x128, .f32⟩
  | .local _ .vmem, ⟨20, _⟩ => ⟨S1x4x128x128, .f32⟩
  | .local _ .vmem, ⟨21, _⟩ => ⟨S1x4x1x128, .f32⟩
  | .local _ .vmem, ⟨22, _⟩ => ⟨S1x4x1x128, .f32⟩
  | .local _ .vmem, ⟨23, _⟩ => ⟨S1x4x1x128, .f32⟩
  | .local _ .vmem, ⟨24, _⟩ => ⟨S1x4x1x128, .f32⟩
  | .local _ .vmem, ⟨25, _⟩ => ⟨S1x8x512, .f32⟩
  | .local _ .vmem, ⟨26, _⟩ => ⟨S1x8x512, .f32⟩
  | .local _ .vmem, ⟨27, _⟩ => ⟨S256x512, .f32⟩
  | .local _ .vmem, ⟨28, _⟩ => ⟨S256x512, .f32⟩
  | .local _ .vmem, ⟨29, _⟩ => ⟨S1x4x128x128, .f32⟩
  | .local _ .vmem, ⟨30, _⟩ => ⟨S1x4x128x128, .f32⟩
  | .local _ .vmem, ⟨31, _⟩ => ⟨S1x4x1x128, .f32⟩
  | .local _ .vmem, ⟨32, _⟩ => ⟨S1x4x1x128, .f32⟩
  | .local _ .vmem, ⟨33, _⟩ => ⟨S1x4x1x128, .f32⟩
  | .local _ .vmem, ⟨34, _⟩ => ⟨S1x4x1x128, .f32⟩
  | .local _ .vmem, ⟨35, _⟩ => ⟨S1x8x512, .f32⟩
  | .local _ .vmem, ⟨36, _⟩ => ⟨S1x8x512, .f32⟩
  | .local _ .vmem, ⟨37, _⟩ => ⟨S264x512, .f32⟩
  | .local _ .vmem, ⟨38, _⟩ => ⟨S4x128x128, .f32⟩
  | .local _ .vmem, ⟨39, _⟩ => ⟨S4x1x128, .f32⟩
  | .local _ .vmem, ⟨40, _⟩ => ⟨S4x1x128, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c_1 : Ref sig .tc := ⟨.hbm, 23, rfl⟩
abbrev main_v5 : Ref sig .tc := ⟨.hbm, 24, rfl⟩
abbrev main_c_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_3 : Ref sig .tc := ⟨.hbm, 44, rfl⟩
abbrev main_call0_v0 : Ref sig .tc := ⟨.hbm, 45, rfl⟩
abbrev main_v24 : Ref sig .tc := ⟨.hbm, 46, rfl⟩
abbrev main_v25_0 : Ref sig .tc := ⟨.hbm, 47, rfl⟩
abbrev main_v25_1 : Ref sig .tc := ⟨.hbm, 48, rfl⟩
abbrev main_v25_2 : Ref sig .tc := ⟨.hbm, 49, rfl⟩
abbrev main_v25_3 : Ref sig .tc := ⟨.hbm, 50, rfl⟩
abbrev main_v25_4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_stg22_0 : Ref sig .tc := ⟨.vmem, 35, rfl⟩
abbrev cc0_stg22_1 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_scratch3 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v2307 : BitVec 1 := Scalar.cmpi .eq arg1 c15_i32
  let v2308 : BitVec 32 := Scalar.extui v2307
  let c0_i32_847 : BitVec 32 := 0#32
  let v2309 : BitVec 1 := Scalar.cmpi .ne v2308 c0_i32_847
  v2309

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x4x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x4x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x4x1x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4x128x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x4x1x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S1x4x1x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S1x8x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]
-- ==== ReferenceIdeal.lean ====
abbrev S16384x8192 : Shape := ⟨2, ![16384, 8192]⟩
abbrev S16384x128 : Shape := ⟨2, ![16384, 128]⟩
abbrev S4x512 : Shape := ⟨2, ![4, 512]⟩
abbrev S512 : Shape := ⟨1, ![512]⟩
abbrev S4x128x128 : Shape := ⟨3, ![4, 128, 128]⟩
abbrev S4 : Shape := ⟨1, ![4]⟩
abbrev S128 : Shape := ⟨1, ![128]⟩
abbrev S4x4x128x128 : Shape := ⟨4, ![4, 4, 128, 128]⟩
abbrev S4x4x128 : Shape := ⟨3, ![4, 4, 128]⟩
abbrev S4x4 : Shape := ⟨2, ![4, 4]⟩
abbrev S4x3x512 : Shape := ⟨3, ![4, 3, 512]⟩
abbrev S16384x4 : Shape := ⟨2, ![16384, 4]⟩
abbrev S4x4096x4 : Shape := ⟨3, ![4, 4096, 4]⟩
abbrev S4x4096x8192 : Shape := ⟨3, ![4, 4096, 8192]⟩
abbrev S4x4096x512 : Shape := ⟨3, ![4, 4096, 512]⟩
abbrev S4x4099x512 : Shape := ⟨3, ![4, 4099, 512]⟩
abbrev S1x512 : Shape := ⟨2, ![1, 512]⟩
abbrev S1x1x512 : Shape := ⟨3, ![1, 1, 512]⟩
abbrev S_ : Shape := ⟨0, ![]⟩
abbrev S4x4096x4x128 : Shape := ⟨4, ![4, 4096, 4, 128]⟩
abbrev S4x128x4x4096 : Shape := ⟨4, ![4, 128, 4, 4096]⟩
abbrev S1x1x4 : Shape := ⟨3, ![1, 1, 4]⟩
abbrev S64x64 : Shape := ⟨2, ![64, 64]⟩
abbrev S4x64x64x4x128 : Shape := ⟨5, ![4, 64, 64, 4, 128]⟩
abbrev S64x4x4x64x128 : Shape := ⟨5, ![64, 4, 4, 64, 128]⟩
abbrev S4x64x64x4 : Shape := ⟨4, ![4, 64, 64, 4]⟩
abbrev S64x4x4x64 : Shape := ⟨4, ![64, 4, 4, 64]⟩
abbrev S1x4x4x64x128 : Shape := ⟨5, ![1, 4, 4, 64, 128]⟩
abbrev S4x4x64x128 : Shape := ⟨4, ![4, 4, 64, 128]⟩
abbrev S1x4x4x64 : Shape := ⟨4, ![1, 4, 4, 64]⟩
abbrev S4x4x64 : Shape := ⟨3, ![4, 4, 64]⟩
abbrev S4x4x64x1 : Shape := ⟨4, ![4, 4, 64, 1]⟩
abbrev S4x4x1x64 : Shape := ⟨4, ![4, 4, 1, 64]⟩
abbrev S4x4x64x64 : Shape := ⟨4, ![4, 4, 64, 64]⟩
abbrev S4x4x1 : Shape := ⟨3, ![4, 4, 1]⟩
abbrev S4x4x1x1 : Shape := ⟨4, ![4, 4, 1, 1]⟩
abbrev S4x4096x4x1 : Shape := ⟨4, ![4, 4096, 4, 1]⟩
abbrev S1x1x1x128 : Shape := ⟨4, ![1, 1, 1, 128]⟩
abbrev S16384x512 : Shape := ⟨2, ![16384, 512]⟩
abbrev S4x4x1x128 : Shape := ⟨4, ![4, 4, 1, 128]⟩
abbrev S4x8x512 : Shape := ⟨3, ![4, 8, 512]⟩

abbrev nBuf : Space → Nat
  | .hbm => 351
  | .vmem => 0
  | .smem => 0
  | _ => 0

abbrev hbmTy0_0 (i : Nat) : BufTy := match i % 128 with
  | 0 => ⟨S16384x8192, .f32⟩
  | 1 => ⟨S16384x128, .f32⟩
  | 2 => ⟨S4x512, .f32⟩
  | 3 => ⟨S512, .f32⟩
  | 4 => ⟨S4x128x128, .f32⟩
  | 5 => ⟨S4x128x128, .f32⟩
  | 6 => ⟨S4x128x128, .f32⟩
  | 7 => ⟨S4, .f32⟩
  | 8 => ⟨S4, .f32⟩
  | 9 => ⟨S128, .f32⟩
  | 10 => ⟨S512, .f32⟩
  | 11 => ⟨S4x4x128x128, .f32⟩
  | 12 => ⟨S4x4x128, .f32⟩
  | 13 => ⟨S4x4, .f32⟩
  | 14 => ⟨S4x3x512, .f32⟩
  | 15 => ⟨S16384x4, .f32⟩
  | 16 => ⟨S4x4096x4, .f32⟩
  | 17 => ⟨S16384x4, .f32⟩
  | 18 => ⟨S4x4096x4, .f32⟩
  | 19 => ⟨S4x4096x8192, .f32⟩
  | 20 => ⟨S4x4096x512, .f32⟩
  | 21 => ⟨S4x4099x512, .f32⟩
  | 22 => ⟨S4x4096x512, .f32⟩
  | 23 => ⟨S1x512, .f32⟩
  | 24 => ⟨S512, .f32⟩
  | 25 => ⟨S1x1x512, .f32⟩
  | 26 => ⟨S4x4096x512, .f32⟩
  | 27 => ⟨S4x4096x512, .f32⟩
  | 28 => ⟨S1x1x512, .f32⟩
  | 29 => ⟨S4x4096x512, .f32⟩
  | 30 => ⟨S4x4096x512, .f32⟩
  | 31 => ⟨S4x4096x512, .f32⟩
  | 32 => ⟨S1x512, .f32⟩
  | 33 => ⟨S512, .f32⟩
  | 34 => ⟨S1x1x512, .f32⟩
  | 35 => ⟨S4x4096x512, .f32⟩
  | 36 => ⟨S4x4096x512, .f32⟩
  | 37 => ⟨S4x4096x512, .f32⟩
  | 38 => ⟨S4x4096x512, .f32⟩
  | 39 => ⟨S1x512, .f32⟩
  | 40 => ⟨S512, .f32⟩
  | 41 => ⟨S1x1x512, .f32⟩
  | 42 => ⟨S4x4096x512, .f32⟩
  | 43 => ⟨S4x4096x512, .f32⟩
  | 44 => ⟨S4x4096x512, .f32⟩
  | 45 => ⟨S4x4096x512, .f32⟩
  | 46 => ⟨S1x512, .f32⟩
  | 47 => ⟨S512, .f32⟩
  | 48 => ⟨S1x1x512, .f32⟩
  | 49 => ⟨S4x4096x512, .f32⟩
  | 50 => ⟨S4x4096x512, .f32⟩
  | 51 => ⟨S4x4096x512, .f32⟩
  | 52 => ⟨S4x4096x512, .f32⟩
  | 53 => ⟨S4x4096x512, .f32⟩
  | 54 => ⟨S_, .f32⟩
  | 55 => ⟨S4x4096x512, .f32⟩
  | 56 => ⟨S4x4096x512, .f32⟩
  | 57 => ⟨S_, .f32⟩
  | 58 => ⟨S4x4096x512, .f32⟩
  | 59 => ⟨S4x4096x512, .f32⟩
  | 60 => ⟨S4x4096x512, .f32⟩
  | 61 => ⟨S4x4096x4x128, .f32⟩
  | 62 => ⟨S4x128x4x4096, .f32⟩
  | 63 => ⟨S4x4096x4x128, .f32⟩
  | 64 => ⟨S4x128x4x4096, .f32⟩
  | 65 => ⟨S4x4096x4x128, .f32⟩
  | 66 => ⟨S_, .f32⟩
  | 67 => ⟨S4x4096x4x128, .f32⟩
  | 68 => ⟨S4x4096x4x128, .f32⟩
  | 69 => ⟨S4x4096x4x128, .f32⟩
  | 70 => ⟨S4x128x4x4096, .f32⟩
  | 71 => ⟨S4x4096x4x128, .f32⟩
  | 72 => ⟨S1x1x4, .f32⟩
  | 73 => ⟨S4x4096x4, .f32⟩
  | 74 => ⟨S4x4096x4, .f32⟩
  | 75 => ⟨S1x1x4, .f32⟩
  | 76 => ⟨S4x4096x4, .f32⟩
  | 77 => ⟨S4x4096x4, .f32⟩
  | 78 => ⟨S4x4096x4, .f32⟩
  | 79 => ⟨S_, .f32⟩
  | 80 => ⟨S4x4096x4, .f32⟩
  | 81 => ⟨S4x4096x4, .f32⟩
  | 82 => ⟨S4x4096x4, .f32⟩
  | 83 => ⟨S4x4096x4, .f32⟩
  | 84 => ⟨S4x4096x4, .i1⟩
  | 85 => ⟨S4x4096x4, .f32⟩
  | 86 => ⟨S4x4096x4, .f32⟩
  | 87 => ⟨S4x4096x4, .f32⟩
  | 88 => ⟨S4x4096x4, .f32⟩
  | 89 => ⟨S4x4096x4, .f32⟩
  | 90 => ⟨S4x4096x4, .f32⟩
  | 91 => ⟨S4x4096x4, .f32⟩
  | 92 => ⟨S4x4096x4, .f32⟩
  | 93 => ⟨S4x4096x4, .f32⟩
  | 94 => ⟨S_, .i1⟩
  | 95 => ⟨S64x64, .i1⟩
  | 96 => ⟨S64x64, .i32⟩
  | 97 => ⟨S_, .i32⟩
  | 98 => ⟨S64x64, .i32⟩
  | 99 => ⟨S64x64, .i32⟩
  | 100 => ⟨S64x64, .i32⟩
  | 101 => ⟨S64x64, .i1⟩
  | 102 => ⟨S_, .i1⟩
  | 103 => ⟨S64x64, .i1⟩
  | 104 => ⟨S64x64, .i1⟩
  | 105 => ⟨S_, .i32⟩
  | 106 => ⟨S_, .f32⟩
  | 107 => ⟨S4x4096x4x128, .f32⟩
  | 108 => ⟨S4x64x64x4x128, .f32⟩
  | 109 => ⟨S64x4x4x64x128, .f32⟩
  | 110 => ⟨S_, .i32⟩
  | 111 => ⟨S_, .f32⟩
  | 112 => ⟨S4x4096x4x128, .f32⟩
  | 113 => ⟨S4x64x64x4x128, .f32⟩
  | 114 => ⟨S64x4x4x64x128, .f32⟩
  | 115 => ⟨S_, .i32⟩
  | 116 => ⟨S_, .f32⟩
  | 117 => ⟨S4x4096x4x128, .f32⟩
  | 118 => ⟨S4x64x64x4x128, .f32⟩
  | 119 => ⟨S64x4x4x64x128, .f32⟩
  | 120 => ⟨S_, .f32⟩
  | 121 => ⟨S_, .f32⟩
  | 122 => ⟨S4x4096x4, .f32⟩
  | 123 => ⟨S4x64x64x4, .f32⟩
  | 124 => ⟨S64x4x4x64, .f32⟩
  | 125 => ⟨S_, .f32⟩
  | 126 => ⟨S_, .f32⟩
  | 127 => ⟨S4x4096x4, .f32⟩
  | _ => ⟨S16384x8192, .f32⟩

abbrev hbmTy0_1 (i : Nat) : BufTy := match i % 128 with
  | 0 => ⟨S4x64x64x4, .f32⟩
  | 1 => ⟨S64x4x4x64, .f32⟩
  | 2 => ⟨S_, .f32⟩
  | 3 => ⟨S64x4x4x64x128, .f32⟩
  | 4 => ⟨S_, .i32⟩
  | 5 => ⟨S64x4x4x64x128, .f32⟩
  | 6 => ⟨S64x4x4x64x128, .f32⟩
  | 7 => ⟨S64x4x4x64x128, .f32⟩
  | 8 => ⟨S64x4x4x64, .f32⟩
  | 9 => ⟨S64x4x4x64, .f32⟩
  | 10 => ⟨S64x64, .i1⟩
  | 11 => ⟨S_, .i32⟩
  | 12 => ⟨S4x4x128x128, .f32⟩
  | 13 => ⟨S4x4x128, .f32⟩
  | 14 => ⟨S4x4, .f32⟩
  | 15 => ⟨S64x4x4x64x128, .f32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S1x4x4x64x128, .f32⟩
  | 23 => ⟨S4x4x64x128, .f32⟩
  | 24 => ⟨S_, .i32⟩
  | 25 => ⟨S_, .i32⟩
  | 26 => ⟨S_, .i32⟩
  | 27 => ⟨S_, .i32⟩
  | 28 => ⟨S1x4x4x64x128, .f32⟩
  | 29 => ⟨S4x4x64x128, .f32⟩
  | 30 => ⟨S_, .i32⟩
  | 31 => ⟨S_, .i32⟩
  | 32 => ⟨S_, .i32⟩
  | 33 => ⟨S_, .i32⟩
  | 34 => ⟨S1x4x4x64x128, .f32⟩
  | 35 => ⟨S4x4x64x128, .f32⟩
  | 36 => ⟨S_, .i32⟩
  | 37 => ⟨S_, .i32⟩
  | 38 => ⟨S_, .i32⟩
  | 39 => ⟨S1x4x4x64, .f32⟩
  | 40 => ⟨S4x4x64, .f32⟩
  | 41 => ⟨S_, .i32⟩
  | 42 => ⟨S_, .i32⟩
  | 43 => ⟨S_, .i32⟩
  | 44 => ⟨S1x4x4x64, .f32⟩
  | 45 => ⟨S4x4x64, .f32⟩
  | 46 => ⟨S_, .f32⟩
  | 47 => ⟨S_, .f32⟩
  | 48 => ⟨S4x4x64, .f32⟩
  | 49 => ⟨S4x4x64x1, .f32⟩
  | 50 => ⟨S4x4x1x64, .f32⟩
  | 51 => ⟨S4x4x64x64, .f32⟩
  | 52 => ⟨S4x4x64x64, .f32⟩
  | 53 => ⟨S4x4x64x64, .f32⟩
  | 54 => ⟨S4x4x1x64, .f32⟩
  | 55 => ⟨S4x4x64x64, .f32⟩
  | 56 => ⟨S4x4x64x64, .f32⟩
  | 57 => ⟨S_, .f32⟩
  | 58 => ⟨S_, .f32⟩
  | 59 => ⟨S4x4x64x64, .i1⟩
  | 60 => ⟨S4x4x64x64, .f32⟩
  | 61 => ⟨S4x4x64x64, .f32⟩
  | 62 => ⟨S4x4x1, .f32⟩
  | 63 => ⟨S4x4x64, .f32⟩
  | 64 => ⟨S4x4x64, .f32⟩
  | 65 => ⟨S_, .f32⟩
  | 66 => ⟨S4x4x64, .f32⟩
  | 67 => ⟨S4x4x64, .f32⟩
  | 68 => ⟨S4x4x64x1, .f32⟩
  | 69 => ⟨S4x4x64x64, .f32⟩
  | 70 => ⟨S4x4x64x64, .f32⟩
  | 71 => ⟨S4x4x64x64, .f32⟩
  | 72 => ⟨S4x4x64, .f32⟩
  | 73 => ⟨S4x4x64, .f32⟩
  | 74 => ⟨S4x4x64x64, .f32⟩
  | 75 => ⟨S4x4x64x64, .f32⟩
  | 76 => ⟨S4x4x64x128, .f32⟩
  | 77 => ⟨S4x4x64x1, .f32⟩
  | 78 => ⟨S4x4x64x128, .f32⟩
  | 79 => ⟨S4x4x64x128, .f32⟩
  | 80 => ⟨S4x4x64x128, .f32⟩
  | 81 => ⟨S4x4x64x128, .f32⟩
  | 82 => ⟨S_, .f32⟩
  | 83 => ⟨S4x4x64, .f32⟩
  | 84 => ⟨S4x4x64, .f32⟩
  | 85 => ⟨S4x4x64, .f32⟩
  | 86 => ⟨S4x4x64, .f32⟩
  | 87 => ⟨S4x4x64, .f32⟩
  | 88 => ⟨S4x4x64, .f32⟩
  | 89 => ⟨S4x4x64, .f32⟩
  | 90 => ⟨S4x4x64, .f32⟩
  | 91 => ⟨S4x4x64x1, .f32⟩
  | 92 => ⟨S4x4x64x128, .f32⟩
  | 93 => ⟨S4x4x64x128, .f32⟩
  | 94 => ⟨S4x4x1, .f32⟩
  | 95 => ⟨S4x4, .f32⟩
  | 96 => ⟨S4x4x1, .f32⟩
  | 97 => ⟨S4x4x64, .f32⟩
  | 98 => ⟨S4x4x64, .f32⟩
  | 99 => ⟨S4x4x64, .f32⟩
  | 100 => ⟨S4x4x1, .f32⟩
  | 101 => ⟨S4x4x64, .f32⟩
  | 102 => ⟨S4x4x64, .f32⟩
  | 103 => ⟨S4x4x64, .f32⟩
  | 104 => ⟨S4x4x1, .f32⟩
  | 105 => ⟨S4x4, .f32⟩
  | 106 => ⟨S4x4, .f32⟩
  | 107 => ⟨S4x4, .f32⟩
  | 108 => ⟨S4x4, .f32⟩
  | 109 => ⟨S4x4x1x1, .f32⟩
  | 110 => ⟨S4x4x128x128, .f32⟩
  | 111 => ⟨S4x4x128x128, .f32⟩
  | 112 => ⟨S4x4x64x1, .f32⟩
  | 113 => ⟨S4x4x64x128, .f32⟩
  | 114 => ⟨S4x4x64x128, .f32⟩
  | 115 => ⟨S4x4x128x128, .f32⟩
  | 116 => ⟨S4x4x128x128, .f32⟩
  | 117 => ⟨S4x4x1, .f32⟩
  | 118 => ⟨S4x4x128, .f32⟩
  | 119 => ⟨S4x4x128, .f32⟩
  | 120 => ⟨S4x4x128, .f32⟩
  | 121 => ⟨S4x4x128, .f32⟩
  | 122 => ⟨S1x4x4x64x128, .f32⟩
  | 123 => ⟨S_, .i32⟩
  | 124 => ⟨S_, .i32⟩
  | 125 => ⟨S_, .i32⟩
  | 126 => ⟨S_, .i32⟩
  | 127 => ⟨S64x4x4x64x128, .f32⟩
  | _ => ⟨S16384x8192, .f32⟩

abbrev hbmTy0_2 (i : Nat) : BufTy := match i % 128 with
  | 0 => ⟨S_, .i32⟩
  | 1 => ⟨S_, .i32⟩
  | 2 => ⟨S4x64x64x4x128, .f32⟩
  | 3 => ⟨S4x4096x4x128, .f32⟩
  | 4 => ⟨S4x4096x8192, .f32⟩
  | 5 => ⟨S4x4096x512, .f32⟩
  | 6 => ⟨S4x4096x512, .f32⟩
  | 7 => ⟨S4x4096x8192, .f32⟩
  | 8 => ⟨S4x4096x512, .f32⟩
  | 9 => ⟨S4x4099x512, .f32⟩
  | 10 => ⟨S4x4096x512, .f32⟩
  | 11 => ⟨S1x512, .f32⟩
  | 12 => ⟨S512, .f32⟩
  | 13 => ⟨S1x1x512, .f32⟩
  | 14 => ⟨S4x4096x512, .f32⟩
  | 15 => ⟨S4x4096x512, .f32⟩
  | 16 => ⟨S1x1x512, .f32⟩
  | 17 => ⟨S4x4096x512, .f32⟩
  | 18 => ⟨S4x4096x512, .f32⟩
  | 19 => ⟨S4x4096x512, .f32⟩
  | 20 => ⟨S1x512, .f32⟩
  | 21 => ⟨S512, .f32⟩
  | 22 => ⟨S1x1x512, .f32⟩
  | 23 => ⟨S4x4096x512, .f32⟩
  | 24 => ⟨S4x4096x512, .f32⟩
  | 25 => ⟨S4x4096x512, .f32⟩
  | 26 => ⟨S4x4096x512, .f32⟩
  | 27 => ⟨S1x512, .f32⟩
  | 28 => ⟨S512, .f32⟩
  | 29 => ⟨S1x1x512, .f32⟩
  | 30 => ⟨S4x4096x512, .f32⟩
  | 31 => ⟨S4x4096x512, .f32⟩
  | 32 => ⟨S4x4096x512, .f32⟩
  | 33 => ⟨S4x4096x512, .f32⟩
  | 34 => ⟨S1x512, .f32⟩
  | 35 => ⟨S512, .f32⟩
  | 36 => ⟨S1x1x512, .f32⟩
  | 37 => ⟨S4x4096x512, .f32⟩
  | 38 => ⟨S4x4096x512, .f32⟩
  | 39 => ⟨S4x4096x512, .f32⟩
  | 40 => ⟨S4x4096x512, .f32⟩
  | 41 => ⟨S4x4096x512, .f32⟩
  | 42 => ⟨S_, .f32⟩
  | 43 => ⟨S4x4096x512, .f32⟩
  | 44 => ⟨S4x4096x512, .f32⟩
  | 45 => ⟨S_, .f32⟩
  | 46 => ⟨S4x4096x512, .f32⟩
  | 47 => ⟨S4x4096x512, .f32⟩
  | 48 => ⟨S4x4096x512, .f32⟩
  | 49 => ⟨S4x4096x512, .f32⟩
  | 50 => ⟨S4x4096x512, .f32⟩
  | 51 => ⟨S_, .f32⟩
  | 52 => ⟨S4x4096x512, .f32⟩
  | 53 => ⟨S4x4096x512, .f32⟩
  | 54 => ⟨S_, .f32⟩
  | 55 => ⟨S4x4096x512, .f32⟩
  | 56 => ⟨S4x4096x512, .f32⟩
  | 57 => ⟨S4x4096x4x128, .f32⟩
  | 58 => ⟨S4x4096x4x128, .f32⟩
  | 59 => ⟨S4x4096x4x128, .f32⟩
  | 60 => ⟨S_, .f32⟩
  | 61 => ⟨S4x4096x4, .f32⟩
  | 62 => ⟨S4x4096x4x1, .f32⟩
  | 63 => ⟨S_, .f32⟩
  | 64 => ⟨S4x4096x4x1, .f32⟩
  | 65 => ⟨S4x4096x4x1, .f32⟩
  | 66 => ⟨S_, .f32⟩
  | 67 => ⟨S4x4096x4x1, .f32⟩
  | 68 => ⟨S4x4096x4x1, .f32⟩
  | 69 => ⟨S4x4096x4x1, .f32⟩
  | 70 => ⟨S4x4096x4x128, .f32⟩
  | 71 => ⟨S4x4096x4x128, .f32⟩
  | 72 => ⟨S1x1x1x128, .f32⟩
  | 73 => ⟨S4x4096x4x128, .f32⟩
  | 74 => ⟨S4x4096x4x128, .f32⟩
  | 75 => ⟨S4x4096x512, .f32⟩
  | 76 => ⟨S1x1x512, .f32⟩
  | 77 => ⟨S4x4096x512, .f32⟩
  | 78 => ⟨S4x4096x512, .f32⟩
  | 79 => ⟨S4x4096x512, .f32⟩
  | 80 => ⟨S4x4096x512, .f32⟩
  | 81 => ⟨S4x4096x512, .f32⟩
  | 82 => ⟨S_, .f32⟩
  | 83 => ⟨S4x4096x512, .f32⟩
  | 84 => ⟨S4x4096x512, .f32⟩
  | 85 => ⟨S_, .f32⟩
  | 86 => ⟨S4x4096x512, .f32⟩
  | 87 => ⟨S4x4096x512, .f32⟩
  | 88 => ⟨S4x4096x512, .f32⟩
  | 89 => ⟨S4x4096x512, .f32⟩
  | 90 => ⟨S16384x512, .f32⟩
  | 91 => ⟨S4x4x1x128, .f32⟩
  | 92 => ⟨S4x4x1x1, .f32⟩
  | 93 => ⟨S4x4x1x128, .f32⟩
  | 94 => ⟨S4x8x512, .f32⟩
  | _ => ⟨S16384x8192, .f32⟩

abbrev hbmTy (i : Nat) : BufTy := match i / 128 with
  | 0 => hbmTy0_0 i
  | 1 => hbmTy0_1 i
  | 2 => hbmTy0_2 i
  | _ => ⟨S16384x8192, .f32⟩

abbrev bufTy : (tb : Table) → Fin (tcTables nBuf tb) → BufTy
  | .hbm, ⟨i, _⟩ => hbmTy i
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call1_v0 : Ref sig .tc := ⟨.hbm, 78, rfl⟩
abbrev main_call1_call0_cst : Ref sig .tc := ⟨.hbm, 79, rfl⟩
abbrev main_call1_call0_v0 : Ref sig .tc := ⟨.hbm, 80, rfl⟩
abbrev main_call1_call0_v1 : Ref sig .tc := ⟨.hbm, 81, rfl⟩
abbrev main_call1_call0_v2 : Ref sig .tc := ⟨.hbm, 82, rfl⟩
abbrev main_call1_call0_v3 : Ref sig .tc := ⟨.hbm, 83, rfl⟩
abbrev main_call1_call0_v4 : Ref sig .tc := ⟨.hbm, 84, rfl⟩
abbrev main_call1_call0_v5 : Ref sig .tc := ⟨.hbm, 85, rfl⟩
abbrev main_call1_call0_v6 : Ref sig .tc := ⟨.hbm, 86, rfl⟩
abbrev main_call1_call0_v7 : Ref sig .tc := ⟨.hbm, 87, rfl⟩
abbrev main_call1_call0_v8 : Ref sig .tc := ⟨.hbm, 88, rfl⟩
abbrev main_call1_call0_v9 : Ref sig .tc := ⟨.hbm, 89, rfl⟩
abbrev main_call1_call0_v10 : Ref sig .tc := ⟨.hbm, 90, rfl⟩
abbrev main_call1_call0_v11 : Ref sig .tc := ⟨.hbm, 91, rfl⟩
abbrev main_call1_v1 : Ref sig .tc := ⟨.hbm, 92, rfl⟩
abbrev main_v54 : Ref sig .tc := ⟨.hbm, 93, rfl⟩
abbrev main_c : Ref sig .tc := ⟨.hbm, 94, rfl⟩
abbrev main_v55 : Ref sig .tc := ⟨.hbm, 95, rfl⟩
abbrev main_call2_v0 : Ref sig .tc := ⟨.hbm, 96, rfl⟩
abbrev main_call2_c : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_c_0 : Ref sig .tc := ⟨.hbm, 102, rfl⟩
abbrev main_call2_v5 : Ref sig .tc := ⟨.hbm, 103, rfl⟩
abbrev main_v56 : Ref sig .tc := ⟨.hbm, 104, rfl⟩
abbrev main_c_0 : Ref sig .tc := ⟨.hbm, 105, rfl⟩
abbrev main_call3_v0 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_c_1 : Ref sig .tc := ⟨.hbm, 110, rfl⟩
abbrev main_call4_v0 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_c_2 : Ref sig .tc := ⟨.hbm, 115, rfl⟩
abbrev main_call5_v0 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_3 : Ref sig .tc := ⟨.hbm, 120, rfl⟩
abbrev main_call6_v0 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_cst_4 : Ref sig .tc := ⟨.hbm, 125, rfl⟩
abbrev main_call7_v0 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_cst_5 : Ref sig .tc := ⟨.hbm, 130, rfl⟩
abbrev main_v72 : Ref sig .tc := ⟨.hbm, 131, rfl⟩
abbrev main_c_6 : Ref sig .tc := ⟨.hbm, 132, rfl⟩
abbrev main_v73_0 : Ref sig .tc := ⟨.hbm, 133, rfl⟩
abbrev main_v73_1 : Ref sig .tc := ⟨.hbm, 134, rfl⟩
abbrev main_v73_2 : Ref sig .tc := ⟨.hbm, 135, rfl⟩
abbrev main_v73_3 : Ref sig .tc := ⟨.hbm, 136, rfl⟩
abbrev main_v73_4 : Ref sig .tc := ⟨.hbm, 137, rfl⟩
abbrev main_v73_5 : Ref sig .tc := ⟨.hbm, 138, rfl⟩
abbrev main_v73_6 : Ref sig .tc := ⟨.hbm, 139, rfl⟩
abbrev main_v73_7 : Ref sig .tc := ⟨.hbm, 140, rfl⟩
abbrev main_v73_8 : Ref sig .tc := ⟨.hbm, 141, rfl⟩
abbrev main_v73_9 : Ref sig .tc := ⟨.hbm, 142, rfl⟩
abbrev main_v73_10 : Ref sig .tc := ⟨.hbm, 143, rfl⟩
abbrev main_while0c_c_22 : Ref sig .tc := ⟨.hbm, 144, rfl⟩
abbrev main_while0c_v146 : Ref sig .tc := ⟨.hbm, 145, rfl⟩
abbrev main_while0b_call8_c : Ref sig .tc := ⟨.hbm, 146, rfl⟩
abbrev main_while0b_call8_c_0 : Ref sig .tc := ⟨.hbm, 147, rfl⟩
abbrev main_while0b_call8_c_1 : Ref sig .tc := ⟨.hbm, 148, rfl⟩
abbrev main_while0b_call8_c_2 : Ref sig .tc := ⟨.hbm, 149, rfl⟩
abbrev main_while0b_call8_v0 : Ref sig .tc := ⟨.hbm, 150, rfl⟩
abbrev main_while0b_v146 : Ref sig .tc := ⟨.hbm, 151, rfl⟩
abbrev main_while0b_call9_c : Ref sig .tc := ⟨.hbm, 152, rfl⟩
abbrev main_while0b_call9_c_0 : Ref sig .tc := ⟨.hbm, 153, rfl⟩
abbrev main_while0b_call9_c_1 : Ref sig .tc := ⟨.hbm, 154, rfl⟩
abbrev main_while0b_call9_c_2 : Ref sig .tc := ⟨.hbm, 155, rfl⟩
abbrev main_while0b_call9_v0 : Ref sig .tc := ⟨.hbm, 156, rfl⟩
abbrev main_while0b_v147 : Ref sig .tc := ⟨.hbm, 157, rfl⟩
abbrev main_while0b_call10_c : Ref sig .tc := ⟨.hbm, 158, rfl⟩
abbrev main_while0b_call10_c_0 : Ref sig .tc := ⟨.hbm, 159, rfl⟩
abbrev main_while0b_call10_c_1 : Ref sig .tc := ⟨.hbm, 160, rfl⟩
abbrev main_while0b_call10_c_2 : Ref sig .tc := ⟨.hbm, 161, rfl⟩
abbrev main_while0b_call10_v0 : Ref sig .tc := ⟨.hbm, 162, rfl⟩
abbrev main_while0b_v148 : Ref sig .tc := ⟨.hbm, 163, rfl⟩
abbrev main_while0b_call11_c : Ref sig .tc := ⟨.hbm, 164, rfl⟩
abbrev main_while0b_call11_c_0 : Ref sig .tc := ⟨.hbm, 165, rfl⟩
abbrev main_while0b_call11_c_1 : Ref sig .tc := ⟨.hbm, 166, rfl⟩
abbrev main_while0b_call11_v0 : Ref sig .tc := ⟨.hbm, 167, rfl⟩
abbrev main_while0b_v149 : Ref sig .tc := ⟨.hbm, 168, rfl⟩
abbrev main_while0b_call12_c : Ref sig .tc := ⟨.hbm, 169, rfl⟩
abbrev main_while0b_call12_c_0 : Ref sig .tc := ⟨.hbm, 170, rfl⟩
abbrev main_while0b_call12_c_1 : Ref sig .tc := ⟨.hbm, 171, rfl⟩
abbrev main_while0b_call12_v0 : Ref sig .tc := ⟨.hbm, 172, rfl⟩
abbrev main_while0b_v150 : Ref sig .tc := ⟨.hbm, 173, rfl⟩
abbrev main_while0b_call13_call0_cst : Ref sig .tc := ⟨.hbm, 174, rfl⟩
abbrev main_while0b_call13_call0_v0 : Ref sig .tc := ⟨.hbm, 175, rfl⟩
abbrev main_while0b_v151 : Ref sig .tc := ⟨.hbm, 176, rfl⟩
abbrev main_while0b_v152 : Ref sig .tc := ⟨.hbm, 177, rfl⟩
abbrev main_while0b_v153 : Ref sig .tc := ⟨.hbm, 178, rfl⟩
abbrev main_while0b_v154 : Ref sig .tc := ⟨.hbm, 179, rfl⟩
abbrev main_while0b_v155 : Ref sig .tc := ⟨.hbm, 180, rfl⟩
abbrev main_while0b_v156 : Ref sig .tc := ⟨.hbm, 181, rfl⟩
abbrev main_while0b_v157 : Ref sig .tc := ⟨.hbm, 182, rfl⟩
abbrev main_while0b_v158 : Ref sig .tc := ⟨.hbm, 183, rfl⟩
abbrev main_while0b_v159 : Ref sig .tc := ⟨.hbm, 184, rfl⟩
abbrev main_while0b_cst_22 : Ref sig .tc := ⟨.hbm, 185, rfl⟩
abbrev main_while0b_call14_v0 : Ref sig .tc := ⟨.hbm, 186, rfl⟩
abbrev main_while0b_call14_v1 : Ref sig .tc := ⟨.hbm, 187, rfl⟩
abbrev main_while0b_call14_v2 : Ref sig .tc := ⟨.hbm, 188, rfl⟩
abbrev main_while0b_v160 : Ref sig .tc := ⟨.hbm, 189, rfl⟩
abbrev main_while0b_v161 : Ref sig .tc := ⟨.hbm, 190, rfl⟩
abbrev main_while0b_v162 : Ref sig .tc := ⟨.hbm, 191, rfl⟩
abbrev main_while0b_v163 : Ref sig .tc := ⟨.hbm, 192, rfl⟩
abbrev main_while0b_cst_23 : Ref sig .tc := ⟨.hbm, 193, rfl⟩
abbrev main_while0b_v164 : Ref sig .tc := ⟨.hbm, 194, rfl⟩
abbrev main_while0b_v165 : Ref sig .tc := ⟨.hbm, 195, rfl⟩
abbrev main_while0b_v166 : Ref sig .tc := ⟨.hbm, 196, rfl⟩
abbrev main_while0b_v167 : Ref sig .tc := ⟨.hbm, 197, rfl⟩
abbrev main_while0b_v168 : Ref sig .tc := ⟨.hbm, 198, rfl⟩
abbrev main_while0b_v169 : Ref sig .tc := ⟨.hbm, 199, rfl⟩
abbrev main_while0b_v170 : Ref sig .tc := ⟨.hbm, 200, rfl⟩
abbrev main_while0b_v171 : Ref sig .tc := ⟨.hbm, 201, rfl⟩
abbrev main_while0b_v172 : Ref sig .tc := ⟨.hbm, 202, rfl⟩
abbrev main_while0b_v173 : Ref sig .tc := ⟨.hbm, 203, rfl⟩
abbrev main_while0b_v174 : Ref sig .tc := ⟨.hbm, 204, rfl⟩
abbrev main_while0b_v175 : Ref sig .tc := ⟨.hbm, 205, rfl⟩
abbrev main_while0b_v176 : Ref sig .tc := ⟨.hbm, 206, rfl⟩
abbrev main_while0b_v177 : Ref sig .tc := ⟨.hbm, 207, rfl⟩
abbrev main_while0b_v178 : Ref sig .tc := ⟨.hbm, 208, rfl⟩
abbrev main_while0b_v179 : Ref sig .tc := ⟨.hbm, 209, rfl⟩
abbrev main_while0b_cst_24 : Ref sig .tc := ⟨.hbm, 210, rfl⟩
abbrev main_while0b_v180 : Ref sig .tc := ⟨.hbm, 211, rfl⟩
abbrev main_while0b_v181 : Ref sig .tc := ⟨.hbm, 212, rfl⟩
abbrev main_while0b_v182 : Ref sig .tc := ⟨.hbm, 213, rfl⟩
abbrev main_while0b_v183 : Ref sig .tc := ⟨.hbm, 214, rfl⟩
abbrev main_while0b_v184 : Ref sig .tc := ⟨.hbm, 215, rfl⟩
abbrev main_while0b_v185 : Ref sig .tc := ⟨.hbm, 216, rfl⟩
abbrev main_while0b_v186 : Ref sig .tc := ⟨.hbm, 217, rfl⟩
abbrev main_while0b_v187 : Ref sig .tc := ⟨.hbm, 218, rfl⟩
abbrev main_while0b_v188 : Ref sig .tc := ⟨.hbm, 219, rfl⟩
abbrev main_while0b_v189 : Ref sig .tc := ⟨.hbm, 220, rfl⟩
abbrev main_while0b_v190 : Ref sig .tc := ⟨.hbm, 221, rfl⟩
abbrev main_while0b_v191 : Ref sig .tc := ⟨.hbm, 222, rfl⟩
abbrev main_while0b_v192 : Ref sig .tc := ⟨.hbm, 223, rfl⟩
abbrev main_while0b_v193 : Ref sig .tc := ⟨.hbm, 224, rfl⟩
abbrev main_while0b_v194 : Ref sig .tc := ⟨.hbm, 225, rfl⟩
abbrev main_while0b_v195 : Ref sig .tc := ⟨.hbm, 226, rfl⟩
abbrev main_while0b_v196 : Ref sig .tc := ⟨.hbm, 227, rfl⟩
abbrev main_while0b_v197 : Ref sig .tc := ⟨.hbm, 228, rfl⟩
abbrev main_while0b_v198 : Ref sig .tc := ⟨.hbm, 229, rfl⟩
abbrev main_while0b_v199 : Ref sig .tc := ⟨.hbm, 230, rfl⟩
abbrev main_while0b_v200 : Ref sig .tc := ⟨.hbm, 231, rfl⟩
abbrev main_while0b_v201 : Ref sig .tc := ⟨.hbm, 232, rfl⟩
abbrev main_while0b_v202 : Ref sig .tc := ⟨.hbm, 233, rfl⟩
abbrev main_while0b_v203 : Ref sig .tc := ⟨.hbm, 234, rfl⟩
abbrev main_while0b_v204 : Ref sig .tc := ⟨.hbm, 235, rfl⟩
abbrev main_while0b_v205 : Ref sig .tc := ⟨.hbm, 236, rfl⟩
abbrev main_while0b_v206 : Ref sig .tc := ⟨.hbm, 237, rfl⟩
abbrev main_while0b_v207 : Ref sig .tc := ⟨.hbm, 238, rfl⟩
abbrev main_while0b_v208 : Ref sig .tc := ⟨.hbm, 239, rfl⟩
abbrev main_while0b_v209 : Ref sig .tc := ⟨.hbm, 240, rfl⟩
abbrev main_while0b_v210 : Ref sig .tc := ⟨.hbm, 241, rfl⟩
abbrev main_while0b_v211 : Ref sig .tc := ⟨.hbm, 242, rfl⟩
abbrev main_while0b_v212 : Ref sig .tc := ⟨.hbm, 243, rfl⟩
abbrev main_while0b_v213 : Ref sig .tc := ⟨.hbm, 244, rfl⟩
abbrev main_while0b_v214 : Ref sig .tc := ⟨.hbm, 245, rfl⟩
abbrev main_while0b_v215 : Ref sig .tc := ⟨.hbm, 246, rfl⟩
abbrev main_while0b_v216 : Ref sig .tc := ⟨.hbm, 247, rfl⟩
abbrev main_while0b_v217 : Ref sig .tc := ⟨.hbm, 248, rfl⟩
abbrev main_while0b_v218 : Ref sig .tc := ⟨.hbm, 249, rfl⟩
abbrev main_while0b_call15_v0 : Ref sig .tc := ⟨.hbm, 250, rfl⟩
abbrev main_while0b_call15_c : Ref sig .tc := ⟨.hbm, 251, rfl⟩
abbrev main_while0b_call15_c_0 : Ref sig .tc := ⟨.hbm, 252, rfl⟩
abbrev main_while0b_call15_c_1 : Ref sig .tc := ⟨.hbm, 253, rfl⟩
abbrev main_while0b_call15_c_2 : Ref sig .tc := ⟨.hbm, 254, rfl⟩
abbrev main_while0b_v219 : Ref sig .tc := ⟨.hbm, 255, rfl⟩
abbrev main_while0b_c_25 : Ref sig .tc := ⟨.hbm, 256, rfl⟩
abbrev main_while0b_v220 : Ref sig .tc := ⟨.hbm, 257, rfl⟩
abbrev main_v74 : Ref sig .tc := ⟨.hbm, 258, rfl⟩
abbrev main_v75 : Ref sig .tc := ⟨.hbm, 259, rfl⟩
abbrev main_v76 : Ref sig .tc := ⟨.hbm, 260, rfl⟩
abbrev main_v77 : Ref sig .tc := ⟨.hbm, 261, rfl⟩
abbrev main_v78 : Ref sig .tc := ⟨.hbm, 262, rfl⟩
abbrev main_v79 : Ref sig .tc := ⟨.hbm, 263, rfl⟩
abbrev main_v80 : Ref sig .tc := ⟨.hbm, 264, rfl⟩
abbrev main_v81 : Ref sig .tc := ⟨.hbm, 265, rfl⟩
abbrev main_v82 : Ref sig .tc := ⟨.hbm, 266, rfl⟩
abbrev main_v83 : Ref sig .tc := ⟨.hbm, 267, rfl⟩
abbrev main_v84 : Ref sig .tc := ⟨.hbm, 268, rfl⟩
abbrev main_v85 : Ref sig .tc := ⟨.hbm, 269, rfl⟩
abbrev main_v86 : Ref sig .tc := ⟨.hbm, 270, rfl⟩
abbrev main_v87 : Ref sig .tc := ⟨.hbm, 271, rfl⟩
abbrev main_v88 : Ref sig .tc := ⟨.hbm, 272, rfl⟩
abbrev main_v89 : Ref sig .tc := ⟨.hbm, 273, rfl⟩
abbrev main_v90 : Ref sig .tc := ⟨.hbm, 274, rfl⟩
abbrev main_v91 : Ref sig .tc := ⟨.hbm, 275, rfl⟩
abbrev main_v92 : Ref sig .tc := ⟨.hbm, 276, rfl⟩
abbrev main_v93 : Ref sig .tc := ⟨.hbm, 277, rfl⟩
abbrev main_v94 : Ref sig .tc := ⟨.hbm, 278, rfl⟩
abbrev main_v95 : Ref sig .tc := ⟨.hbm, 279, rfl⟩
abbrev main_v96 : Ref sig .tc := ⟨.hbm, 280, rfl⟩
abbrev main_v97 : Ref sig .tc := ⟨.hbm, 281, rfl⟩
abbrev main_v98 : Ref sig .tc := ⟨.hbm, 282, rfl⟩
abbrev main_v99 : Ref sig .tc := ⟨.hbm, 283, rfl⟩
abbrev main_v100 : Ref sig .tc := ⟨.hbm, 284, rfl⟩
abbrev main_v101 : Ref sig .tc := ⟨.hbm, 285, rfl⟩
abbrev main_v102 : Ref sig .tc := ⟨.hbm, 286, rfl⟩
abbrev main_v103 : Ref sig .tc := ⟨.hbm, 287, rfl⟩
abbrev main_v104 : Ref sig .tc := ⟨.hbm, 288, rfl⟩
abbrev main_v105 : Ref sig .tc := ⟨.hbm, 289, rfl⟩
abbrev main_v106 : Ref sig .tc := ⟨.hbm, 290, rfl⟩
abbrev main_v107 : Ref sig .tc := ⟨.hbm, 291, rfl⟩
abbrev main_v108 : Ref sig .tc := ⟨.hbm, 292, rfl⟩
abbrev main_v109 : Ref sig .tc := ⟨.hbm, 293, rfl⟩
abbrev main_v110 : Ref sig .tc := ⟨.hbm, 294, rfl⟩
abbrev main_v111 : Ref sig .tc := ⟨.hbm, 295, rfl⟩
abbrev main_call16_v0 : Ref sig .tc := ⟨.hbm, 296, rfl⟩
abbrev main_call16_v1 : Ref sig .tc := ⟨.hbm, 297, rfl⟩
abbrev main_call16_cst : Ref sig .tc := ⟨.hbm, 298, rfl⟩
abbrev main_call16_v2 : Ref sig .tc := ⟨.hbm, 299, rfl⟩
abbrev main_call16_v3 : Ref sig .tc := ⟨.hbm, 300, rfl⟩
abbrev main_call16_cst_0 : Ref sig .tc := ⟨.hbm, 301, rfl⟩
abbrev main_call16_v4 : Ref sig .tc := ⟨.hbm, 302, rfl⟩
abbrev main_call16_v5 : Ref sig .tc := ⟨.hbm, 303, rfl⟩
abbrev main_v112 : Ref sig .tc := ⟨.hbm, 304, rfl⟩
abbrev main_v113 : Ref sig .tc := ⟨.hbm, 305, rfl⟩
abbrev main_v114 : Ref sig .tc := ⟨.hbm, 306, rfl⟩
abbrev main_cst_7 : Ref sig .tc := ⟨.hbm, 307, rfl⟩
abbrev main_v115 : Ref sig .tc := ⟨.hbm, 308, rfl⟩
abbrev main_v116 : Ref sig .tc := ⟨.hbm, 309, rfl⟩
abbrev main_cst_8 : Ref sig .tc := ⟨.hbm, 310, rfl⟩
abbrev main_v117 : Ref sig .tc := ⟨.hbm, 311, rfl⟩
abbrev main_v118 : Ref sig .tc := ⟨.hbm, 312, rfl⟩
abbrev main_v119 : Ref sig .tc := ⟨.hbm, 313, rfl⟩
abbrev main_v120 : Ref sig .tc := ⟨.hbm, 314, rfl⟩
abbrev main_v121 : Ref sig .tc := ⟨.hbm, 315, rfl⟩
abbrev main_cst_9 : Ref sig .tc := ⟨.hbm, 316, rfl⟩
abbrev main_v122 : Ref sig .tc := ⟨.hbm, 317, rfl⟩
abbrev main_v123 : Ref sig .tc := ⟨.hbm, 318, rfl⟩
abbrev main_cst_10 : Ref sig .tc := ⟨.hbm, 319, rfl⟩
abbrev main_v124 : Ref sig .tc := ⟨.hbm, 320, rfl⟩
abbrev main_v125 : Ref sig .tc := ⟨.hbm, 321, rfl⟩
abbrev main_cst_11 : Ref sig .tc := ⟨.hbm, 322, rfl⟩
abbrev main_v126 : Ref sig .tc := ⟨.hbm, 323, rfl⟩
abbrev main_v127 : Ref sig .tc := ⟨.hbm, 324, rfl⟩
abbrev main_v128 : Ref sig .tc := ⟨.hbm, 325, rfl⟩
abbrev main_v129 : Ref sig .tc := ⟨.hbm, 326, rfl⟩
abbrev main_v130 : Ref sig .tc := ⟨.hbm, 327, rfl⟩
abbrev main_v131 : Ref sig .tc := ⟨.hbm, 328, rfl⟩
abbrev main_v132 : Ref sig .tc := ⟨.hbm, 329, rfl⟩
abbrev main_v133 : Ref sig .tc := ⟨.hbm, 330, rfl⟩
abbrev main_v134 : Ref sig .tc := ⟨.hbm, 331, rfl⟩
abbrev main_v135 : Ref sig .tc := ⟨.hbm, 332, rfl⟩
abbrev main_v136 : Ref sig .tc := ⟨.hbm, 333, rfl⟩
abbrev main_v137 : Ref sig .tc := ⟨.hbm, 334, rfl⟩
abbrev main_v138 : Ref sig .tc := ⟨.hbm, 335, rfl⟩
abbrev main_call17_v0 : Ref sig .tc := ⟨.hbm, 336, rfl⟩
abbrev main_call17_v1 : Ref sig .tc := ⟨.hbm, 337, rfl⟩
abbrev main_call17_cst : Ref sig .tc := ⟨.hbm, 338, rfl⟩
abbrev main_call17_v2 : Ref sig .tc := ⟨.hbm, 339, rfl⟩
abbrev main_call17_v3 : Ref sig .tc := ⟨.hbm, 340, rfl⟩
abbrev main_call17_cst_0 : Ref sig .tc := ⟨.hbm, 341, rfl⟩
abbrev main_call17_v4 : Ref sig .tc := ⟨.hbm, 342, rfl⟩
abbrev main_call17_v5 : Ref sig .tc := ⟨.hbm, 343, rfl⟩
abbrev main_v139 : Ref sig .tc := ⟨.hbm, 344, rfl⟩
abbrev main_v140 : Ref sig .tc := ⟨.hbm, 345, rfl⟩
abbrev main_v141 : Ref sig .tc := ⟨.hbm, 346, rfl⟩
abbrev main_v142 : Ref sig .tc := ⟨.hbm, 347, rfl⟩
abbrev main_v143 : Ref sig .tc := ⟨.hbm, 348, rfl⟩
abbrev main_v144 : Ref sig .tc := ⟨.hbm, 349, rfl⟩
abbrev main_v145 : Ref sig .tc := ⟨.hbm, 350, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S16384x1024 : Shape := ⟨2, ![16384, 1024]⟩
abbrev S16384x512 : Shape := ⟨2, ![16384, 512]⟩
abbrev S16384x8192 : Shape := ⟨2, ![16384, 8192]⟩
abbrev S512x1024 : Shape := ⟨2, ![512, 1024]⟩
abbrev S1024x1024 : Shape := ⟨2, ![1024, 1024]⟩
abbrev S512x512 : Shape := ⟨2, ![512, 512]⟩

abbrev nBuf : Space → Nat
  | .hbm => 14
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x8192, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S512x1024, .bf16⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16384x1024 : Shape := ⟨2, ![16384, 1024]⟩
abbrev S16384x512 : Shape := ⟨2, ![16384, 512]⟩
abbrev S16384x8192 : Shape := ⟨2, ![16384, 8192]⟩
abbrev S512x1024 : Shape := ⟨2, ![512, 1024]⟩
abbrev S1024x1024 : Shape := ⟨2, ![1024, 1024]⟩
abbrev S16384x3072 : Shape := ⟨2, ![16384, 3072]⟩
abbrev S_ : Shape := ⟨0, ![]⟩
abbrev S16384x3x1024 : Shape := ⟨3, ![16384, 3, 1024]⟩
abbrev S16384x1x1024 : Shape := ⟨3, ![16384, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x8192, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x3072, .f32⟩
  | .hbm, ⟨13, _⟩ => ⟨S16384x3072, .f32⟩
  | .hbm, ⟨14, _⟩ => ⟨S16384x3072, .f32⟩
  | .hbm, ⟨15, _⟩ => ⟨S_, .f32⟩
  | .hbm, ⟨16, _⟩ => ⟨S16384x3072, .f32⟩
  | .hbm, ⟨17, _⟩ => ⟨S16384x3072, .f32⟩
  | .hbm, ⟨18, _⟩ => ⟨S_, .f32⟩
  | .hbm, ⟨19, _⟩ => ⟨S16384x3072, .f32⟩
  | .hbm, ⟨20, _⟩ => ⟨S16384x3072, .f32⟩
  | .hbm, ⟨21, _⟩ => ⟨S16384x3x1024, .f32⟩
  | .hbm, ⟨22, _⟩ => ⟨S16384x1x1024, .f32⟩
  | .hbm, ⟨23, _⟩ => ⟨S16384x1024, .f32⟩
  | .hbm, ⟨24, _⟩ => ⟨S16384x1024, .f32⟩
  | .hbm, ⟨25, _⟩ => ⟨S16384x1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x8216 : Shape := ⟨2, ![1024, 8216]⟩
abbrev S1024x256 : Shape := ⟨2, ![1024, 256]⟩
abbrev S1024x512 : Shape := ⟨2, ![1024, 512]⟩
abbrev S1024x3072 : Shape := ⟨2, ![1024, 3072]⟩
abbrev S1024x8192 : Shape := ⟨2, ![1024, 8192]⟩
abbrev S1024x16 : Shape := ⟨2, ![1024, 16]⟩
abbrev S1024x4 : Shape := ⟨2, ![1024, 4]⟩
abbrev S1024x24 : Shape := ⟨2, ![1024, 24]⟩
abbrev S_ : Shape := ⟨0, ![]⟩
abbrev S1024x128 : Shape := ⟨2, ![1024, 128]⟩
abbrev S1024x8 : Shape := ⟨2, ![1024, 8]⟩
abbrev S8x1024 : Shape := ⟨2, ![8, 1024]⟩
abbrev S1x1024 : Shape := ⟨2, ![1, 1024]⟩
abbrev S16384x8192 : Shape := ⟨2, ![16384, 8192]⟩
abbrev S16384x128 : Shape := ⟨2, ![16384, 128]⟩
abbrev S16x8x1024 : Shape := ⟨3, ![16, 8, 1024]⟩
abbrev S1024x1024 : Shape := ⟨2, ![1024, 1024]⟩
abbrev S1x8x1024 : Shape := ⟨3, ![1, 8, 1024]⟩
abbrev S1024x1 : Shape := ⟨2, ![1024, 1]⟩

abbrev nBuf : Space → Nat
  | .hbm => 34
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8216, .f32⟩
  | .hbm, ⟨3, _⟩ => ⟨S1024x256, .f32⟩
  | .hbm, ⟨4, _⟩ => ⟨S1024x256, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x3072, .f32⟩
  | .hbm, ⟨15, _⟩ => ⟨S1024x8192, .f32⟩
  | .hbm, ⟨16, _⟩ => ⟨S1024x8192, .bf16⟩
  | .hbm, ⟨17, _⟩ => ⟨S1024x16, .f32⟩
  | .hbm, ⟨18, _⟩ => ⟨S1024x4, .f32⟩
  | .hbm, ⟨19, _⟩ => ⟨S1024x4, .f32⟩
  | .hbm, ⟨20, _⟩ => ⟨S1024x24, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x128, .bf16⟩
  | .hbm, ⟨25, _⟩ => ⟨S1024x4, .f32⟩
  | .hbm, ⟨26, _⟩ => ⟨S1024x4, .f32⟩
  | .hbm, ⟨27, _⟩ => ⟨S1024x8, .f32⟩
  | .hbm, ⟨28, _⟩ => ⟨S8x1024, .f32⟩
  | .hbm, ⟨29, _⟩ => ⟨S8x1024, .bf16⟩
  | .hbm, ⟨30, _⟩ => ⟨S1x1024, .f32⟩
  | .hbm, ⟨31, _⟩ => ⟨S16384x8192, .f32⟩
  | .hbm, ⟨32, _⟩ => ⟨S16384x128, .f32⟩
  | .hbm, ⟨33, _⟩ => ⟨S16x8x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S8x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x128, .f32⟩
  | .local _ .vmem, ⟨10, _⟩ => ⟨S1024x128, .f32⟩
  | .local _ .vmem, ⟨11, _⟩ => ⟨S1x8x1024, .f32⟩
  | .local _ .vmem, ⟨12, _⟩ => ⟨S1x8x1024, .f32⟩
  | .local _ .vmem, ⟨13, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_call0_v0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26_0 : Ref sig .tc := ⟨.hbm, 31, rfl⟩
abbrev main_v26_1 : Ref sig .tc := ⟨.hbm, 32, rfl⟩
abbrev main_v26_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S16384x1024 : Shape := ⟨2, ![16384, 1024]⟩
abbrev S1024 : Shape := ⟨1, ![1024]⟩
abbrev S1024x8216 : Shape := ⟨2, ![1024, 8216]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8216 : Shape := ⟨2, ![16384, 8216]⟩
abbrev S16384x6144 : Shape := ⟨2, ![16384, 6144]⟩
abbrev S16384x8192 : Shape := ⟨2, ![16384, 8192]⟩
abbrev S16384x8 : Shape := ⟨2, ![16384, 8]⟩
abbrev S16384x16 : Shape := ⟨2, ![16384, 16]⟩
abbrev S16384x24 : Shape := ⟨2, ![16384, 24]⟩
abbrev S16384x128 : Shape := ⟨2, ![16384, 128]⟩
abbrev S16x1024x8 : Shape := ⟨3, ![16, 1024, 8]⟩
abbrev S16x8x1024 : Shape := ⟨3, ![16, 8, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8216, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x8216, .f32⟩
  | .hbm, ⟨20, _⟩ => ⟨S16384x1024, .f32⟩
  | .hbm, ⟨21, _⟩ => ⟨S16384x1024, .f32⟩
  | .hbm, ⟨22, _⟩ => ⟨S16384x6144, .f32⟩
  | .hbm, ⟨23, _⟩ => ⟨S16384x8192, .f32⟩
  | .hbm, ⟨24, _⟩ => ⟨S16384x8, .f32⟩
  | .hbm, ⟨25, _⟩ => ⟨S16384x16, .f32⟩
  | .hbm, ⟨26, _⟩ => ⟨S16384x24, .f32⟩
  | .hbm, ⟨27, _⟩ => ⟨S_, .i32⟩
  | .hbm, ⟨28, _⟩ => ⟨S_, .f32⟩
  | .hbm, ⟨29, _⟩ => ⟨S16384x128, .f32⟩
  | .hbm, ⟨30, _⟩ => ⟨S16x1024x8, .f32⟩
  | .hbm, ⟨31, _⟩ => ⟨S16x8x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Mlstm.Steps.lean ====
/- One head's step on one chunk of 64 tokens, as the kernel computes it: a function of the chunk's gates, queries, keys and
   values and of the state the chunk before left. The sixteen (chunk, head) groups of a grid point are this one function. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.WritesUnit

@[expose] public section

set_option maxRecDepth 16384

noncomputable section

namespace Cert.KernelIdeal.Mlstm

open Idealize.ShloMosaic Idealize.ShloMosaic.TcCoe Idealize.ShloMosaic.Tactic Cert.KernelIdeal Cert.KernelIdeal.Gen

variable {F : FTy → Type} [FloatOps F]

/-! ## Where the pieces of a block lie -/

theorem sliceRows : ∀ c : Fin 4, S256x128.Slices ![64 * c.val, 0] S64x128 := by decide
theorem sliceGateF : ∀ h : Fin 4, S64x128.Slices ![0, 20 + h.val] S64x1 := by decide
theorem sliceGateI : ∀ c h : Fin 4, S256x128.Slices ![64 * c.val, 16 + h.val] S64x1 := by decide
theorem sliceCols : ∀ c : Fin 4, S8x256.Slices ![0, 64 * c.val] S8x64 := by decide
theorem sliceRowF : ∀ h : Fin 4, S8x64.Slices ![4 + h.val, 0] S1x64 := by decide
theorem sliceRowI : ∀ c h : Fin 4, S8x256.Slices ![h.val, 64 * c.val] S1x64 := by decide
theorem sliceHead : ∀ h : Fin 4, S256x512.Slices ![0, 128 * h.val] S256x128 := by decide
theorem sliceTile : ∀ c h : Fin 4, S256x512.Slices ![64 * c.val, 128 * h.val] S64x128 := by decide
theorem inHead3 : ∀ h : Fin 4, ∀ a, (![h.val, 0, 0] : Fin 3 → ℕ) a + (![1, 128, 128] : Fin 3 → ℕ) a ≤ S4x128x128.size a := by decide
theorem inHead1 : ∀ h : Fin 4, ∀ a, (![h.val, 0, 0] : Fin 3 → ℕ) a + (![1, 1, 128] : Fin 3 → ℕ) a ≤ S4x1x128.size a := by decide
theorem inTile : ∀ c h : Fin 4, ∀ a, (![64 * c.val, 128 * h.val] : Fin 2 → ℕ) a + (![64, 128] : Fin 2 → ℕ) a ≤ S256x512.size a := by decide
theorem inSkip : ∀ h : Fin 4, ∀ a, (![0, 128 * h.val] : Fin 2 → ℕ) a + (![1, 128] : Fin 2 → ℕ) a ≤ S1x512.size a := by decide

/-- Head `h`'s tile of a `[4, 128, 128]` buffer, as it is loaded. -/
def tile3 {φ : EltTy} (X : Vec F S4x128x128 φ) (h : Fin 4) : Vec F S1x128x128 φ :=
  View.ld X (Rect.unit (s := S4x128x128) ![h.val, 0, 0] ![1, 128, 128] (inHead3 h))

/-- Head `h`'s row of a `[4, 1, 128]` buffer, as it is loaded. -/
def tile1 (X : Vec F S4x1x128 .f32) (h : Fin 4) : Vec F S1x1x128 .f32 :=
  View.ld X (Rect.unit (s := S4x1x128) ![h.val, 0, 0] ![1, 1, 128] (inHead1 h))

/-- The `64 x 128` tile of chunk `c` and head `h` of a `[256, 512]` block, as it is loaded. -/
def tile2 (X : Vec F S256x512 .f32) (c h : Fin 4) : Vec F S64x128 .f32 :=
  View.ld X (Rect.unit (s := S256x512) ![64 * c.val, 128 * h.val] ![64, 128] (inTile c h))

/-- Head `h`'s columns of the skip row, as they are loaded. -/
def tileS (X : Vec F S1x512 .f32) (h : Fin 4) : Vec F S1x128 .f32 :=
  View.ld X (Rect.unit (s := S1x512) ![0, 128 * h.val] ![1, 128] (inSkip h))

/-! ## The gates of a chunk -/

/-- The running sum of the log forget gate down a chunk's rows, head `h`, as a column. -/
def fCol (L : FVec F S256x128 .f32) (c h : Fin 4) : FVec F S64x1 .f32 :=
  extractStridedSlice S64x1 ![0, 20 + h.val]
    (matmul dot_S64x64_S64x128_S64x128_1_0_0_1_n_n (some .fp32) (k0_pay21 (F := F))
      (extractStridedSlice S64x128 ![64 * c.val, 0] L (sliceRows c)) (constant S64x128 .f32 0x00000000#32)) (sliceGateF h)

/-- The log input gate of head `h` on a chunk, as a column. -/
def iCol (A : FVec F S256x128 .f32) (c h : Fin 4) : FVec F S64x1 .f32 :=
  extractStridedSlice S64x1 ![64 * c.val, 16 + h.val] A (sliceGateI c h)

/-- The running sum of the log forget gate along a chunk, head `h`, as a row. -/
def fRow (G : FVec F S8x256 .f32) (c h : Fin 4) : FVec F S1x64 .f32 :=
  extractStridedSlice S1x64 ![4 + h.val, 0]
    (matmul dot_S8x64_S64x64_S8x64_1_0_0_1_n_n (some .fp32)
      (extractStridedSlice S8x64 ![0, 64 * c.val] G (sliceCols c)) (k0_pay22 (F := F)) (constant S8x64 .f32 0x00000000#32)) (sliceRowF h)

/-- The log input gate of head `h` on a chunk, as a row. -/
def iRow (G : FVec F S8x256 .f32) (c h : Fin 4) : FVec F S1x64 .f32 :=
  extractStridedSlice S1x64 ![h.val, 64 * c.val] G (sliceRowI c h)

/-! ## The queries, keys and values -/

/-- A block's rows of head `h` times that head's weights. -/
def proj (X : FVec F S256x512 .f32) (W : Vec F S4x128x128 .bf16) (h : Fin 4) : FVec F S256x128 .f32 :=
  matmul dot_S256x128_S128x128_S256x128_1_0_0_1_n_n none
    (truncf .bf16 (extractStridedSlice S256x128 ![0, 128 * h.val] X (sliceHead h)) bitsLt_bf16_f32)
    (shapeCast S128x128 (tile3 W h) shapeCasts_S1x128x128_S128x128) (constant S256x128 .f32 0x00000000#32)

/-- A chunk's rows of a `[256, 128]` block. -/
def rows (X : FVec F S256x128 .f32) (c : Fin 4) : FVec F S64x128 .f32 :=
  extractStridedSlice S64x128 ![64 * c.val, 0] X (sliceRows c)

/-- The keys: the projection times the scale. -/
def keys (X : FVec F S256x512 .f32) (W : Vec F S4x128x128 .bf16) (h : Fin 4) : FVec F S256x128 .f32 :=
  mulf (proj X W h) (broadcast S256x128 (Scalar.ofBits .f32 0x3DB504F3#32))

/-! ## One step -/

/-- The exponents of the decay between two tokens of the chunk. -/
def expo (fc : FVec F S64x1 .f32) (fr ir : FVec F S1x64 .f32) : FVec F S64x64 .f32 :=
  select k0_pay20
    (addf (subf (broadcastTo S64x64 fc broadcasts_S64x1_S64x64) (broadcastTo S64x64 fr broadcasts_S1x64_S64x64))
      (broadcastTo S64x64 ir broadcasts_S1x64_S64x64))
    (broadcast S64x64 (Scalar.ofBits .f32 0xF149F2CA#32))

/-- The exponent of the decay of the state carried in. -/
def lin (fc : FVec F S64x1 .f32) (m : Vec F S1x1x128 .f32) : FVec F S64x1 .f32 :=
  addf fc (broadcastTo S64x1 (k0_pay43 m) broadcasts_S1x1_S64x1)

/-- The stabiliser of every token of the chunk. -/
def stab (fc : FVec F S64x1 .f32) (fr ir : FVec F S1x64 .f32) (m : Vec F S1x1x128 .f32) : FVec F S64x1 .f32 :=
  maximumf (lin fc m)
    (shapeCast S64x1 (multiReduction .maximumf [1] S64 (expo fc fr ir) 0xFF800000#32 reduces_S64x64_S64 (.inl rfl) rfl)
      shapeCasts_S64_S64x1)

/-- The stabiliser the step leaves. -/
def newM (fc : FVec F S64x1 .f32) (fr ir : FVec F S1x64 .f32) (m : Vec F S1x1x128 .f32) : Vec F S1x1x128 .f32 :=
  k0_pay62 (k0_pay55 (stab fc fr ir m))

/-- The matrix state the step leaves. -/
def newC (fc ic : FVec F S64x1 .f32) (fr ir : FVec F S1x64 .f32) (k v : FVec F S64x128 .f32) (m : Vec F S1x1x128 .f32)
    (C : Vec F S1x128x128 .f32) : Vec F S1x128x128 .f32 :=
  k0_pay60 (k0_pay59 fc ic (k0_pay43 m) k v (k0_pay47 C) (stab fc fr ir m))

/-- The normaliser the step leaves. -/
def newN (fc ic : FVec F S64x1 .f32) (fr ir : FVec F S1x64 .f32) (k : FVec F S64x128 .f32) (m N : Vec F S1x1x128 .f32) :
    Vec F S1x1x128 .f32 :=
  k0_pay61 k (k0_pay48 N) (k0_pay57 fc ic (stab fc fr ir m)) (k0_pay58 fc (k0_pay43 m) (stab fc fr ir m))

/-- What the step reads out. -/
def readout (fc : FVec F S64x1 .f32) (fr ir : FVec F S1x64 .f32) (q k v : FVec F S64x128 .f32) (m N : Vec F S1x1x128 .f32)
    (C : Vec F S1x128x128 .f32) : FVec F S64x128 .f32 :=
  k0_pay54 q k v (k0_pay47 C) (k0_pay48 N) (lin fc m) (stab fc fr ir m)
    (subf (expo fc fr ir) (broadcastTo S64x64 (stab fc fr ir m) broadcasts_S64x1_S64x64))

/-- The output gate, the norm, the skip and the last gate, of what the step reads out. -/
def finish (r : FVec F S64x128 .f32) (og : Vec F S64x128 .f32) (nrm sk : Vec F S1x128 .f32) (mc : FVec F S64x128 .f32)
    (z : Vec F S64x128 .f32) : FVec F S64x128 .f32 :=
  mulf (addf (k0_pay63 r og nrm) (mulf (broadcastTo S64x128 (shapeCast S1x128 sk shapeCasts_S1x128_S1x128) broadcasts_S1x128_S64x128) mc))
    (mulf z (divf (broadcast S64x128 (Scalar.ofBits .f32 0x3F800000#32))
      (addf (broadcast S64x128 (Scalar.ofBits .f32 0x3F800000#32))
        (exp (subf (broadcast S64x128 (Scalar.ofBits .f32 0x00000000#32)) z)))))

/-! ## The four chunks of a block -/

/-- The gates as columns of a block: log input gate, and log forget gate. -/
def gateI (x3 : Vec F S256x128 .f32) (x10 : Vec F S1x128 .f32) : FVec F S256x128 .f32 := k0_pay13 x3 x10
@[inherit_doc gateI]
def gateF (x3 : Vec F S256x128 .f32) (x10 : Vec F S1x128 .f32) : FVec F S256x128 .f32 := k0_pay14 x3 x10
/-- The gates as rows. -/
def gateT (x4 : Vec F S1x8x256 .f32) (x11 : Vec F S8x1 .f32) : FVec F S8x256 .f32 :=
  k0_pay19 (k0_pay15 x4 x11) k0_pay16 (k0_pay17 x4 x11) (k0_pay18 x4 x11) (FloatOps.ofBits FTy.f32 0#32)

/-- The stabiliser of head `h` before chunk `n` of a block. -/
def mSt (L : FVec F S256x128 .f32) (G : FVec F S8x256 .f32) (m : Vec F S4x1x128 .f32) (h : Fin 4) : ℕ → Vec F S1x1x128 .f32
  | 0 => tile1 m h
  | n + 1 => newM (fCol L (Fin.ofNat 4 n) h) (fRow G (Fin.ofNat 4 n) h) (iRow G (Fin.ofNat 4 n) h) (mSt L G m h n)

/-- The matrix state of head `h` before chunk `n` of a block. -/
def cSt (A L : FVec F S256x128 .f32) (G : FVec F S8x256 .f32) (K V : FVec F S256x128 .f32) (m : Vec F S4x1x128 .f32)
    (C : Vec F S4x128x128 .f32) (h : Fin 4) : ℕ → Vec F S1x128x128 .f32
  | 0 => tile3 C h
  | n + 1 => newC (fCol L (Fin.ofNat 4 n) h) (iCol A (Fin.ofNat 4 n) h) (fRow G (Fin.ofNat 4 n) h) (iRow G (Fin.ofNat 4 n) h)
      (rows K (Fin.ofNat 4 n)) (rows V (Fin.ofNat 4 n)) (mSt L G m h n) (cSt A L G K V m C h n)

/-- The normaliser of head `h` before chunk `n` of a block. -/
def nSt (A L : FVec F S256x128 .f32) (G : FVec F S8x256 .f32) (K : FVec F S256x128 .f32) (m N : Vec F S4x1x128 .f32) (h : Fin 4) :
    ℕ → Vec F S1x1x128 .f32
  | 0 => tile1 N h
  | n + 1 => newN (fCol L (Fin.ofNat 4 n) h) (iCol A (Fin.ofNat 4 n) h) (fRow G (Fin.ofNat 4 n) h) (iRow G (Fin.ofNat 4 n) h)
      (rows K (Fin.ofNat 4 n)) (mSt L G m h n) (nSt A L G K m N h n)

/-- The result's tile of chunk `c` and head `h`. -/
def outT (A L : FVec F S256x128 .f32) (G : FVec F S8x256 .f32) (Q K V : FVec F S256x128 .f32) (m N : Vec F S4x1x128 .f32)
    (C : Vec F S4x128x128 .f32) (og z : Vec F S256x512 .f32) (nrm : Vec F S1x128 .f32) (sk : Vec F S1x512 .f32)
    (mc : FVec F S256x512 .f32) (c h : Fin 4) : FVec F S64x128 .f32 :=
  finish (readout (fCol L c h) (fRow G c h) (iRow G c h) (rows Q c) (rows K c) (rows V c) (mSt L G m h c.val)
      (nSt A L G K m N h c.val) (cSt A L G K V m C h c.val)) (tile2 og c h) nrm (tileS sk h)
    (extractStridedSlice S64x128 ![64 * c.val, 128 * h.val] mc (sliceTile c h)) (tile2 z c h)

/-! ## The convolution's window -/

theorem inWin : ∀ j : Fin 4, ∀ a, (![5 + j.val, 0] : Fin 2 → ℕ) a + (![256, 512] : Fin 2 → ℕ) a ≤ S264x512.size a := by decide
theorem inTap : ∀ j : Fin 4, ∀ a, (![j.val, 0] : Fin 2 → ℕ) a + (![1, 512] : Fin 2 → ℕ) a ≤ S4x512.size a := by decide
theorem inTail : ∀ a, (![0, 0] : Fin 2 → ℕ) a + (![8, 512] : Fin 2 → ℕ) a ≤ S264x512.size a := by decide
theorem inLast : ∀ a, (![248, 0] : Fin 2 → ℕ) a + (![8, 512] : Fin 2 → ℕ) a ≤ S256x512.size a := by decide
theorem inBody : ∀ a, (![8, 0] : Fin 2 → ℕ) a + (![256, 512] : Fin 2 → ℕ) a ≤ S264x512.size a := by decide

/-- The eight rows before a block, and the block's rows. -/
def window (p : Vec F S8x512 .f32) (x : Vec F S256x512 .f32) : Vec F S264x512 .f32 := fun y =>
  if h : (y 0).val < 8 then p (ix2 ⟨(y 0).val, h⟩ (y 1))
  else x (ix2 ⟨(y 0).val - 8, by have := (y 0).isLt; change _ < 264 at this; omega⟩ (y 1))

/-- One tap's rows. -/
def win (p : Vec F S8x512 .f32) (x : Vec F S256x512 .f32) (j : Fin 4) : Vec F S256x512 .f32 :=
  View.ld (window p x) (Rect.unit (s := S264x512) ![5 + j.val, 0] ![256, 512] (inWin j))

/-- One tap's weights. -/
def tap (w : Vec F S4x512 .f32) (j : Fin 4) : Vec F S1x512 .f32 :=
  View.ld w (Rect.unit (s := S4x512) ![j.val, 0] ![1, 512] (inTap j))

/-- The block after the convolution and its gate. -/
def conved (p : Vec F S8x512 .f32) (x : Vec F S256x512 .f32) (w : Vec F S4x512 .f32) (b : Vec F S1x512 .f32) : FVec F S256x512 .f32 :=
  k0_pay12 (k0_pay10 b (win p x 0) (tap w 0) (win p x 1) (tap w 1) (win p x 2) (tap w 2) x (tap w 3))

/-- The rows a block leaves to the next one. -/
def tailOf (x : Vec F S256x512 .f32) : Vec F S8x512 .f32 :=
  View.ld x (Rect.unit (s := S256x512) ![248, 0] ![8, 512] inLast)

/-- The rows the block before has left. -/
def kept (X : Vec F S264x512 .f32) : Vec F S8x512 .f32 := View.ld X (Rect.unit (s := S264x512) ![0, 0] ![8, 512] inTail)

theorem fold_conved (p : Vec F S8x512 .f32) (x : Vec F S256x512 .f32) (w : Vec F S4x512 .f32) (b : Vec F S1x512 .f32)
    (i5 i6 i7 j0 j1 j2 j3) :
    k0_pay12 (k0_pay10 b (View.ld (window p x) (Rect.unit (s := S264x512) ![5, 0] ![256, 512] i5))
      (View.ld w (Rect.unit (s := S4x512) ![0, 0] ![1, 512] j0))
      (View.ld (window p x) (Rect.unit (s := S264x512) ![6, 0] ![256, 512] i6)) (View.ld w (Rect.unit (s := S4x512) ![1, 0] ![1, 512] j1))
      (View.ld (window p x) (Rect.unit (s := S264x512) ![7, 0] ![256, 512] i7)) (View.ld w (Rect.unit (s := S4x512) ![2, 0] ![1, 512] j2))
      x (View.ld w (Rect.unit (s := S4x512) ![3, 0] ![1, 512] j3))) = conved p x w b := rfl

theorem read_body {v : View sig .tc .vmem S264x512 .f32} (f : v.ty.Contents (Elt F)) (x : Vec F S256x512 .f32) (inb) :
    View.read (Elt F) v (v.writes (Elt F) f [⟨Rect.unit (s := S264x512) ![8, 0] ![256, 512] inb, x⟩])
      = window (kept (View.read (Elt F) v f)) x := by
  funext y
  have h0 : (y 0).val < 264 := (y 0).isLt
  rw [View.read_writes_cons_rows v f (o := 8) (W := 256) inb x [] y rfl rfl rfl]
  unfold window
  by_cases h : (y 0).val < 8
  · rw [dif_neg (by omega), dif_pos h]
    refine congrArg (View.read (Elt F) v f) (funext fun a => Fin.ext ?_)
    rw [Rect.idx_unit_val]
    fin_cases a <;> exact (Nat.zero_add _).symm
  · rw [dif_pos (by omega), dif_neg h]
    refine congrArg x (funext fun a => Fin.ext ?_)
    fin_cases a <;> rfl

theorem canon_body (p : Vec F S8x512 .f32) (x : Vec F S256x512 .f32) (inb inb') (L : List (View.Piece (Elt F) S264x512 .f32)) :
    View.canon (⟨Rect.unit (s := S264x512) ![8, 0] ![256, 512] inb, x⟩ :: ⟨Rect.unit (s := S264x512) ![0, 0] ![8, 512] inb', p⟩ :: L)
      = window p x := by
  funext y
  refine View.canon_append_of_piecesOf (window p x) L [_, _] ⟨fun z => ?_, fun z => ?_, trivial⟩ y ?_
  · have h0 : ((Rect.unit (s := S264x512) ![8, 0] ![256, 512] inb).emb z 0).val = 8 + (z 0).val := Rect.idx_unit_val _ _ inb z 0
    have h1 : ((Rect.unit (s := S264x512) ![8, 0] ![256, 512] inb).emb z 1).val = 0 + (z 1).val := Rect.idx_unit_val _ _ inb z 1
    show x z = window p x ((Rect.unit (s := S264x512) ![8, 0] ![256, 512] inb).emb z)
    generalize (Rect.unit (s := S264x512) ![8, 0] ![256, 512] inb).emb z = w at h0 h1 ⊢
    unfold window
    rw [dif_neg (by omega)]
    refine congrArg x (funext fun a => Fin.ext ?_)
    fin_cases a
    · show (z 0).val = (w 0).val - 8; omega
    · show (z 1).val = (w 1).val; omega
  · have h0 : ((Rect.unit (s := S264x512) ![0, 0] ![8, 512] inb').emb z 0).val = 0 + (z 0).val := Rect.idx_unit_val _ _ inb' z 0
    have h1 : ((Rect.unit (s := S264x512) ![0, 0] ![8, 512] inb').emb z 1).val = 0 + (z 1).val := Rect.idx_unit_val _ _ inb' z 1
    have hz : (z 0).val < 8 := (z 0).isLt
    show p z = window p x ((Rect.unit (s := S264x512) ![0, 0] ![8, 512] inb').emb z)
    generalize (Rect.unit (s := S264x512) ![0, 0] ![8, 512] inb').emb z = w at h0 h1 ⊢
    unfold window
    rw [dif_pos (by omega)]
    refine congrArg p (funext fun a => Fin.ext ?_)
    fin_cases a
    · show (z 0).val = (w 0).val; omega
    · show (z 1).val = (w 1).val; omega
  · have hy0 : (y 0).val < 264 := (y 0).isLt
    have hy1 : (y 1).val < 512 := (y 1).isLt
    by_cases h : (y 0).val < 8
    · refine ⟨_, List.mem_cons_of_mem _ (List.mem_cons_self ..), (LoadRect.mem_set _).2 fun a => ?_⟩
      fin_cases a
      · exact ⟨(y 0).val, h, by show (y 0).val = 0 + 1 * (y 0).val; omega⟩
      · exact ⟨(y 1).val, hy1, by show (y 1).val = 0 + 1 * (y 1).val; omega⟩
    · refine ⟨_, List.mem_cons_self .., (LoadRect.mem_set _).2 fun a => ?_⟩
      fin_cases a
      · exact ⟨(y 0).val - 8, by show _ < 256; omega, by show (y 0).val = 8 + 1 * ((y 0).val - 8); omega⟩
      · exact ⟨(y 1).val, hy1, by show (y 1).val = 0 + 1 * (y 1).val; omega⟩

theorem cov_body {v : View sig .tc .vmem S264x512 .f32} (p : Vec F S8x512 .f32) (x : Vec F S256x512 .f32) (inb inb' j inb'') :
    v.readCov (Val := Elt F) [⟨Rect.unit (s := S264x512) ![8, 0] ![256, 512] inb, x⟩, ⟨Rect.unit (s := S264x512) ![0, 0] ![8, 512] inb', p⟩]
        (Rect.unit (s := S264x512) ![j, 0] ![256, 512] inb'').toLoadRect
      = View.ld (window p x) (Rect.unit (s := S264x512) ![j, 0] ![256, 512] inb'') := by
  rw [View.readCov_eq_canon']
  exact congrArg (fun X => View.ld X (Rect.unit (s := S264x512) ![j, 0] ![256, 512] inb'')) (canon_body p x inb inb' [])

theorem cov_tail {v : View sig .tc .vmem S264x512 .f32} (x : Vec F S256x512 .f32) (L inb inb') :
    v.readCov (Val := Elt F) (⟨Rect.unit (s := S264x512) ![8, 0] ![256, 512] inb, x⟩ :: L)
        (Rect.unit (s := S264x512) ![256, 0] ![8, 512] inb').toLoadRect = tailOf x := by
  rw [View.readCov_eq_canon']
  funext z
  have e : (Rect.unit (s := S264x512) ![256, 0] ![8, 512] inb').toLoadRect.idx z
      = (Rect.unit (s := S264x512) ![8, 0] ![256, 512] inb).emb ((Rect.unit (s := S256x512) ![248, 0] ![8, 512] inLast).idx z) := by
    refine funext fun a => Fin.ext ?_
    refine (Rect.idx_unit_val _ _ inb' z a).trans ?_
    refine Eq.trans ?_ (Rect.idx_unit_val _ _ inb _ a).symm
    rw [Rect.idx_unit_val]
    fin_cases a
    · show 256 + (z 0).val = 8 + (248 + (z 0).val); omega
    · show 0 + (z 1).val = 0 + (0 + (z 1).val); omega
  exact (congrArg (View.canon _) e).trans (View.canon_cons_emb (Rect.unit (s := S264x512) ![8, 0] ![256, 512] inb) x L _)

theorem kept_canon (p : Vec F S8x512 .f32) (X : Vec F S264x512 .f32)
    (h : ∀ z, X ((Rect.unit (s := S264x512) ![0, 0] ![8, 512] inTail).emb z) = p z) : kept X = p :=
  funext h

/-! ## The heads together -/

/-- The four heads' rows together. -/
def glue1 (f : Fin 4 → Vec F S1x1x128 .f32) : Vec F S4x1x128 .f32 := fun y => f (y 0) (ix3 0 (y 1) (y 2))

/-- The four heads' tiles together. -/
def glue3 (f : Fin 4 → Vec F S1x128x128 .f32) : Vec F S4x128x128 .f32 := fun y => f (y 0) (ix3 0 (y 1) (y 2))

/-- The sixteen tiles of a block of the result together. -/
def glue2 (f : Fin 4 → Fin 4 → Vec F S64x128 .f32) : Vec F S256x512 .f32 := fun y =>
  f ⟨(y 0).val / 64, by have := (y 0).isLt; change _ < 256 at this; omega⟩
    ⟨(y 1).val / 128, by have := (y 1).isLt; change _ < 512 at this; omega⟩
    (ix2 ⟨(y 0).val % 64, Nat.mod_lt _ (by decide)⟩ ⟨(y 1).val % 128, Nat.mod_lt _ (by decide)⟩)

/-- One head's store of its row. -/
def piece1 (p : Fin 4 → Vec F S1x1x128 .f32) (h : Fin 4) : View.Piece (Elt F) S4x1x128 .f32 :=
  ⟨Rect.unit (s := S4x1x128) ![h.val, 0, 0] ![1, 1, 128] (inHead1 h), p h⟩

/-- One head's store of its tile. -/
def piece3 (p : Fin 4 → Vec F S1x128x128 .f32) (h : Fin 4) : View.Piece (Elt F) S4x128x128 .f32 :=
  ⟨Rect.unit (s := S4x128x128) ![h.val, 0, 0] ![1, 128, 128] (inHead3 h), p h⟩

/-- One chunk's and head's store of its tile of the result. -/
def piece2 (p : Fin 4 → Fin 4 → Vec F S64x128 .f32) (c h : Fin 4) : View.Piece (Elt F) S256x512 .f32 :=
  ⟨Rect.unit (s := S256x512) ![64 * c.val, 128 * h.val] ![64, 128] (inTile c h), p c h⟩

theorem piece1_eq (p : Fin 4 → Vec F S1x1x128 .f32) (h : Fin 4) (x : (piece1 p h).1.shape.Idx) :
    (piece1 p h).2 x = glue1 p ((piece1 p h).1.emb x) := by
  have hx : (x 0).val < 1 := (x 0).isLt
  have hx1 : (x 1).val < 1 := (x 1).isLt
  have e (a) : ((piece1 p h).1.emb x a).val = (![h.val, 0, 0] : Fin 3 → ℕ) a + (x a).val := Rect.idx_unit_val _ _ (inHead1 h) x a
  have e0 : (piece1 p h).1.emb x 0 = h := Fin.ext ((e 0).trans (by show h.val + (x 0).val = h.val; omega))
  show p h x = p ((piece1 p h).1.emb x 0) _
  rw [e0]
  refine congrArg (p h) (funext fun a => Fin.ext ?_)
  fin_cases a
  · show (x 0).val = 0; omega
  · exact ((e 1).trans (Nat.zero_add _)).symm
  · exact ((e 2).trans (Nat.zero_add _)).symm

theorem canon_glue1 (p : Fin 4 → Vec F S1x1x128 .f32) (L : List (View.Piece (Elt F) S4x1x128 .f32)) :
    View.canon ([piece1 p 3, piece1 p 2, piece1 p 1, piece1 p 0] ++ L) = glue1 p := by
  funext y
  refine View.canon_append_of_piecesOf (glue1 p) L [_, _, _, _]
    ⟨piece1_eq p 3, piece1_eq p 2, piece1_eq p 1, piece1_eq p 0, trivial⟩ y ⟨piece1 p (y 0), ?_, ?_⟩
  · generalize (y 0 : Fin 4) = h
    fin_cases h <;> simp
  · refine (LoadRect.mem_set _).2 fun a => ?_
    fin_cases a
    · exact ⟨0, Nat.one_pos, rfl⟩
    · exact ⟨(y 1).val, (y 1).isLt, by show (y 1).val = 0 + 1 * (y 1).val; omega⟩
    · exact ⟨(y 2).val, (y 2).isLt, by show (y 2).val = 0 + 1 * (y 2).val; omega⟩

theorem piece3_eq (p : Fin 4 → Vec F S1x128x128 .f32) (h : Fin 4) (x : (piece3 p h).1.shape.Idx) :
    (piece3 p h).2 x = glue3 p ((piece3 p h).1.emb x) := by
  have hx : (x 0).val < 1 := (x 0).isLt
  have e (a) : ((piece3 p h).1.emb x a).val = (![h.val, 0, 0] : Fin 3 → ℕ) a + (x a).val := Rect.idx_unit_val _ _ (inHead3 h) x a
  have e0 : (piece3 p h).1.emb x 0 = h := Fin.ext ((e 0).trans (by show h.val + (x 0).val = h.val; omega))
  show p h x = p ((piece3 p h).1.emb x 0) _
  rw [e0]
  refine congrArg (p h) (funext fun a => Fin.ext ?_)
  fin_cases a
  · show (x 0).val = 0; omega
  · exact ((e 1).trans (Nat.zero_add _)).symm
  · exact ((e 2).trans (Nat.zero_add _)).symm

theorem canon_glue3 (p : Fin 4 → Vec F S1x128x128 .f32) (L : List (View.Piece (Elt F) S4x128x128 .f32)) :
    View.canon ([piece3 p 3, piece3 p 2, piece3 p 1, piece3 p 0] ++ L) = glue3 p := by
  funext y
  refine View.canon_append_of_piecesOf (glue3 p) L [_, _, _, _]
    ⟨piece3_eq p 3, piece3_eq p 2, piece3_eq p 1, piece3_eq p 0, trivial⟩ y ⟨piece3 p (y 0), ?_, ?_⟩
  · generalize (y 0 : Fin 4) = h
    fin_cases h <;> simp
  · refine (LoadRect.mem_set _).2 fun a => ?_
    fin_cases a
    · exact ⟨0, Nat.one_pos, rfl⟩
    · exact ⟨(y 1).val, (y 1).isLt, by show (y 1).val = 0 + 1 * (y 1).val; omega⟩
    · exact ⟨(y 2).val, (y 2).isLt, by show (y 2).val = 0 + 1 * (y 2).val; omega⟩

theorem piece2_eq (p : Fin 4 → Fin 4 → Vec F S64x128 .f32) (c h : Fin 4) (x : (piece2 p c h).1.shape.Idx) :
    (piece2 p c h).2 x = glue2 p ((piece2 p c h).1.emb x) := by
  have hx : (x 0).val < 64 := (x 0).isLt
  have hx1 : (x 1).val < 128 := (x 1).isLt
  have e0 : ((piece2 p c h).1.emb x 0).val = 64 * c.val + (x 0).val := Rect.idx_unit_val _ _ (inTile c h) x 0
  have e1 : ((piece2 p c h).1.emb x 1).val = 128 * h.val + (x 1).val := Rect.idx_unit_val _ _ (inTile c h) x 1
  show p c h x = glue2 p _
  unfold glue2
  generalize (piece2 p c h).1.emb x = y at e0 e1
  have c0 : (⟨(y 0).val / 64, by have := (y 0).isLt; change _ < 256 at this; omega⟩ : Fin 4) = c := Fin.ext (by show _ / 64 = _; omega)
  have c1 : (⟨(y 1).val / 128, by have := (y 1).isLt; change _ < 512 at this; omega⟩ : Fin 4) = h := Fin.ext (by show _ / 128 = _; omega)
  rw [c0, c1]
  refine congrArg (p c h) (funext fun a => Fin.ext ?_)
  fin_cases a
  · show (x 0).val = (y 0).val % 64; omega
  · show (x 1).val = (y 1).val % 128; omega

theorem canon_glue2 (p : Fin 4 → Fin 4 → Vec F S64x128 .f32) :
    View.canon [piece2 p 3 3, piece2 p 3 2, piece2 p 3 1, piece2 p 3 0, piece2 p 2 3, piece2 p 2 2, piece2 p 2 1, piece2 p 2 0,
      piece2 p 1 3, piece2 p 1 2, piece2 p 1 1, piece2 p 1 0, piece2 p 0 3, piece2 p 0 2, piece2 p 0 1, piece2 p 0 0] = glue2 p := by
  funext y
  have h0 : (y 0).val < 256 := (y 0).isLt
  have h1 : (y 1).val < 512 := (y 1).isLt
  refine View.canon_append_of_piecesOf (glue2 p) [] [_, _, _, _, _, _, _, _, _, _, _, _, _, _, _, _]
    ⟨piece2_eq p 3 3, piece2_eq p 3 2, piece2_eq p 3 1, piece2_eq p 3 0, piece2_eq p 2 3, piece2_eq p 2 2, piece2_eq p 2 1,
      piece2_eq p 2 0, piece2_eq p 1 3, piece2_eq p 1 2, piece2_eq p 1 1, piece2_eq p 1 0, piece2_eq p 0 3, piece2_eq p 0 2,
      piece2_eq p 0 1, piece2_eq p 0 0, trivial⟩ y ⟨piece2 p ⟨(y 0).val / 64, by omega⟩ ⟨(y 1).val / 128, by omega⟩, ?_, ?_⟩
  · generalize (⟨(y 0).val / 64, _⟩ : Fin 4) = c
    generalize (⟨(y 1).val / 128, _⟩ : Fin 4) = h
    fin_cases c <;> fin_cases h <;> simp
  · refine (LoadRect.mem_set _).2 fun a => ?_
    fin_cases a
    · exact ⟨(y 0).val % 64, Nat.mod_lt _ (by decide), by show (y 0).val = 64 * ((y 0).val / 64) + 1 * ((y 0).val % 64); omega⟩
    · exact ⟨(y 1).val % 128, Nat.mod_lt _ (by decide), by show (y 1).val = 128 * ((y 1).val / 128) + 1 * ((y 1).val % 128); omega⟩

theorem cov_glue1 {v : View sig .tc .vmem S4x1x128 .f32} (p : Fin 4 → Vec F S1x1x128 .f32) (L : List (View.Piece (Elt F) S4x1x128 .f32))
    (inb) : v.readCov ([piece1 p 3, piece1 p 2, piece1 p 1, piece1 p 0] ++ L)
      (Rect.unit (s := S4x1x128) ![0, 0, 0] ![4, 1, 128] inb).toLoadRect = glue1 p := by
  rw [View.readCov_eq_canon', canon_glue1]
  exact View.ld_unit_lit inb (glue1 p) (by decide)

theorem cov_glue3 {v : View sig .tc .vmem S4x128x128 .f32} (p : Fin 4 → Vec F S1x128x128 .f32)
    (L : List (View.Piece (Elt F) S4x128x128 .f32)) (inb) : v.readCov ([piece3 p 3, piece3 p 2, piece3 p 1, piece3 p 0] ++ L)
      (Rect.unit (s := S4x128x128) ![0, 0, 0] ![4, 128, 128] inb).toLoadRect = glue3 p := by
  rw [View.readCov_eq_canon', canon_glue3]
  exact View.ld_unit_lit inb (glue3 p) (by decide)

/-! ## What a block leaves -/

/-- The stabilisers after a block. -/
def blkM (x3 : Vec F S256x128 .f32) (x4 : Vec F S1x8x256 .f32) (x10 : Vec F S1x128 .f32) (x11 : Vec F S8x1 .f32)
    (M : Vec F S4x1x128 .f32) : Vec F S4x1x128 .f32 :=
  glue1 fun h => mSt (gateF x3 x10) (gateT x4 x11) M h 4

/-- The normalisers after a block; `X` is the convolved block. -/
def blkN (X : FVec F S256x512 .f32) (x3 : Vec F S256x128 .f32) (x4 : Vec F S1x8x256 .f32) (x8 : Vec F S4x128x128 .bf16)
    (x10 : Vec F S1x128 .f32) (x11 : Vec F S8x1 .f32) (M N : Vec F S4x1x128 .f32) : Vec F S4x1x128 .f32 :=
  glue1 fun h => nSt (gateI x3 x10) (gateF x3 x10) (gateT x4 x11) (keys X x8 h) M N h 4

/-- The matrix states after a block. -/
def blkC (X : FVec F S256x512 .f32) (x0 : Vec F S256x512 .f32) (x3 : Vec F S256x128 .f32) (x4 : Vec F S1x8x256 .f32)
    (x8 x9 : Vec F S4x128x128 .bf16) (x10 : Vec F S1x128 .f32) (x11 : Vec F S8x1 .f32) (M : Vec F S4x1x128 .f32)
    (C : Vec F S4x128x128 .f32) : Vec F S4x128x128 .f32 :=
  glue3 fun h => cSt (gateI x3 x10) (gateF x3 x10) (gateT x4 x11) (keys X x8 h) (proj x0 x9 h) M C h 4

/-- A block of the result. -/
def blkO (X : FVec F S256x512 .f32) (x0 x1 x2 : Vec F S256x512 .f32) (x3 : Vec F S256x128 .f32) (x4 : Vec F S1x8x256 .f32)
    (x7 x8 x9 : Vec F S4x128x128 .bf16) (x10 : Vec F S1x128 .f32) (x11 : Vec F S8x1 .f32) (x12 : Vec F S1x128 .f32)
    (x13 : Vec F S1x512 .f32) (M N : Vec F S4x1x128 .f32) (C : Vec F S4x128x128 .f32) : Vec F S256x512 .f32 :=
  glue2 fun c h => outT (gateI x3 x10) (gateF x3 x10) (gateT x4 x11) (proj X x7 h) (keys X x8 h) (proj x0 x9 h) M N C x1 x2 x12 x13 X c h

end Cert.KernelIdeal.Mlstm
-- ==== Proof.Mlstm.Spec.lean ====
/-
  The layer in plain extended-real arithmetic: the recurrence over a head's chunks of 64 tokens, the causal convolution, the gates
  and the last gate.
  Both programs are read into these functions, so that they never have to be compared with one another directly.
-/
module

public import Idealize.ShloMosaic.Lib.Pointwise

@[expose] public section

noncomputable section

namespace Cert.Mlstm

open Idealize.ShloMosaic

/-- The exponent that stands for "no decay between these two tokens". -/
def never : EReal := Ideal.ofBits .f32 0xF149F2CA#32
/-- Where a running maximum starts. -/
def bot : EReal := Ideal.ofBits .f32 0xFF800000#32

/-! ## One chunk -/

section Chunk

/-- The running sum over a chunk. -/
def cum (f : Fin 64 → EReal) (r : Fin 64) : EReal := ∑ x, if x ≤ r then f x else 0

variable (f i : Fin 64 → EReal) (q k v : Fin 64 → Fin 128 → EReal) (m : EReal) (N : Fin 128 → EReal) (C : Fin 128 → Fin 128 → EReal)

/-- The exponent of the decay from token `s` to token `r`. -/
def dm (r s : Fin 64) : EReal := if s ≤ r then cum f r - cum f s + i s else never

/-- The stabiliser of token `r`. -/
def mt (r : Fin 64) : EReal := max (cum f r + m) (Finset.univ.fold max bot (dm f i r))

/-- The weight of token `s` in the state that the chunk leaves. -/
def wEnd (s : Fin 64) : EReal := Ideal.exp (cum f 63 - cum f s + i s - mt f i m 63)

/-- The decay of the carried state over the chunk. -/
def dec : EReal := Ideal.exp (cum f 63 + m - mt f i m 63)

/-- The matrix state that the chunk leaves. -/
def nextC (r s : Fin 128) : EReal := dec f i m * C r s + ∑ x, wEnd f i m x * v x r * k x s

/-- The normaliser that the chunk leaves. -/
def nextN (s : Fin 128) : EReal := dec f i m * N s + ∑ x, wEnd f i m x * k x s

/-- The weight of token `x` in what token `r` reads. -/
def att (r x : Fin 64) : EReal := (∑ d, q r d * k x d) * Ideal.exp (dm f i r x - mt f i m r)

/-- The weight of the carried state in what token `r` reads. -/
def carry (r : Fin 64) : EReal := Ideal.exp (cum f r + m - mt f i m r)

/-- What token `r` reads. -/
def readOut (r : Fin 64) (s : Fin 128) : EReal :=
  Ideal.div (∑ x, att f i q k m r x * v x s + carry f i m r * ∑ d, q r d * C s d)
    (max (FloatOps.absf (F := Ideal) (φ := .f32) (∑ x, att f i q k m r x + carry f i m r * ∑ d, q r d * N d)) (Ideal.exp (0 - mt f i m r)))

end Chunk

/-! ## A head's chunks -/

/-- What a head gets: its gates, queries, keys and values by chunk, and the states it starts from. -/
structure Head where
  f : ℕ → Fin 64 → EReal
  i : ℕ → Fin 64 → EReal
  q : ℕ → Fin 64 → Fin 128 → EReal
  k : ℕ → Fin 64 → Fin 128 → EReal
  v : ℕ → Fin 64 → Fin 128 → EReal
  m0 : EReal
  n0 : Fin 128 → EReal
  c0 : Fin 128 → Fin 128 → EReal

namespace Head

variable (H : Head)

/-- The stabiliser before chunk `n`. -/
def m : ℕ → EReal
  | 0 => H.m0
  | n + 1 => mt (H.f n) (H.i n) (m n) 63

/-- The normaliser before chunk `n`. -/
def n : ℕ → Fin 128 → EReal
  | 0 => H.n0
  | t + 1 => nextN (H.f t) (H.i t) (H.k t) (H.m t) (n t)

/-- The matrix state before chunk `n`. -/
def c : ℕ → Fin 128 → Fin 128 → EReal
  | 0 => H.c0
  | t + 1 => nextC (H.f t) (H.i t) (H.k t) (H.v t) (H.m t) (c t)

/-- What token `r` of chunk `t` reads. -/
def out (t : ℕ) (r : Fin 64) (s : Fin 128) : EReal :=
  readOut (H.f t) (H.i t) (H.q t) (H.k t) (H.v t) (H.m t) (H.n t) (H.c t) r s

end Head

/-! ## Around the recurrence -/

/-- The logistic function. -/
def sig (x : EReal) : EReal := Ideal.div 1 (1 + Ideal.exp (0 - x))

/-- The logarithm of the logistic function. -/
def logSig (x : EReal) : EReal := min x 0 - Ideal.log (1 + Ideal.exp (0 - FloatOps.absf (F := Ideal) (φ := .f32) x))

/-- The output gate, the norm, the skip and the last gate, on one head of one token. -/
def fin (r og nrm sk mc z : Fin 128 → EReal) (s : Fin 128) : EReal :=
  (r s * sig (og s) *
      Ideal.rsqrt (Ideal.div (∑ x, r x * sig (og x) * (r x * sig (og x))) (Ideal.ofBits .f32 1124073472#32) +
        Ideal.ofBits .f32 897988541#32) * nrm s + sk s * mc s) * (z s * sig (z s))

/-! ## The layer's data -/

/-- The arrays that the layer is given, read by coordinates. -/
structure Data where
  ub : Fin 16384 → Fin 8192 → EReal
  us : Fin 16384 → Fin 128 → EReal
  cw : Fin 4 → Fin 512 → EReal
  cb : Fin 512 → EReal
  wq : Fin 4 → Fin 128 → Fin 128 → EReal
  wk : Fin 4 → Fin 128 → Fin 128 → EReal
  wv : Fin 4 → Fin 128 → Fin 128 → EReal
  bi : Fin 4 → EReal
  bf : Fin 4 → EReal
  nrm : Fin 128 → EReal
  sk : Fin 512 → EReal
  c0 : Fin 4 → Fin 4 → Fin 128 → Fin 128 → EReal
  n0 : Fin 4 → Fin 4 → Fin 128 → EReal
  m0 : Fin 4 → Fin 4 → EReal
  cv : Fin 4 → Fin 3 → Fin 512 → EReal

namespace Data

/-- The layer's data, from the arrays themselves. -/
def of (a0 : FVec Ideal ⟨2, ![16384, 8192]⟩ .f32) (a1 : FVec Ideal ⟨2, ![16384, 128]⟩ .f32) (a2 : FVec Ideal ⟨2, ![4, 512]⟩ .f32)
    (a3 : FVec Ideal ⟨1, ![512]⟩ .f32) (a4 a5 a6 : FVec Ideal ⟨3, ![4, 128, 128]⟩ .f32) (a7 a8 : FVec Ideal ⟨1, ![4]⟩ .f32)
    (a9 : FVec Ideal ⟨1, ![128]⟩ .f32) (a10 : FVec Ideal ⟨1, ![512]⟩ .f32) (a11 : FVec Ideal ⟨4, ![4, 4, 128, 128]⟩ .f32)
    (a12 : FVec Ideal ⟨3, ![4, 4, 128]⟩ .f32) (a13 : FVec Ideal ⟨2, ![4, 4]⟩ .f32) (a14 : FVec Ideal ⟨3, ![4, 3, 512]⟩ .f32) : Data where
  ub r s := a0 (ix2 r s)
  us r s := a1 (ix2 r s)
  cw r s := a2 (ix2 r s)
  cb s := a3 (ix1 s)
  wq h r s := a4 (ix3 h r s)
  wk h r s := a5 (ix3 h r s)
  wv h r s := a6 (ix3 h r s)
  bi h := a7 (ix1 h)
  bf h := a8 (ix1 h)
  nrm s := a9 (ix1 s)
  sk s := a10 (ix1 s)
  c0 b h r s := a11 (ix4 b h r s)
  n0 b h s := a12 (ix3 b h s)
  m0 b h := a13 (ix2 b h)
  cv b j s := a14 (ix3 b j s)

variable (D : Data)

/-- Token `l` of sequence `b`, as a row of the arrays. -/
def row (b : Fin 4) (l : Fin 4096) : Fin 16384 := ⟨4096 * b.val + l.val, by omega⟩

/-- Token `r` of chunk `t`, as a token of the sequence. -/
def tok (t : ℕ) (r : Fin 64) : Fin 4096 := ⟨(64 * t + r.val) % 4096, Nat.mod_lt _ (by norm_num)⟩

/-- Column `e` of head `h`. -/
def col (h : Fin 4) (e : Fin 128) : Fin 512 := ⟨128 * h.val + e.val, by omega⟩

/-- The convolution's input at token `l`. -/
def x (b : Fin 4) (l : Fin 4096) (s : Fin 512) : EReal := D.ub (row b l) ⟨1536 + s.val, by omega⟩

/-- The convolution's input with the three tokens before it in front: entry `j` is token `j - 3`. -/
def pre (b : Fin 4) (j : Fin 4099) (s : Fin 512) : EReal :=
  if h : j.val < 3 then D.cv b ⟨j.val, h⟩ s else D.x b ⟨j.val - 3, by omega⟩ s

/-- The causal convolution of width four. -/
def conv (b : Fin 4) (l : Fin 4096) (s : Fin 512) : EReal :=
  D.cb s + D.pre b ⟨l.val, by omega⟩ s * D.cw 0 s + D.pre b ⟨l.val + 1, by omega⟩ s * D.cw 1 s
    + D.pre b ⟨l.val + 2, by omega⟩ s * D.cw 2 s + D.pre b ⟨l.val + 3, by omega⟩ s * D.cw 3 s

/-- The convolution, gated by itself. -/
def mc (b : Fin 4) (l : Fin 4096) (s : Fin 512) : EReal := D.conv b l s * sig (D.conv b l s)

/-- What head `h` of sequence `b` gets. -/
def head (b h : Fin 4) : Head where
  f t r := logSig (D.us (row b (tok t r)) ⟨20 + h.val, by omega⟩ + D.bf h)
  i t r := D.us (row b (tok t r)) ⟨16 + h.val, by omega⟩ + D.bi h
  q t r e := ∑ d, D.mc b (tok t r) (col h d) * D.wq h d e
  k t r e := (∑ d, D.mc b (tok t r) (col h d) * D.wk h d e) * Ideal.ofBits .f32 0x3DB504F3#32
  v t r e := ∑ d, D.x b (tok t r) (col h d) * D.wv h d e
  m0 := D.m0 b h
  n0 := D.n0 b h
  c0 := D.c0 b h

/-- The result at token `r` of chunk `t`, column `e` of head `h`. -/
def result (b h : Fin 4) (t : ℕ) (r : Fin 64) (e : Fin 128) : EReal :=
  fin ((D.head b h).out t r) (fun e => D.ub (row b (tok t r)) ⟨2048 + (col h e).val, by omega⟩) D.nrm (fun e => D.sk (col h e))
    (fun e => D.mc b (tok t r) (col h e)) (fun e => D.ub (row b (tok t r)) ⟨2560 + (col h e).val, by omega⟩) e

end Data

end Cert.Mlstm
-- ==== Proof.Mlstm.StepVal.lean ====
/-
  The kernel's functions of one chunk, read at an index: each is the function of `Spec` on the entries it reads.
-/
module

public import proofs.«01_k».proof.Proof.Mlstm.Steps
public import proofs.«01_k».proof.Proof.Mlstm.Spec

@[expose] public section

set_option maxRecDepth 16384

noncomputable section

namespace Cert.KernelIdeal.Mlstm

open Idealize.ShloMosaic Idealize.ShloMosaic.TcCoe Idealize.ShloMosaic.Tactic Cert.KernelIdeal Cert.KernelIdeal.Gen
open Cert.Mlstm (cum dm wEnd dec nextC nextN att carry readOut never bot Head)

/-! ## Masks -/

/-- A choice by "the row is at or below the column", of two words of 32 bits. -/
theorem select_sge (r s : Fin 64) (a b : EReal) :
    Scalar.select (IntOp.cmpi CmpIPredicate.sge (BitVec.ofNat 32 r.val) (BitVec.ofNat 32 s.val)) a b = if s ≤ r then a else b := by
  have h : ∀ r s : Fin 64, IntOp.cmpi CmpIPredicate.sge (BitVec.ofNat 32 r.val) (BitVec.ofNat 32 s.val) = if s ≤ r then 1#1 else 0#1 := by
    decide +kernel
  rw [h]; split_ifs <;> simp [Scalar.select]

/-- The same choice with the comparison turned round. -/
theorem select_sle (r s : Fin 64) (a b : EReal) :
    Scalar.select (IntOp.cmpi CmpIPredicate.sle (BitVec.ofNat 32 s.val) (BitVec.ofNat 32 r.val)) a b = if s ≤ r then a else b := by
  have h : ∀ r s : Fin 64, IntOp.cmpi CmpIPredicate.sle (BitVec.ofNat 32 s.val) (BitVec.ofNat 32 r.val) = if s ≤ r then 1#1 else 0#1 := by
    decide +kernel
  rw [h]; split_ifs <;> simp [Scalar.select]

/-! ## The gates -/

theorem fCol_at (L : FVec Ideal S256x128 .f32) (c h : Fin 4) (f : Fin 64 → EReal)
    (hf : ∀ x : Fin 64, L (ix2 ⟨64 * c.val + x.val, by omega⟩ ⟨20 + h.val, by omega⟩) = f x) (r : Fin 64) (x : Fin 1) :
    fCol L c h (ix2 r x) = cum f r := by
  pointwise [fCol, k0_pay21, k0_pay20]
  simp only [select_sge, cum, hf]

theorem fRow_at (G : FVec Ideal S8x256 .f32) (c h : Fin 4) (f : Fin 64 → EReal)
    (hf : ∀ x : Fin 64, G (ix2 ⟨4 + h.val, by omega⟩ ⟨64 * c.val + x.val, by omega⟩) = f x) (r : Fin 64) (x : Fin 1) :
    fRow G c h (ix2 x r) = cum f r := by
  pointwise [fRow, k0_pay22]
  simp only [select_sle, cum, hf]

theorem iCol_at (A : FVec Ideal S256x128 .f32) (c h : Fin 4) (r : Fin 64) (x : Fin 1) :
    iCol A c h (ix2 r x) = A (ix2 ⟨64 * c.val + r.val, by omega⟩ ⟨16 + h.val, by omega⟩) := by
  pointwise [iCol]

theorem iRow_at (G : FVec Ideal S8x256 .f32) (c h : Fin 4) (r : Fin 64) (x : Fin 1) :
    iRow G c h (ix2 x r) = G (ix2 ⟨h.val, by omega⟩ ⟨64 * c.val + r.val, by omega⟩) := by
  pointwise [iRow]

theorem rows_at (X : FVec Ideal S256x128 .f32) (c : Fin 4) (r : Fin 64) (d : Fin 128) :
    rows X c (ix2 r d) = X (ix2 ⟨64 * c.val + r.val, by omega⟩ d) := by
  pointwise [rows]

/-! ## One step -/

section Step

variable {fc ic : FVec Ideal S64x1 .f32} {fr ir : FVec Ideal S1x64 .f32} {q k v : FVec Ideal S64x128 .f32}
  {m N : Vec Ideal S1x1x128 .f32} {C : Vec Ideal S1x128x128 .f32}
  {f i : Fin 64 → EReal} {qs ks vs : Fin 64 → Fin 128 → EReal} {ms : EReal} {Ns : Fin 128 → EReal} {Cs : Fin 128 → Fin 128 → EReal}

theorem expo_at (hfc : ∀ r x, fc (ix2 r x) = cum f r) (hfr : ∀ r x, fr (ix2 x r) = cum f r) (hir : ∀ r x, ir (ix2 x r) = i r)
    (r s : Fin 64) : expo fc fr ir (ix2 r s) = dm f i r s := by
  pointwise [expo, k0_pay20]
  simp only [select_sge, dm, hfc, hfr, hir, never]

theorem lin_at (hfc : ∀ r x, fc (ix2 r x) = cum f r) (hm : ∀ x, m (ix3 0 0 x) = ms) (r : Fin 64) (x : Fin 1) :
    lin fc m (ix2 r x) = cum f r + ms := by
  pointwise [lin, k0_pay43]
  simp only [hfc, hm]

theorem stab_at (hfc : ∀ r x, fc (ix2 r x) = cum f r) (hfr : ∀ r x, fr (ix2 x r) = cum f r) (hir : ∀ r x, ir (ix2 x r) = i r)
    (hm : ∀ x, m (ix3 0 0 x) = ms) (r : Fin 64) (x : Fin 1) : stab fc fr ir m (ix2 r x) = Cert.Mlstm.mt f i ms r := by
  pointwise [stab]
  simp only [lin_at hfc hm, expo_at hfc hfr hir, Cert.Mlstm.mt, bot]

theorem newM_at (hfc : ∀ r x, fc (ix2 r x) = cum f r) (hfr : ∀ r x, fr (ix2 x r) = cum f r) (hir : ∀ r x, ir (ix2 x r) = i r)
    (hm : ∀ x, m (ix3 0 0 x) = ms) (x : Fin 128) : newM fc fr ir m (ix3 0 0 x) = Cert.Mlstm.mt f i ms 63 := by
  pointwise [newM, k0_pay62, k0_pay55]
  exact stab_at hfc hfr hir hm _ _

theorem newC_at (hfc : ∀ r x, fc (ix2 r x) = cum f r) (hfr : ∀ r x, fr (ix2 x r) = cum f r) (hic : ∀ r x, ic (ix2 r x) = i r)
    (hir : ∀ r x, ir (ix2 x r) = i r) (hk : ∀ r d, k (ix2 r d) = ks r d) (hv : ∀ r d, v (ix2 r d) = vs r d)
    (hm : ∀ x, m (ix3 0 0 x) = ms) (hC : ∀ r s, C (ix3 0 r s) = Cs r s) (r s : Fin 128) :
    newC fc ic fr ir k v m C (ix3 0 r s) = nextC f i ks vs ms Cs r s := by
  pointwise [newC, k0_pay60, k0_pay59, k0_pay58, k0_pay57, k0_pay47, k0_pay56, k0_pay55, k0_pay53, k0_pay43]
  simp only [hfc, hic, hk, hv, hm, hC, stab_at hfc hfr hir hm, nextC, dec, wEnd]

theorem newN_at (hfc : ∀ r x, fc (ix2 r x) = cum f r) (hfr : ∀ r x, fr (ix2 x r) = cum f r) (hic : ∀ r x, ic (ix2 r x) = i r)
    (hir : ∀ r x, ir (ix2 x r) = i r) (hk : ∀ r d, k (ix2 r d) = ks r d)
    (hm : ∀ x, m (ix3 0 0 x) = ms) (hN : ∀ s, N (ix3 0 0 s) = Ns s) (s : Fin 128) :
    newN fc ic fr ir k m N (ix3 0 0 s) = nextN f i ks ms Ns s := by
  pointwise [newN, k0_pay61, k0_pay58, k0_pay57, k0_pay48, k0_pay56, k0_pay55, k0_pay43]
  simp only [hfc, hic, hk, hm, hN, stab_at hfc hfr hir hm, nextN, dec, wEnd]

theorem readout_at (hfc : ∀ r x, fc (ix2 r x) = cum f r) (hfr : ∀ r x, fr (ix2 x r) = cum f r)
    (hir : ∀ r x, ir (ix2 x r) = i r) (hq : ∀ r d, q (ix2 r d) = qs r d) (hk : ∀ r d, k (ix2 r d) = ks r d)
    (hv : ∀ r d, v (ix2 r d) = vs r d) (hm : ∀ x, m (ix3 0 0 x) = ms) (hN : ∀ s, N (ix3 0 0 s) = Ns s)
    (hC : ∀ r s, C (ix3 0 r s) = Cs r s) (r : Fin 64) (s : Fin 128) :
    readout fc fr ir q k v m N C (ix2 r s) = readOut f i qs ks vs ms Ns Cs r s := by
  pointwise [readout, k0_pay54, k0_pay47, k0_pay48, k0_pay53, k0_pay52]
  simp only [hq, hk, hv, hN, hC, expo_at hfc hfr hir, lin_at hfc hm, stab_at hfc hfr hir hm, readOut, att, carry]

end Step

/-! ## Around the recurrence -/

theorem finish_at (r og z mc : FVec Ideal S64x128 .f32) (nrm sk : Vec Ideal S1x128 .f32) (i : Fin 64) (s : Fin 128) :
    finish r og nrm sk mc z (ix2 i s) = Cert.Mlstm.fin (fun e => r (ix2 i e)) (fun e => og (ix2 i e)) (fun e => nrm (ix2 0 e))
      (fun e => sk (ix2 0 e)) (fun e => mc (ix2 i e)) (fun e => z (ix2 i e)) s := by
  pointwise [finish, k0_pay63]
  rfl

theorem gateI_at (x3 : Vec Ideal S256x128 .f32) (x10 : Vec Ideal S1x128 .f32) (r : Fin 256) (x : Fin 128) :
    gateI x3 x10 (ix2 r x) = x3 (ix2 r x) + x10 (ix2 0 x) := by
  pointwise [gateI, k0_pay13]

theorem gateF_at (x3 : Vec Ideal S256x128 .f32) (x10 : Vec Ideal S1x128 .f32) (r : Fin 256) (x : Fin 128) :
    gateF x3 x10 (ix2 r x) = Cert.Mlstm.logSig (x3 (ix2 r x) + x10 (ix2 0 x)) := by
  pointwise [gateF, k0_pay14, k0_pay13]
  rfl

theorem gateT_at (x4 : Vec Ideal S1x8x256 .f32) (x11 : Vec Ideal S8x1 .f32) (r : Fin 256) (x : Fin 8) :
    gateT x4 x11 (ix2 x r) = if x.val < 4 then x4 (ix3 0 x r) + x11 (ix2 x 0) else Cert.Mlstm.logSig (x4 (ix3 0 x r) + x11 (ix2 x 0)) := by
  pointwise [gateT, k0_pay15, k0_pay16, k0_pay17, k0_pay18, k0_pay19]
  have h : ∀ x : Fin 8, IntOp.cmpi CmpIPredicate.slt (BitVec.ofNat 32 x.val) 4#32 = if x.val < 4 then 1#1 else 0#1 := by
    decide +kernel
  rw [h]
  split_ifs <;> simp [Scalar.select, Cert.Mlstm.logSig]

theorem tile3_at {φ : EltTy} (X : Vec Ideal S4x128x128 φ) (h : Fin 4) (r s : Fin 128) : tile3 X h (ix3 0 r s) = X (ix3 h r s) := by
  pointwise [tile3]

theorem tile1_at (X : Vec Ideal S4x1x128 .f32) (h : Fin 4) (s : Fin 128) : tile1 X h (ix3 0 0 s) = X (ix3 h 0 s) := by
  pointwise [tile1]

theorem tile2_at (X : Vec Ideal S256x512 .f32) (c h : Fin 4) (r : Fin 64) (s : Fin 128) :
    tile2 X c h (ix2 r s) = X (ix2 ⟨64 * c.val + r.val, by omega⟩ ⟨128 * h.val + s.val, by omega⟩) := by
  pointwise [tile2]

theorem tileS_at (X : Vec Ideal S1x512 .f32) (h : Fin 4) (s : Fin 128) : tileS X h (ix2 0 s) = X (ix2 0 ⟨128 * h.val + s.val, by omega⟩) := by
  pointwise [tileS]

theorem proj_at (X : FVec Ideal S256x512 .f32) (W : Vec Ideal S4x128x128 .bf16) (h : Fin 4) (r : Fin 256) (e : Fin 128) :
    proj X W h (ix2 r e) = ∑ d : Fin 128, X (ix2 r ⟨128 * h.val + d.val, by omega⟩) * W (ix3 h d e) := by
  pointwise [proj, tile3]

theorem keys_at (X : FVec Ideal S256x512 .f32) (W : Vec Ideal S4x128x128 .bf16) (h : Fin 4) (r : Fin 256) (e : Fin 128) :
    keys X W h (ix2 r e) =
      (∑ d : Fin 128, X (ix2 r ⟨128 * h.val + d.val, by omega⟩) * W (ix3 h d e)) * Ideal.ofBits .f32 0x3DB504F3#32 := by
  pointwise [keys]
  rw [proj_at]

theorem conved_at (p : Vec Ideal S8x512 .f32) (x : Vec Ideal S256x512 .f32) (w : Vec Ideal S4x512 .f32) (b : Vec Ideal S1x512 .f32)
    (r : Fin 256) (s : Fin 512) (a : EReal)
    (ha : b (ix2 0 s) + window p x (ix2 ⟨5 + r.val, by omega⟩ s) * w (ix2 0 s) + window p x (ix2 ⟨6 + r.val, by omega⟩ s) * w (ix2 1 s)
      + window p x (ix2 ⟨7 + r.val, by omega⟩ s) * w (ix2 2 s) + x (ix2 r s) * w (ix2 3 s) = a) :
    conved p x w b (ix2 r s) = a * Cert.Mlstm.sig a := by
  subst ha
  pointwise [conved, win, tap, k0_pay12, k0_pay10]
  rfl

end Cert.KernelIdeal.Mlstm
-- ==== Proof.Mlstm.BlockVal.lean ====
/-
  What one block of 256 tokens computes, read at an index: from the states of `Spec` before the block's first chunk to the states
  after its fourth, and the block of the result.
-/
module

public import proofs.«01_k».proof.Proof.Mlstm.StepVal

@[expose] public section

set_option maxRecDepth 16384

noncomputable section

namespace Cert.KernelIdeal.Mlstm

open Idealize.ShloMosaic Idealize.ShloMosaic.TcCoe Idealize.ShloMosaic.Tactic Cert.KernelIdeal Cert.KernelIdeal.Gen
open Cert.Mlstm (Head Data)

/-- Row `r` of block `tt`, as a token of the sequence. -/
def tokB (tt : Fin 16) (r : Fin 256) : Fin 4096 := ⟨256 * tt.val + r.val, by omega⟩

theorem tok_eq (tt : Fin 16) (c : Fin 4) (r : Fin 64) :
    Data.tok (4 * tt.val + c.val) r = tokB tt ⟨64 * c.val + r.val, by omega⟩ := by
  apply Fin.ext
  simp only [Data.tok, tokB]
  omega

/-! ## The states over the four chunks -/

section Chunks

variable {A L : FVec Ideal S256x128 .f32} {G : FVec Ideal S8x256 .f32} {Q K V : FVec Ideal S256x128 .f32}
  {M N : Vec Ideal S4x1x128 .f32} {C : Vec Ideal S4x128x128 .f32} {H : Head} {t : ℕ} {h : Fin 4}

/-- The gates of a block's four chunks are those of chunks `t` to `t + 3` of the head. -/
structure Gates (A L : FVec Ideal S256x128 .f32) (G : FVec Ideal S8x256 .f32) (H : Head) (t : ℕ) (h : Fin 4) : Prop where
  col : ∀ (c : Fin 4) (x : Fin 64), L (ix2 ⟨64 * c.val + x.val, by omega⟩ ⟨20 + h.val, by omega⟩) = H.f (t + c.val) x
  row : ∀ (c : Fin 4) (x : Fin 64), G (ix2 ⟨4 + h.val, by omega⟩ ⟨64 * c.val + x.val, by omega⟩) = H.f (t + c.val) x
  incol : ∀ (c : Fin 4) (x : Fin 64), A (ix2 ⟨64 * c.val + x.val, by omega⟩ ⟨16 + h.val, by omega⟩) = H.i (t + c.val) x
  inrow : ∀ (c : Fin 4) (x : Fin 64), G (ix2 ⟨h.val, by omega⟩ ⟨64 * c.val + x.val, by omega⟩) = H.i (t + c.val) x

/-- A block's rows are those of chunks `t` to `t + 3`. -/
def Rows (X : FVec Ideal S256x128 .f32) (g : ℕ → Fin 64 → Fin 128 → EReal) (t : ℕ) : Prop :=
  ∀ (c : Fin 4) (r : Fin 64) (d : Fin 128), X (ix2 ⟨64 * c.val + r.val, by omega⟩ d) = g (t + c.val) r d

theorem Rows.rows_at {X : FVec Ideal S256x128 .f32} {g : ℕ → Fin 64 → Fin 128 → EReal} (hX : Rows X g t) (c : Fin 4) (r : Fin 64)
    (d : Fin 128) : rows X c (ix2 r d) = g (t + c.val) r d := by
  rw [Mlstm.rows_at]; exact hX c r d

theorem chunk_lt {n : ℕ} (hn : n + 1 ≤ 4) : (Fin.ofNat 4 n).val = n := Nat.mod_eq_of_lt hn

variable (hg : Gates A L G H t h)
include hg

theorem fCol_H (c : Fin 4) (r : Fin 64) (x : Fin 1) : fCol L c h (ix2 r x) = Cert.Mlstm.cum (H.f (t + c.val)) r :=
  fCol_at L c h _ (hg.col c) r x

theorem fRow_H (c : Fin 4) (r : Fin 64) (x : Fin 1) : fRow G c h (ix2 x r) = Cert.Mlstm.cum (H.f (t + c.val)) r :=
  fRow_at G c h _ (hg.row c) r x

theorem iCol_H (c : Fin 4) (r : Fin 64) (x : Fin 1) : iCol A c h (ix2 r x) = H.i (t + c.val) r := by
  rw [iCol_at]; exact hg.incol c r

theorem iRow_H (c : Fin 4) (r : Fin 64) (x : Fin 1) : iRow G c h (ix2 x r) = H.i (t + c.val) r := by
  rw [iRow_at]; exact hg.inrow c r

variable (hM : ∀ x, M (ix3 h 0 x) = H.m t)
include hM

theorem mSt_H : ∀ n ≤ 4, ∀ x, mSt L G M h n (ix3 0 0 x) = H.m (t + n)
  | 0, _, x => by rw [mSt, tile1_at]; exact hM x
  | n + 1, hn, x => by
    have e := chunk_lt hn
    rw [mSt, newM_at (fCol_H hg _) (fRow_H hg _) (iRow_H hg _) (mSt_H n (by omega)), e]
    rfl

variable (hK : Rows K H.k t)
include hK

theorem nSt_H (hN : ∀ x, N (ix3 h 0 x) = H.n t x) : ∀ n ≤ 4, ∀ x, nSt A L G K M N h n (ix3 0 0 x) = H.n (t + n) x
  | 0, _, x => by rw [nSt, tile1_at]; exact hN x
  | n + 1, hn, x => by
    have e := chunk_lt hn
    rw [nSt, newN_at (fCol_H hg _) (fRow_H hg _) (iCol_H hg _) (iRow_H hg _) (hK.rows_at _) (mSt_H hg hM n (by omega))
      (nSt_H hN n (by omega)), e]
    rfl

variable (hV : Rows V H.v t)
include hV

theorem cSt_H (hC : ∀ r s, C (ix3 h r s) = H.c t r s) : ∀ n ≤ 4, ∀ r s, cSt A L G K V M C h n (ix3 0 r s) = H.c (t + n) r s
  | 0, _, r, s => by rw [cSt, tile3_at]; exact hC r s
  | n + 1, hn, r, s => by
    have e := chunk_lt hn
    rw [cSt, newC_at (fCol_H hg _) (fRow_H hg _) (iCol_H hg _) (iRow_H hg _) (hK.rows_at _) (hV.rows_at _)
      (mSt_H hg hM n (by omega)) (cSt_H hC n (by omega)), e]
    rfl

theorem readout_H (hQ : Rows Q H.q t) (hN : ∀ x, N (ix3 h 0 x) = H.n t x) (hC : ∀ r s, C (ix3 h r s) = H.c t r s) (c : Fin 4)
    (r : Fin 64) (s : Fin 128) :
    readout (fCol L c h) (fRow G c h) (iRow G c h) (rows Q c) (rows K c) (rows V c) (mSt L G M h c.val) (nSt A L G K M N h c.val)
      (cSt A L G K V M C h c.val) (ix2 r s) = H.out (t + c.val) r s := by
  rw [readout_at (fCol_H hg c) (fRow_H hg c) (iRow_H hg c) (hQ.rows_at c) (hK.rows_at c) (hV.rows_at c)
    (mSt_H hg hM c.val (by omega)) (nSt_H hg hM hK hN c.val (by omega)) (cSt_H hg hM hK hV hC c.val (by omega))]
  rfl

end Chunks

/-! ## A block's inputs -/

/-- The inputs of a block are rows `256 tt` to `256 tt + 255` of sequence `b` of the layer's data, and its weights. -/
structure Inputs (D : Data) (b : Fin 4) (tt : Fin 16) (x0 x1 x2 : Vec Ideal S256x512 .f32) (x3 : Vec Ideal S256x128 .f32)
    (x4 : Vec Ideal S1x8x256 .f32) (x5 : Vec Ideal S4x512 .f32) (x6 : Vec Ideal S1x512 .f32)
    (x7 x8 x9 : Vec Ideal S4x128x128 .bf16) (x10 : Vec Ideal S1x128 .f32) (x11 : Vec Ideal S8x1 .f32)
    (x12 : Vec Ideal S1x128 .f32) (x13 : Vec Ideal S1x512 .f32) : Prop where
  x : ∀ r s, x0 (ix2 r s) = D.x b (tokB tt r) s
  o : ∀ r s, x1 (ix2 r s) = D.ub (Data.row b (tokB tt r)) ⟨2048 + s.val, by omega⟩
  z : ∀ r s, x2 (ix2 r s) = D.ub (Data.row b (tokB tt r)) ⟨2560 + s.val, by omega⟩
  us : ∀ r s, x3 (ix2 r s) = D.us (Data.row b (tokB tt r)) s
  ust : ∀ (r : Fin 256) (s : Fin 8), x4 (ix3 0 s r) = D.us (Data.row b (tokB tt r)) ⟨16 + s.val, by omega⟩
  cw : ∀ r s, x5 (ix2 r s) = D.cw r s
  cb : ∀ s, x6 (ix2 0 s) = D.cb s
  wq : ∀ h r s, x7 (ix3 h r s) = D.wq h r s
  wk : ∀ h r s, x8 (ix3 h r s) = D.wk h r s
  wv : ∀ h r s, x9 (ix3 h r s) = D.wv h r s
  bi : ∀ h : Fin 4, x10 (ix2 0 ⟨16 + h.val, by omega⟩) = D.bi h
  bf : ∀ h : Fin 4, x10 (ix2 0 ⟨20 + h.val, by omega⟩) = D.bf h
  bi' : ∀ h : Fin 4, x11 (ix2 ⟨h.val, by omega⟩ 0) = D.bi h
  bf' : ∀ h : Fin 4, x11 (ix2 ⟨4 + h.val, by omega⟩ 0) = D.bf h
  nrm : ∀ s, x12 (ix2 0 s) = D.nrm s
  sk : ∀ s, x13 (ix2 0 s) = D.sk s

/-- The rows before the block, as the block before leaves them. -/
def Before (D : Data) (b : Fin 4) (tt : ℕ) (p : Vec Ideal S8x512 .f32) : Prop :=
  ∀ (j : Fin 3) (s : Fin 512) (hj : 256 * tt + j.val < 4099), p (ix2 ⟨5 + j.val, by omega⟩ s) = D.pre b ⟨256 * tt + j.val, hj⟩ s

section Block

variable {D : Data} {b : Fin 4} {tt : Fin 16} {x0 x1 x2 : Vec Ideal S256x512 .f32} {x3 : Vec Ideal S256x128 .f32}
    {x4 : Vec Ideal S1x8x256 .f32} {x5 : Vec Ideal S4x512 .f32} {x6 : Vec Ideal S1x512 .f32}
    {x7 x8 x9 : Vec Ideal S4x128x128 .bf16} {x10 : Vec Ideal S1x128 .f32} {x11 : Vec Ideal S8x1 .f32}
    {x12 : Vec Ideal S1x128 .f32} {x13 : Vec Ideal S1x512 .f32} (hI : Inputs D b tt x0 x1 x2 x3 x4 x5 x6 x7 x8 x9 x10 x11 x12 x13)
include hI

theorem pre_x (r : Fin 256) (s : Fin 512) (h) : D.pre b ⟨256 * tt.val + r.val + 3, h⟩ s = x0 (ix2 r s) := by
  rw [hI.x, Data.pre, dif_neg (by simp)]
  congr 1

omit hI in
theorem window_at (p : Vec Ideal S8x512 .f32) (x : Vec Ideal S256x512 .f32) (k : Fin 264) (s : Fin 512) :
    window p x (ix2 k s) = if h : k.val < 8 then p (ix2 ⟨k.val, h⟩ s) else x (ix2 ⟨k.val - 8, by omega⟩ s) := rfl

/-- The window's rows are the convolution's input. -/
theorem window_pre {p : Vec Ideal S8x512 .f32} (hp : Before D b tt.val p) (k : Fin 264) (hk : 5 ≤ k.val) (s : Fin 512) (j : Fin 4099)
    (hj : j.val + 5 = 256 * tt.val + k.val) : window p x0 (ix2 k s) = D.pre b j s := by
  rw [window_at]
  by_cases h : k.val < 8
  · rw [dif_pos h]
    have := hp ⟨k.val - 5, by omega⟩ s (by simp only; omega)
    have e : j = ⟨256 * tt.val + (k.val - 5), by omega⟩ := Fin.ext (by simp only; omega)
    rw [e, ← this]
    congr 2
    exact Fin.ext (by simp only; omega)
  · rw [dif_neg h]
    have e : j = ⟨256 * tt.val + (k.val - 8) + 3, by omega⟩ := Fin.ext (by simp only; omega)
    rw [e]
    exact (pre_x hI ⟨k.val - 8, by omega⟩ s _).symm

theorem conved_H {p : Vec Ideal S8x512 .f32} (hp : Before D b tt.val p) (r : Fin 256) (s : Fin 512) :
    conved p (k0_pay9 x0) x5 x6 (ix2 r s) = D.mc b (tokB tt r) s := by
  have h9 : k0_pay9 x0 = x0 := shapeCast_id _ _
  rw [h9]
  refine conved_at p x0 x5 x6 r s (D.conv b (tokB tt r) s) ?_
  rw [window_pre hI hp ⟨5 + r.val, by omega⟩ (by simp) s ⟨(tokB tt r).val, by omega⟩ (by simp only [tokB]; omega),
    window_pre hI hp ⟨6 + r.val, by omega⟩ (by simp only; omega) s ⟨(tokB tt r).val + 1, by omega⟩ (by simp only [tokB]; omega),
    window_pre hI hp ⟨7 + r.val, by omega⟩ (by simp only; omega) s ⟨(tokB tt r).val + 2, by omega⟩ (by simp only [tokB]; omega),
    ← pre_x hI r s (by omega), hI.cb, hI.cw, hI.cw, hI.cw, hI.cw]
  rfl

theorem gates_H (h : Fin 4) : Gates (gateI x3 x10) (gateF x3 x10) (gateT x4 x11) (D.head b h) (4 * tt.val) h where
  col c x := by
    rw [gateF_at, hI.us, hI.bf]; simp only [Data.head, tok_eq]
  row c x := by
    rw [gateT_at, if_neg (by simp), hI.ust, hI.bf']; simp only [Data.head, tok_eq]
    congr 3; exact Fin.ext (by simp only; omega)
  incol c x := by
    rw [gateI_at, hI.us, hI.bi]; simp only [Data.head, tok_eq]
  inrow c x := by
    rw [gateT_at, if_pos h.isLt, hI.ust, hI.bi']; simp only [Data.head, tok_eq]

variable {p : Vec Ideal S8x512 .f32} {M N : Vec Ideal S4x1x128 .f32} {C : Vec Ideal S4x128x128 .f32}

theorem blkM_H (hM : ∀ h x, M (ix3 h 0 x) = (D.head b h).m (4 * tt.val)) (h : Fin 4) (x : Fin 128) :
    blkM x3 x4 x10 x11 M (ix3 h 0 x) = (D.head b h).m (4 * (tt.val + 1)) :=
  mSt_H (gates_H hI h) (hM h) 4 le_rfl x

theorem values_H (h : Fin 4) : Rows (proj x0 x9 h) (D.head b h).v (4 * tt.val) := fun c r d => by
  rw [proj_at]; simp only [hI.x, hI.wv, Data.head, tok_eq, Data.col]

omit hI in
theorem glue2_at (f : Fin 4 → Fin 4 → Vec Ideal S64x128 .f32) (c h : Fin 4) (r : Fin 64) (e : Fin 128) :
    glue2 f (ix2 ⟨64 * c.val + r.val, by omega⟩ ⟨128 * h.val + e.val, by omega⟩) = f c h (ix2 r e) := by
  have e1 : (⟨(64 * c.val + r.val) / 64, by omega⟩ : Fin 4) = c := Fin.ext (by simp only; omega)
  have e2 : (⟨(128 * h.val + e.val) / 128, by omega⟩ : Fin 4) = h := Fin.ext (by simp only; omega)
  have e3 : (⟨(64 * c.val + r.val) % 64, Nat.mod_lt _ (by decide)⟩ : Fin 64) = r := Fin.ext (by simp only; omega)
  have e4 : (⟨(128 * h.val + e.val) % 128, Nat.mod_lt _ (by decide)⟩ : Fin 128) = e := Fin.ext (by simp only; omega)
  show f (⟨(64 * c.val + r.val) / 64, _⟩ : Fin 4) (⟨(128 * h.val + e.val) / 128, _⟩ : Fin 4)
    (ix2 (⟨(64 * c.val + r.val) % 64, _⟩ : Fin 64) (⟨(128 * h.val + e.val) % 128, _⟩ : Fin 128)) = _
  rw [e1, e2, e3, e4]

section Conv
variable (hp : Before D b tt.val p)
include hp

theorem queries_H (h : Fin 4) : Rows (proj (conved p (k0_pay9 x0) x5 x6) x7 h) (D.head b h).q (4 * tt.val) := fun c r d => by
  rw [proj_at]; simp only [conved_H hI hp, hI.wq, Data.head, tok_eq, Data.col]

theorem keys_H (h : Fin 4) : Rows (keys (conved p (k0_pay9 x0) x5 x6) x8 h) (D.head b h).k (4 * tt.val) := fun c r d => by
  rw [keys_at]; simp only [conved_H hI hp, hI.wk, Data.head, tok_eq, Data.col]

variable (hM : ∀ h x, M (ix3 h 0 x) = (D.head b h).m (4 * tt.val))
include hM

theorem blkN_H (hN : ∀ h x, N (ix3 h 0 x) = (D.head b h).n (4 * tt.val) x) (h : Fin 4) (x : Fin 128) :
    blkN (conved p (k0_pay9 x0) x5 x6) x3 x4 x8 x10 x11 M N (ix3 h 0 x) = (D.head b h).n (4 * (tt.val + 1)) x :=
  nSt_H (gates_H hI h) (hM h) (keys_H hI hp h) (hN h) 4 le_rfl x

theorem blkC_H (hC : ∀ h r s, C (ix3 h r s) = (D.head b h).c (4 * tt.val) r s) (h : Fin 4) (r s : Fin 128) :
    blkC (conved p (k0_pay9 x0) x5 x6) x0 x3 x4 x8 x9 x10 x11 M C (ix3 h r s) = (D.head b h).c (4 * (tt.val + 1)) r s :=
  cSt_H (gates_H hI h) (hM h) (keys_H hI hp h) (values_H hI h) (hC h) 4 le_rfl r s

theorem blkO_H (hN : ∀ h x, N (ix3 h 0 x) = (D.head b h).n (4 * tt.val) x)
    (hC : ∀ h r s, C (ix3 h r s) = (D.head b h).c (4 * tt.val) r s) (c h : Fin 4) (r : Fin 64) (e : Fin 128) :
    blkO (conved p (k0_pay9 x0) x5 x6) x0 x1 x2 x3 x4 x7 x8 x9 x10 x11 x12 x13 M N C
      (ix2 ⟨64 * c.val + r.val, by omega⟩ ⟨128 * h.val + e.val, by omega⟩) = D.result b h (4 * tt.val + c.val) r e := by
  rw [blkO, glue2_at, outT, finish_at]
  simp only [readout_H (gates_H hI h) (hM h) (keys_H hI hp h) (values_H hI h) (queries_H hI hp h) (hN h) (hC h), tile2_at, tileS_at, hI.o,
    hI.z, hI.nrm, hI.sk, Data.result, tok_eq, Data.col]
  congr 1
  funext e
  have : extractStridedSlice S64x128 ![64 * c.val, 128 * h.val] (conved p (k0_pay9 x0) x5 x6) (sliceTile c h) (ix2 r e)
      = conved p (k0_pay9 x0) x5 x6 (ix2 ⟨64 * c.val + r.val, by omega⟩ ⟨128 * h.val + e.val, by omega⟩) := by pointwise []
  rw [this, conved_H hI hp]

end Conv

/-- The rows a block leaves are what the next one needs. -/
theorem tail_H : Before D b (tt.val + 1) (k0_pay11 (tailOf (k0_pay9 x0))) := fun j s hj => by
  pointwise [k0_pay11, tailOf, k0_pay9]
  rw [← pre_x hI _ s (by simp only; omega)]
  congr 1
  exact Fin.ext (by simp only; omega)

end Block

end Cert.KernelIdeal.Mlstm
-- ==== Proof.Mlstm.Entry.lean ====
/-
  What the arrays that the call is given hold, read from the layer's arguments: the host's reshapes, casts and bias rows.
-/
module

public import proofs.«01_k».proof.Proof.Mlstm.BlockVal
public import Idealize.ShloMosaic.Lib.StableHlo.ReadAt
public import Idealize.ShloMosaic.Lib.Routing.OpsSet
public import Idealize.ShloMosaic.Lib.Routing.OpsOne

@[expose] public section

set_option maxRecDepth 16384

noncomputable section

namespace Cert.KernelIdeal.Mlstm

open Idealize.ShloMosaic Idealize.ShloMosaic.TcCoe Idealize.ShloMosaic.Tactic Cert.KernelIdeal Cert.KernelIdeal.Gen
open Idealize.ShloMosaic.StableHlo
open Cert.Mlstm (Head Data)

/-! ## A run of entries written into a row -/

/-- Where entry `k` of an update of a row lands: at the column that the second index word names, `k` further on. -/
theorem row_lands (d : ScatterDims S1x128 S2 S4) (hu : d.updateWindowDims = [0]) (hi : d.insertedWindowDims = [0])
    (hs : d.scatterDimsToOperandDims = [0, 1]) (hv : d.indexVectorDim = 0) (idx : IVec S2 32) (o : ℕ)
    (h0 : (idx (ix1 (0 : Fin 2))).toInt = 0) (h1 : (idx (ix1 (1 : Fin 2))).toInt = o) (k : Fin 4) (x : Fin 128) :
    d.resultIdx? (ix1 k) idx = some (ix2 (0 : Fin 1) x) ↔ o + k.val = x.val := by
  have e : (S1x128).kept d.insertedWindowDims = [1] := by rw [hi]; rfl
  have w0 : d.window (ix1 k) 0 = 0 := by
    unfold ScatterDims.window
    rw [dif_neg (by show ¬ _ ∈ (S1x128).kept d.insertedWindowDims; rw [e]; decide)]
  have w1 : d.window (ix1 k) 1 = k.val := by
    unfold ScatterDims.window
    rw [dif_pos (by show _ ∈ (S1x128).kept d.insertedWindowDims; rw [e]; decide)]
    exact congrArg (fun a => ((ix1 k : (S4).Idx) a).val) (Subsingleton.elim (α := Fin 1) _ 0)
  have e0 : d.start (ix1 k) idx 0 = (idx (ix1 (0 : Fin 2))).toInt := Routing.start_pair (R := 1) (C := 128) d hs hv idx (ix1 k) 0
  have e1 : d.start (ix1 k) idx 1 = (idx (ix1 (1 : Fin 2))).toInt := Routing.start_pair (R := 1) (C := 128) d hs hv idx (ix1 k) 1
  refine (Routing.resultIdx?_ix2 (R := 1) (C := 128) d (ix1 k) idx (0 : Fin 1) x).trans ?_
  rw [e0, e1, w0, w1, h0, h1]
  simp
  omega

/-- A row with four entries written at `o`, read at one of them. -/
theorem row_hit (d : ScatterDims S1x128 S2 S4) (hu : d.updateWindowDims = [0]) (hi : d.insertedWindowDims = [0])
    (hs : d.scatterDimsToOperandDims = [0, 1]) (hv : d.indexVectorDim = 0) (idx : IVec S2 32) (o : ℕ)
    (h0 : (idx (ix1 (0 : Fin 2))).toInt = 0) (h1 : (idx (ix1 (1 : Fin 2))).toInt = o) (a : FVec Ideal S1x128 .f32)
    (u : FVec Ideal S4 .f32) (k : Fin 4) (x : Fin 128) (hx : o + k.val = x.val) :
    Host.scatter d (fun _ b => b) a idx u (ix2 (0 : Fin 1) x) = u (ix1 k) := by
  refine Routing.scatter_set_hit d a idx u _ _ (fun j hj => ?_) (ix1 k) ((row_lands d hu hi hs hv idx o h0 h1 k x).2 hx)
  have ej : j = ix1 (j 0) := eq_ix1 j
  rw [ej] at hj ⊢
  have := (row_lands d hu hi hs hv idx o h0 h1 (j 0) x).1 hj
  exact congrArg (fun e => u (ix1 e)) (Fin.ext (by omega))

/-- The same row elsewhere: what it held. -/
theorem row_miss (d : ScatterDims S1x128 S2 S4) (hu : d.updateWindowDims = [0]) (hi : d.insertedWindowDims = [0])
    (hs : d.scatterDimsToOperandDims = [0, 1]) (hv : d.indexVectorDim = 0) (idx : IVec S2 32) (o : ℕ)
    (h0 : (idx (ix1 (0 : Fin 2))).toInt = 0) (h1 : (idx (ix1 (1 : Fin 2))).toInt = o) (a : FVec Ideal S1x128 .f32)
    (u : FVec Ideal S4 .f32) (x : Fin 128) (hx : x.val < o) :
    Host.scatter d (fun _ b => b) a idx u (ix2 (0 : Fin 1) x) = a (ix2 (0 : Fin 1) x) := by
  refine Routing.scatter_set_miss d a idx u _ fun j hj => ?_
  have ej : j = ix1 (j 0) := eq_ix1 j
  rw [ej] at hj
  have := (row_lands d hu hi hs hv idx o h0 h1 (j 0) x).1 hj
  omega

/-! ## The arrays, read at an index -/

variable (m : (ℓ : Loc nD τ sig) → Buf (Elt Ideal) ℓ) (c : Dev nD)

/-- The bias row's forget-gate entries. -/
theorem v8_hi (s : Fin 4) : (V m c main_v8 : FVec Ideal S1x128 .f32) (ix2 0 ⟨20 + s.val, by omega⟩) =
    m ((c : Thread nD τ).loc main_arg8) (ix1 s) := by
  unfold V
  after_reads_simp
  clean_types
  refine row_hit _ rfl rfl rfl rfl _ 20 ?_ ?_ _ _ s _ rfl <;> (pointwise; after_reads_simp; rfl)

/-- The bias row's input-gate entries. -/
theorem v8_lo (s : Fin 4) : (V m c main_v8 : FVec Ideal S1x128 .f32) (ix2 0 ⟨16 + s.val, by omega⟩) =
    m ((c : Thread nD τ).loc main_arg7) (ix1 s) := by
  unfold V
  after_reads_simp
  clean_types
  rw [row_miss _ rfl rfl rfl rfl _ 20]
  refine row_hit _ rfl rfl rfl rfl _ 16 ?_ ?_ _ _ s _ rfl <;> (pointwise; after_reads_simp; rfl)
  · pointwise; after_reads_simp; rfl
  · pointwise; after_reads_simp; rfl
  · show 16 + s.val < 20; omega

/-- The bias column's input-gate entries. -/
theorem v10_lo (s : Fin 4) : (V m c main_v10 : FVec Ideal S8x1 .f32) (ix2 ⟨s.val, by omega⟩ 0) =
    m ((c : Thread nD τ).loc main_arg7) (ix1 s) := by
  unfold V
  after_reads_at
  after_reads_simp

/-- The bias column's forget-gate entries. -/
theorem v10_hi (s : Fin 4) : (V m c main_v10 : FVec Ideal S8x1 .f32) (ix2 ⟨4 + s.val, by omega⟩ 0) =
    m ((c : Thread nD τ).loc main_arg8) (ix1 s) := by
  unfold V
  after_reads_at
  after_reads_simp

/-- The gates' columns, turned into rows. -/
theorem v20_at (t : Fin 64) (s : Fin 8) (r : Fin 256) : (V m c main_v20 : FVec Ideal S64x8x256 .f32) (ix3 t s r) =
    m ((c : Thread nD τ).loc main_arg1) (ix2 ⟨256 * t.val + r.val, by omega⟩ ⟨16 + s.val, by omega⟩) := by
  unfold V
  after_reads_at
  refine congrArg (fun x => m ((c : Thread nD τ).loc main_arg1) (ix2 x _)) (Fin.ext ?_)
  show t.val * 256 + r.val = _
  rw [Nat.mul_comm]

/-- The convolution's bias. -/
theorem v11_at (s : Fin 512) : (V m c main_v11 : FVec Ideal S1x512 .f32) (ix2 0 s) = m ((c : Thread nD τ).loc main_arg3) (ix1 s) := by
  unfold V
  after_reads_at

/-- The queries' projection. -/
theorem v12_at (h : Fin 4) (r s : Fin 128) : (V m c main_v12 : FVec Ideal S4x128x128 .bf16) (ix3 h r s) =
    m ((c : Thread nD τ).loc main_arg4) (ix3 h r s) := by
  unfold V
  after_reads_at

/-- The keys' projection. -/
theorem v13_at (h : Fin 4) (r s : Fin 128) : (V m c main_v13 : FVec Ideal S4x128x128 .bf16) (ix3 h r s) =
    m ((c : Thread nD τ).loc main_arg5) (ix3 h r s) := by
  unfold V
  after_reads_at

/-- The values' projection. -/
theorem v14_at (h : Fin 4) (r s : Fin 128) : (V m c main_v14 : FVec Ideal S4x128x128 .bf16) (ix3 h r s) =
    m ((c : Thread nD τ).loc main_arg6) (ix3 h r s) := by
  unfold V
  after_reads_at

/-- The norm's weights. -/
theorem v15_at (s : Fin 128) : (V m c main_v15 : FVec Ideal S1x128 .f32) (ix2 0 s) = m ((c : Thread nD τ).loc main_arg9) (ix1 s) := by
  unfold V
  after_reads_at

/-- The skip's weights. -/
theorem v16_at (s : Fin 512) : (V m c main_v16 : FVec Ideal S1x512 .f32) (ix2 0 s) = m ((c : Thread nD τ).loc main_arg10) (ix1 s) := by
  unfold V
  after_reads_at

/-- The first normaliser. -/
theorem v21_at (b h : Fin 4) (s : Fin 128) : (V m c main_v21 : FVec Ideal S4x4x1x128 .f32) (ix4 b h 0 s) =
    m ((c : Thread nD τ).loc main_arg12) (ix3 b h s) := by
  unfold V
  after_reads_at

/-- The three tokens before the sequence. -/
theorem v24_at (b : Fin 4) (j : Fin 3) (s : Fin 512) : (V m c main_v24 : FVec Ideal S4x8x512 .f32) (ix3 b ⟨5 + j.val, by omega⟩ s) =
    m ((c : Thread nD τ).loc main_arg14) (ix3 b j s) := by
  unfold V
  after_reads_at

/-- The first stabiliser, spread over a row. -/
theorem v23_at (b : Fin 4) (j : Fin 4) (s : Fin 128) : (V m c main_v23 : FVec Ideal S4x4x1x128 .f32) (ix4 b j 0 s) =
    m ((c : Thread nD τ).loc main_arg13) (ix2 b j) := by
  unfold V
  after_reads_at

end Cert.KernelIdeal.Mlstm
-- ==== Proof.Mlstm.Blocks.lean ====
/-
  The blocks that the call reads at a grid point are the rows of the layer's data that the point's sequence and tokens name.
-/
module

public import proofs.«01_k».proof.Proof.Mlstm.Entry

@[expose] public section

set_option maxRecDepth 16384

noncomputable section

namespace Cert.KernelIdeal.Mlstm

open Idealize.ShloMosaic Idealize.ShloMosaic.TcCoe Idealize.ShloMosaic.Tactic Cert.KernelIdeal Cert.KernelIdeal.Gen
open Idealize.ShloMosaic.StableHlo
open Cert.Mlstm (Head Data)

variable (m : (ℓ : Loc nD τ sig) → Buf (Elt Ideal) ℓ) (c : Dev nD)

/-- The layer's data, as the device holds it. -/
def dat : Data :=
  Data.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-- Which block of its array each window takes at a grid point. -/
theorem idx (t : Fin cfg0.N) :
    win0_0.index t = ![t.val, 3] ∧ win0_1.index t = ![t.val, 4] ∧ win0_2.index t = ![t.val, 5] ∧ win0_3.index t = ![t.val, 0] ∧
    win0_4.index t = ![t.val, 0, 0] ∧ win0_5.index t = ![0, 0] ∧ win0_6.index t = ![0, 0] ∧ win0_7.index t = ![0, 0, 0] ∧
    win0_8.index t = ![0, 0, 0] ∧ win0_9.index t = ![0, 0, 0] ∧ win0_10.index t = ![0, 0] ∧ win0_11.index t = ![0, 0] ∧
    win0_12.index t = ![0, 0] ∧ win0_13.index t = ![0, 0] ∧ win0_14.index t = ![t.val / 16, 0, 0, 0] ∧
    win0_15.index t = ![t.val / 16, 0, 0, 0] ∧ win0_16.index t = ![t.val / 16, 0, 0, 0] ∧ win0_17.index t = ![t.val / 16, 0, 0] :=
  (by decide +kernel : ∀ t : Fin grid0.N,
    win0_0.index t = ![t.val, 3] ∧ win0_1.index t = ![t.val, 4] ∧ win0_2.index t = ![t.val, 5] ∧ win0_3.index t = ![t.val, 0] ∧
    win0_4.index t = ![t.val, 0, 0] ∧ win0_5.index t = ![0, 0] ∧ win0_6.index t = ![0, 0] ∧ win0_7.index t = ![0, 0, 0] ∧
    win0_8.index t = ![0, 0, 0] ∧ win0_9.index t = ![0, 0, 0] ∧ win0_10.index t = ![0, 0] ∧ win0_11.index t = ![0, 0] ∧
    win0_12.index t = ![0, 0] ∧ win0_13.index t = ![0, 0] ∧ win0_14.index t = ![t.val / 16, 0, 0, 0] ∧
    win0_15.index t = ![t.val / 16, 0, 0, 0] ∧ win0_16.index t = ![t.val / 16, 0, 0, 0] ∧ win0_17.index t = ![t.val / 16, 0, 0]) t

theorem lt64 (t : Fin cfg0.N) : t.val < 64 := lt_of_lt_of_eq t.isLt N_0

/-- The sequence that a grid point is about. -/
def seq (t : Fin cfg0.N) : Fin 4 := ⟨t.val / 16, by have := lt64 t; omega⟩

/-- The block of 256 tokens that a grid point is about. -/
def blk (t : Fin cfg0.N) : Fin 16 := ⟨t.val % 16, Nat.mod_lt _ (by norm_num)⟩

theorem row_eq (t : Fin cfg0.N) (r : Fin 256) (h : 256 * t.val + r.val < 16384) :
    Data.row (seq t) (tokB (blk t) r) = ⟨256 * t.val + r.val, h⟩ := by
  apply Fin.ext
  simp only [Data.row, tokB, seq, blk]
  omega

/-! ## One window at a time -/

theorem in_x (t : Fin cfg0.N) (r : Fin 256) (s : Fin 512) : (iblk m c 0 t : Vec Ideal S256x512 .f32) (ix2 r s) =
    (dat m c).x (seq t) (tokB (blk t) r) s := by
  have ht := lt64 t
  rw [Data.x, row_eq t r (by omega)]
  show _ = m ((c : Thread nD τ).loc main_arg0) _
  blk_ext [iblk, V_main_arg0 m c, idx t]

theorem in_o (t : Fin cfg0.N) (r : Fin 256) (s : Fin 512) : (iblk m c 1 t : Vec Ideal S256x512 .f32) (ix2 r s) =
    (dat m c).ub (Data.row (seq t) (tokB (blk t) r)) ⟨2048 + s.val, by omega⟩ := by
  have ht := lt64 t
  rw [row_eq t r (by omega)]
  show _ = m ((c : Thread nD τ).loc main_arg0) _
  blk_ext [iblk, V_main_arg0 m c, idx t]

theorem in_z (t : Fin cfg0.N) (r : Fin 256) (s : Fin 512) : (iblk m c 2 t : Vec Ideal S256x512 .f32) (ix2 r s) =
    (dat m c).ub (Data.row (seq t) (tokB (blk t) r)) ⟨2560 + s.val, by omega⟩ := by
  have ht := lt64 t
  rw [row_eq t r (by omega)]
  show _ = m ((c : Thread nD τ).loc main_arg0) _
  blk_ext [iblk, V_main_arg0 m c, idx t]

theorem in_us (t : Fin cfg0.N) (r : Fin 256) (s : Fin 128) : (iblk m c 3 t : Vec Ideal S256x128 .f32) (ix2 r s) =
    (dat m c).us (Data.row (seq t) (tokB (blk t) r)) s := by
  have ht := lt64 t
  rw [row_eq t r (by omega)]
  show _ = m ((c : Thread nD τ).loc main_arg1) _
  blk_ext [iblk, V_main_arg1 m c, idx t]

theorem in_ust (t : Fin cfg0.N) (r : Fin 256) (s : Fin 8) : (iblk m c 4 t : Vec Ideal S1x8x256 .f32) (ix3 0 s r) =
    (dat m c).us (Data.row (seq t) (tokB (blk t) r)) ⟨16 + s.val, by omega⟩ := by
  have ht := lt64 t
  rw [row_eq t r (by omega)]
  show _ = m ((c : Thread nD τ).loc main_arg1) (ix2 _ _)
  rw [← v20_at m c ⟨t.val, ht⟩ s r]
  blk_ext [iblk, idx t]

theorem in_cw (t : Fin cfg0.N) (r : Fin 4) (s : Fin 512) : (iblk m c 5 t : Vec Ideal S4x512 .f32) (ix2 r s) =
    (dat m c).cw r s := by
  show _ = m ((c : Thread nD τ).loc main_arg2) _
  blk_ext [iblk, V_main_arg2 m c, idx t]

theorem in_cb (t : Fin cfg0.N) (s : Fin 512) : (iblk m c 6 t : Vec Ideal S1x512 .f32) (ix2 0 s) =
    (dat m c).cb s := by
  show _ = m ((c : Thread nD τ).loc main_arg3) (ix1 _)
  rw [← v11_at m c s]
  blk_ext [iblk, idx t]

theorem in_wq (t : Fin cfg0.N) (h : Fin 4) (r s : Fin 128) : (iblk m c 7 t : Vec Ideal S4x128x128 .bf16) (ix3 h r s) =
    (dat m c).wq h r s := by
  show _ = m ((c : Thread nD τ).loc main_arg4) (ix3 _ _ _)
  rw [← v12_at m c h r s]
  blk_ext [iblk, idx t]

theorem in_wk (t : Fin cfg0.N) (h : Fin 4) (r s : Fin 128) : (iblk m c 8 t : Vec Ideal S4x128x128 .bf16) (ix3 h r s) =
    (dat m c).wk h r s := by
  show _ = m ((c : Thread nD τ).loc main_arg5) (ix3 _ _ _)
  rw [← v13_at m c h r s]
  blk_ext [iblk, idx t]

theorem in_wv (t : Fin cfg0.N) (h : Fin 4) (r s : Fin 128) : (iblk m c 9 t : Vec Ideal S4x128x128 .bf16) (ix3 h r s) =
    (dat m c).wv h r s := by
  show _ = m ((c : Thread nD τ).loc main_arg6) (ix3 _ _ _)
  rw [← v14_at m c h r s]
  blk_ext [iblk, idx t]

theorem in_bi (t : Fin cfg0.N) (h : Fin 4) : (iblk m c 10 t : Vec Ideal S1x128 .f32) (ix2 0 ⟨16 + h.val, by omega⟩) =
    (dat m c).bi h := by
  show _ = m ((c : Thread nD τ).loc main_arg7) (ix1 _)
  rw [← v8_lo m c h]
  blk_ext [iblk, idx t]

theorem in_bf (t : Fin cfg0.N) (h : Fin 4) : (iblk m c 10 t : Vec Ideal S1x128 .f32) (ix2 0 ⟨20 + h.val, by omega⟩) =
    (dat m c).bf h := by
  show _ = m ((c : Thread nD τ).loc main_arg8) (ix1 _)
  rw [← v8_hi m c h]
  blk_ext [iblk, idx t]

theorem in_bi' (t : Fin cfg0.N) (h : Fin 4) : (iblk m c 11 t : Vec Ideal S8x1 .f32) (ix2 ⟨h.val, by omega⟩ 0) =
    (dat m c).bi h := by
  show _ = m ((c : Thread nD τ).loc main_arg7) (ix1 _)
  rw [← v10_lo m c h]
  blk_ext [iblk, idx t]

theorem in_bf' (t : Fin cfg0.N) (h : Fin 4) : (iblk m c 11 t : Vec Ideal S8x1 .f32) (ix2 ⟨4 + h.val, by omega⟩ 0) =
    (dat m c).bf h := by
  show _ = m ((c : Thread nD τ).loc main_arg8) (ix1 _)
  rw [← v10_hi m c h]
  blk_ext [iblk, idx t]

theorem in_nrm (t : Fin cfg0.N) (s : Fin 128) : (iblk m c 12 t : Vec Ideal S1x128 .f32) (ix2 0 s) =
    (dat m c).nrm s := by
  show _ = m ((c : Thread nD τ).loc main_arg9) (ix1 _)
  rw [← v15_at m c s]
  blk_ext [iblk, idx t]

theorem in_sk (t : Fin cfg0.N) (s : Fin 512) : (iblk m c 13 t : Vec Ideal S1x512 .f32) (ix2 0 s) =
    (dat m c).sk s := by
  show _ = m ((c : Thread nD τ).loc main_arg10) (ix1 _)
  rw [← v16_at m c s]
  blk_ext [iblk, idx t]

/-- At grid point `t` the call reads block `blk t` of sequence `seq t`. -/
theorem inputs (t : Fin cfg0.N) :
    Inputs (dat m c) (seq t) (blk t) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t) (iblk m c 13 t) :=
  ⟨in_x m c t, in_o m c t, in_z m c t, in_us m c t, in_ust m c t, in_cw m c t, in_cb m c t, in_wq m c t,
    in_wk m c t, in_wv m c t, in_bi m c t, in_bf m c t, in_bi' m c t, in_bf' m c t, in_nrm m c t, in_sk m c t⟩

/-! ## The states that a sequence starts from -/

theorem first_m (t : Fin cfg0.N) (h : Fin 4) (x : Fin 128) : k0_pay8 (iblk m c 16 t) (ix3 h 0 x) = (dat m c).m0 (seq t) h := by
  show _ = m ((c : Thread nD τ).loc main_arg13) (ix2 _ _)
  rw [← v23_at m c (seq t) h x]
  unfold k0_pay8
  pointwise
  unfold seq
  blk_ext [iblk, idx t]

theorem first_n (t : Fin cfg0.N) (h : Fin 4) (x : Fin 128) : k0_pay7 (iblk m c 15 t) (ix3 h 0 x) = (dat m c).n0 (seq t) h x := by
  show _ = m ((c : Thread nD τ).loc main_arg12) (ix3 _ _ _)
  rw [← v21_at m c (seq t) h x]
  unfold k0_pay7
  pointwise
  unfold seq
  blk_ext [iblk, idx t]

theorem first_c (t : Fin cfg0.N) (h : Fin 4) (r s : Fin 128) : k0_pay6 (iblk m c 14 t) (ix3 h r s) = (dat m c).c0 (seq t) h r s := by
  show _ = m ((c : Thread nD τ).loc main_arg11) (ix4 _ _ _ _)
  unfold k0_pay6
  pointwise
  unfold seq
  blk_ext [iblk, V_main_arg11 m c, idx t]

theorem first_tail (t : Fin cfg0.N) : Before (dat m c) (seq t) 0 (k0_pay5 (iblk m c 17 t)) := by
  intro j s hj
  unfold Data.pre
  rw [dif_pos (by show 256 * 0 + j.val < 3; omega)]
  show _ = m ((c : Thread nD τ).loc main_arg14) (ix3 _ _ _)
  rw [← v24_at m c (seq t) _ s]
  unfold k0_pay5
  pointwise
  unfold seq
  blk_ext [iblk, idx t]

end Cert.KernelIdeal.Mlstm
-- ==== Proof.Mlstm.Cases.lean ====
/- What one grid point leaves in its scratch buffers and in its results, in each of the three cases of the grid: the first
   block of a sequence starts from the state given to the kernel, the others from what the block before left, and the last one also
   stores the state. Each is the function of the block's inputs that the steps give. -/
module

public import proofs.«01_k».proof.Proof.Mlstm.Steps

@[expose] public section

set_option maxRecDepth 16384
set_option maxHeartbeats 2000000

noncomputable section

namespace Cert.KernelIdeal.Mlstm

open Idealize.ShloMosaic Idealize.ShloMosaic.TcCoe Idealize.ShloMosaic.Tactic
open Idealize.SL Idealize.SL.RA Idealize.SL.BI Cert.KernelIdeal Cert.KernelIdeal.Gen
open Idealize.ShloMosaic.Pipeline (Dat Cfg Window BodyObligation cellOf)

variable {F : FTy → Type} [FloatOps F]
variable (c : Dev nD) (i : grid0.Coords) (arg2 : Memref sig .tc .vmem S256x512 .f32) (harg2 : arg2.IsWhole) (arg3 : Memref sig .tc .vmem S256x512
  .f32) (harg3 : arg3.IsWhole) (arg4 : Memref sig .tc .vmem S256x512 .f32) (harg4 : arg4.IsWhole) (arg5 : Memref sig .tc .vmem S256x128 .f32) (harg5 :
  arg5.IsWhole) (arg6 : Memref sig .tc .vmem S1x8x256 .f32) (harg6 : arg6.IsWhole) (arg7 : Memref sig .tc .vmem S4x512 .f32) (harg7 : arg7.IsWhole)
  (arg8 : Memref sig .tc .vmem S1x512 .f32) (harg8 : arg8.IsWhole) (arg9 : Memref sig .tc .vmem S4x128x128 .bf16) (harg9 : arg9.IsWhole) (arg10 :
  Memref sig .tc .vmem S4x128x128 .bf16) (harg10 : arg10.IsWhole) (arg11 : Memref sig .tc .vmem S4x128x128 .bf16) (harg11 : arg11.IsWhole) (arg12 :
  Memref sig .tc .vmem S1x128 .f32) (harg12 : arg12.IsWhole) (arg13 : Memref sig .tc .vmem S8x1 .f32) (harg13 : arg13.IsWhole) (arg14 : Memref sig .tc
  .vmem S1x128 .f32) (harg14 : arg14.IsWhole) (arg15 : Memref sig .tc .vmem S1x512 .f32) (harg15 : arg15.IsWhole) (arg16 : Memref sig .tc .vmem
  S1x4x128x128 .f32) (harg16 : arg16.IsWhole) (arg17 : Memref sig .tc .vmem S1x4x1x128 .f32) (harg17 : arg17.IsWhole) (arg18 : Memref sig .tc .vmem
  S1x4x1x128 .f32) (harg18 : arg18.IsWhole) (arg19 : Memref sig .tc .vmem S1x8x512 .f32) (harg19 : arg19.IsWhole) (arg20 : Memref sig .tc .vmem
  S256x512 .f32) (harg20 : arg20.IsWhole) (arg21 : Memref sig .tc .vmem S1x4x128x128 .f32) (harg21 : arg21.IsWhole) (arg22 : Memref sig .tc .vmem
  S1x4x1x128 .f32) (harg22 : arg22.IsWhole) (arg23 : Memref sig .tc .vmem S1x4x1x128 .f32) (harg23 : arg23.IsWhole) (arg24 : Memref sig .tc .vmem
  S1x8x512 .f32) (harg24 : arg24.IsWhole) (arg25 : Memref sig .tc .vmem S264x512 .f32) (harg25 : arg25.IsWhole) (arg26 : Memref sig .tc .vmem
  S4x128x128 .f32) (harg26 : arg26.IsWhole) (arg27 : Memref sig .tc .vmem S4x1x128 .f32) (harg27 : arg27.IsWhole) (arg28 : Memref sig .tc .vmem
  S4x1x128 .f32) (harg28 : arg28.IsWhole) (x0 : Vec F S256x512 .f32) (x1 : Vec F S256x512 .f32) (x2 : Vec F S256x512 .f32) (x3 : Vec F S256x128 .f32)
  (x4 : Vec F S1x8x256 .f32) (x5 : Vec F S4x512 .f32) (x6 : Vec F S1x512 .f32) (x7 : Vec F S4x128x128 .bf16) (x8 : Vec F S4x128x128 .bf16) (x9 : Vec F
  S4x128x128 .bf16) (x10 : Vec F S1x128 .f32) (x11 : Vec F S8x1 .f32) (x12 : Vec F S1x128 .f32) (x13 : Vec F S1x512 .f32) (x14 : Vec F S1x4x128x128
  .f32) (x15 : Vec F S1x4x1x128 .f32) (x16 : Vec F S1x4x1x128 .f32) (x17 : Vec F S1x8x512 .f32) (xs0 : Vec F S264x512 .f32) (xs1 : Vec F S4x128x128
  .f32) (xs2 : Vec F S4x1x128 .f32) (xs3 : Vec F S4x1x128 .f32)

theorem stab_A (hc0 : cond0_0 i) (hc1 : ¬cond0_1 i) :
    sout0_A_3
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17
      = blkM x3 x4 x10 x11 (k0_pay8 x16) := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread]
  exact canon_glue1 (fun h => mSt (gateF x3 x10) (gateT x4 x11) (k0_pay8 x16) h 4) _

theorem norm_A (hc0 : cond0_0 i) (hc1 : ¬cond0_1 i) :
    sout0_A_2
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17
      = blkN (conved (k0_pay5 x17) (k0_pay9 x0) x5 x6) x3 x4 x8 x10 x11 (k0_pay8 x16) (k0_pay7 x15) := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread, cov_body, fold_conved]
  generalize conved (F := F) _ _ _ _ = X
  exact canon_glue1 (fun h => nSt (gateI x3 x10) (gateF x3 x10) (gateT x4 x11) (keys X x8 h) (k0_pay8 x16) (k0_pay7 x15) h 4) _

theorem mat_A (hc0 : cond0_0 i) (hc1 : ¬cond0_1 i) :
    sout0_A_1
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17
      = blkC (conved (k0_pay5 x17) (k0_pay9 x0) x5 x6) x0 x3 x4 x8 x9 x10 x11 (k0_pay8 x16) (k0_pay6 x14) := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread, cov_body, fold_conved]
  generalize conved (F := F) _ _ _ _ = X
  exact canon_glue3 (fun h => cSt (gateI x3 x10) (gateF x3 x10) (gateT x4 x11) (keys X x8 h) (proj x0 x9 h) (k0_pay8 x16) (k0_pay6 x14) h 4) _

theorem tail_A (hc0 : cond0_0 i) (hc1 : ¬cond0_1 i) :
    kept (sout0_A_0
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17)
      = k0_pay11 (tailOf (k0_pay9 x0)) := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread]
  refine kept_canon _ _ fun z => ?_
  rw [cov_tail]
  exact View.canon_cons_emb _ _ _ z

theorem res_A (hc0 : cond0_0 i) (hc1 : ¬cond0_1 i) :
    out0_A_18
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17
      = blkO (conved (k0_pay5 x17) (k0_pay9 x0) x5 x6) x0 x1 x2 x3 x4 x7 x8 x9 x10 x11 x12 x13 (k0_pay8 x16) (k0_pay7 x15) (k0_pay6 x14) := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread, cov_body, fold_conved]
  generalize conved (F := F) _ _ _ _ = X
  exact canon_glue2 (fun c h => outT (gateI x3 x10) (gateF x3 x10) (gateT x4 x11) (proj X x7 h) (keys X x8 h) (proj x0 x9 h) (k0_pay8 x16) (k0_pay7 x15) (k0_pay6 x14) x1 x2 x12 x13 X c h)

theorem stab_B (hc0 : ¬cond0_0 i) (hc1 : ¬cond0_1 i) :
    sout0_B_3
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17 xs0 xs1 xs2 xs3
      = blkM x3 x4 x10 x11 xs3 := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread]
  exact canon_glue1 (fun h => mSt (gateF x3 x10) (gateT x4 x11) xs3 h 4) _

theorem norm_B (hc0 : ¬cond0_0 i) (hc1 : ¬cond0_1 i) :
    sout0_B_2
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17 xs0 xs1 xs2 xs3
      = blkN (conved (kept xs0) (k0_pay9 x0) x5 x6) x3 x4 x8 x10 x11 xs3 xs2 := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread, read_body, fold_conved]
  generalize conved (F := F) _ _ _ _ = X
  exact canon_glue1 (fun h => nSt (gateI x3 x10) (gateF x3 x10) (gateT x4 x11) (keys X x8 h) xs3 xs2 h 4) _

theorem mat_B (hc0 : ¬cond0_0 i) (hc1 : ¬cond0_1 i) :
    sout0_B_1
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17 xs0 xs1 xs2 xs3
      = blkC (conved (kept xs0) (k0_pay9 x0) x5 x6) x0 x3 x4 x8 x9 x10 x11 xs3 xs1 := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread, read_body, fold_conved]
  generalize conved (F := F) _ _ _ _ = X
  exact canon_glue3 (fun h => cSt (gateI x3 x10) (gateF x3 x10) (gateT x4 x11) (keys X x8 h) (proj x0 x9 h) xs3 xs1 h 4) _

theorem tail_B (hc0 : ¬cond0_0 i) (hc1 : ¬cond0_1 i) :
    kept (sout0_B_0
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17 xs0 xs1 xs2 xs3)
      = k0_pay11 (tailOf (k0_pay9 x0)) := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread]
  refine kept_canon _ _ fun z => ?_
  rw [cov_tail]
  exact View.canon_cons_emb _ _ _ z

theorem res_B (hc0 : ¬cond0_0 i) (hc1 : ¬cond0_1 i) :
    out0_B_18
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17 xs0 xs1 xs2 xs3
      = blkO (conved (kept xs0) (k0_pay9 x0) x5 x6) x0 x1 x2 x3 x4 x7 x8 x9 x10 x11 x12 x13 xs3 xs2 xs1 := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread, read_body, fold_conved]
  generalize conved (F := F) _ _ _ _ = X
  exact canon_glue2 (fun c h => outT (gateI x3 x10) (gateF x3 x10) (gateT x4 x11) (proj X x7 h) (keys X x8 h) (proj x0 x9 h) xs3 xs2 xs1 x1 x2 x12 x13 X c h)

theorem stab_C (hc0 : ¬cond0_0 i) (hc1 : cond0_1 i) :
    sout0_C_3
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17 xs0 xs1 xs2 xs3
      = blkM x3 x4 x10 x11 xs3 := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread]
  exact canon_glue1 (fun h => mSt (gateF x3 x10) (gateT x4 x11) xs3 h 4) _

theorem norm_C (hc0 : ¬cond0_0 i) (hc1 : cond0_1 i) :
    sout0_C_2
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17 xs0 xs1 xs2 xs3
      = blkN (conved (kept xs0) (k0_pay9 x0) x5 x6) x3 x4 x8 x10 x11 xs3 xs2 := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread, read_body, fold_conved]
  generalize conved (F := F) _ _ _ _ = X
  exact canon_glue1 (fun h => nSt (gateI x3 x10) (gateF x3 x10) (gateT x4 x11) (keys X x8 h) xs3 xs2 h 4) _

theorem mat_C (hc0 : ¬cond0_0 i) (hc1 : cond0_1 i) :
    sout0_C_1
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17 xs0 xs1 xs2 xs3
      = blkC (conved (kept xs0) (k0_pay9 x0) x5 x6) x0 x3 x4 x8 x9 x10 x11 xs3 xs1 := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread, read_body, fold_conved]
  generalize conved (F := F) _ _ _ _ = X
  exact canon_glue3 (fun h => cSt (gateI x3 x10) (gateF x3 x10) (gateT x4 x11) (keys X x8 h) (proj x0 x9 h) xs3 xs1 h 4) _

theorem tail_C (hc0 : ¬cond0_0 i) (hc1 : cond0_1 i) :
    kept (sout0_C_0
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17 xs0 xs1 xs2 xs3)
      = k0_pay11 (tailOf (k0_pay9 x0)) := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread]
  refine kept_canon _ _ fun z => ?_
  rw [cov_tail]
  exact View.canon_cons_emb _ _ _ z

theorem res_C (hc0 : ¬cond0_0 i) (hc1 : cond0_1 i) :
    out0_C_18
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17 xs0 xs1 xs2 xs3
      = blkO (conved (kept xs0) (k0_pay9 x0) x5 x6) x0 x1 x2 x3 x4 x7 x8 x9 x10 x11 x12 x13 xs3 xs2 xs1 := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread, read_body, fold_conved]
  generalize conved (F := F) _ _ _ _ = X
  exact canon_glue2 (fun c h => outT (gateI x3 x10) (gateF x3 x10) (gateT x4 x11) (proj X x7 h) (keys X x8 h) (proj x0 x9 h) xs3 xs2 xs1 x1 x2 x12 x13 X c h)

theorem matOut_C (hc0 : ¬cond0_0 i) (hc1 : cond0_1 i) :
    out0_C_19
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17 xs0 xs1 xs2 xs3
      = k0_pay1 (blkC (conved (kept xs0) (k0_pay9 x0) x5 x6) x0 x3 x4 x8 x9 x10 x11 xs3 xs1) := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread, read_body, fold_conved]
  generalize conved (F := F) _ _ _ _ = X
  exact congrArg k0_pay1 (cov_glue3 (fun h => cSt (gateI x3 x10) (gateF x3 x10) (gateT x4 x11) (keys X x8 h) (proj x0 x9 h) xs3 xs1 h 4) _ _)

theorem normOut_C (hc0 : ¬cond0_0 i) (hc1 : cond0_1 i) :
    out0_C_20
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17 xs0 xs1 xs2 xs3
      = k0_pay2 (blkN (conved (kept xs0) (k0_pay9 x0) x5 x6) x3 x4 x8 x10 x11 xs3 xs2) := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread, read_body, fold_conved]
  generalize conved (F := F) _ _ _ _ = X
  exact congrArg k0_pay2 (cov_glue1 (fun h => nSt (gateI x3 x10) (gateF x3 x10) (gateT x4 x11) (keys X x8 h) xs3 xs2 h 4) _ _)

theorem stabOut_C (hc0 : ¬cond0_0 i) (hc1 : cond0_1 i) :
    out0_C_21
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17 xs0 xs1 xs2 xs3
      = k0_pay3 (blkM x3 x4 x10 x11 xs3) := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread]
  exact congrArg k0_pay3 (cov_glue1 (fun h => mSt (gateF x3 x10) (gateT x4 x11) xs3 h 4) _ _)

theorem tailOut_C (hc0 : ¬cond0_0 i) (hc1 : cond0_1 i) :
    out0_C_22
      c i arg2 harg2 arg3 harg3 arg4 harg4 arg5 harg5 arg6 harg6 arg7 harg7 arg8 harg8 arg9 harg9 arg10 harg10 arg11 harg11 arg12 harg12 arg13 harg13
      arg14 harg14 arg15 harg15 arg16 harg16 arg17 harg17 arg18 harg18 arg19 harg19 arg20 harg20 arg21 harg21 arg22 harg22 arg23 harg23 arg24 harg24
      arg25 harg25 arg26 harg26 arg27 harg27 arg28 harg28 hc0 hc1 x0 x1 x2 x3 x4 x5 x6 x7 x8 x9 x10 x11 x12 x13 x14 x15 x16 x17 xs0 xs1 xs2 xs3
      = k0_pay4 (k0_pay11 (tailOf (k0_pay9 x0))) := by
  frame_open
  simp (disch := decide) only [↓ View.readCov_skip, ↓ View.readCov_cons_toLoadRect, ↓ View.readCov_fill]
  simp (disch := decide) only [View.read_writes_junk_eq_canon, View.canon_cons_unit_lit',
    View.ld_unit_lit', View.readCov_unit_lit', View.readCov_cons_unit_lit', View.readAt_eq_ld,
    Memref.IsWhole.read_unread]
  rw [cov_tail]

end Cert.KernelIdeal.Mlstm
-- ==== Proof.Mlstm.Sweep.lean ====
/-
  The call from grid point to grid point: what the scratch buffers and the blocks of the results hold after each.
-/
module

public import proofs.«01_k».proof.Proof.Mlstm.Blocks
public import proofs.«01_k».proof.Proof.Mlstm.Cases
public import proofs.«01_k».proof.Proof.Gen.KernelIdeal.Value

@[expose] public section

set_option maxRecDepth 16384

noncomputable section

namespace Cert.KernelIdeal.Mlstm

open Idealize.ShloMosaic Idealize.ShloMosaic.TcCoe Idealize.ShloMosaic.Tactic Cert.KernelIdeal Cert.KernelIdeal.Gen
open Idealize.ShloMosaic.StableHlo Cert.KernelIdeal.Value
open Cert.Mlstm (Head Data)

/-- What a grid point leaves: a block of each result, then the scratch buffers. -/
abbrev Left : Type :=
  Vec Ideal S256x512 .f32 × Vec Ideal S1x4x128x128 .f32 × Vec Ideal S1x4x1x128 .f32 × Vec Ideal S1x4x1x128 .f32 ×
    Vec Ideal S1x8x512 .f32 × Vec Ideal S264x512 .f32 × Vec Ideal S4x128x128 .f32 × Vec Ideal S4x1x128 .f32 × Vec Ideal S4x1x128 .f32

/-- The scratch buffers hold the states before block `k` of sequence `b`. -/
structure Ready (D : Data) (b : Fin 4) (k : ℕ) (a : Left) : Prop where
  tail : Before D b k (kept a.2.2.2.2.2.1)
  c : ∀ h r s, a.2.2.2.2.2.2.1 (ix3 h r s) = (D.head b h).c (4 * k) r s
  n : ∀ h s, a.2.2.2.2.2.2.2.1 (ix3 h 0 s) = (D.head b h).n (4 * k) s
  m : ∀ h x, a.2.2.2.2.2.2.2.2 (ix3 h 0 x) = (D.head b h).m (4 * k)

/-- The block of the result is that of block `tt` of sequence `b`. -/
def Result (D : Data) (b : Fin 4) (tt : Fin 16) (a : Left) : Prop :=
  ∀ (c h : Fin 4) (r : Fin 64) (e : Fin 128),
    a.1 (ix2 ⟨64 * c.val + r.val, by omega⟩ ⟨128 * h.val + e.val, by omega⟩) = D.result b h (4 * tt.val + c.val) r e

/-- The blocks of the last states are those after block `k - 1` of sequence `b`. -/
structure Last (D : Data) (b : Fin 4) (k : ℕ) (a : Left) : Prop where
  c : ∀ h r s, a.2.1 (ix4 0 h r s) = (D.head b h).c (4 * k) r s
  n : ∀ h s, a.2.2.1 (ix4 0 h 0 s) = (D.head b h).n (4 * k) s
  m : ∀ h x, a.2.2.2.1 (ix4 0 h 0 x) = (D.head b h).m (4 * k)
  tail : ∀ (j : Fin 8) (s : Fin 512) (hj : 256 * k - 8 + j.val < 4096), a.2.2.2.2.1 (ix3 0 j s) = D.x b ⟨256 * k - 8 + j.val, hj⟩ s

section Step

variable {D : Data} {b : Fin 4} {tt : Fin 16} {x0 x1 x2 : Vec Ideal S256x512 .f32} {x3 : Vec Ideal S256x128 .f32}
    {x4 : Vec Ideal S1x8x256 .f32} {x5 : Vec Ideal S4x512 .f32} {x6 : Vec Ideal S1x512 .f32}
    {x7 x8 x9 : Vec Ideal S4x128x128 .bf16} {x10 : Vec Ideal S1x128 .f32} {x11 : Vec Ideal S8x1 .f32}
    {x12 : Vec Ideal S1x128 .f32} {x13 : Vec Ideal S1x512 .f32} (hI : Inputs D b tt x0 x1 x2 x3 x4 x5 x6 x7 x8 x9 x10 x11 x12 x13)
    {P : Vec Ideal S8x512 .f32} {M N : Vec Ideal S4x1x128 .f32} {C : Vec Ideal S4x128x128 .f32}
    (hp : Before D b tt.val P) (hM : ∀ h x, M (ix3 h 0 x) = (D.head b h).m (4 * tt.val))
    (hN : ∀ h s, N (ix3 h 0 s) = (D.head b h).n (4 * tt.val) s) (hC : ∀ h r s, C (ix3 h r s) = (D.head b h).c (4 * tt.val) r s)
include hI hp hM hN hC

/-- A block, from the states before it: the result and the states after it. -/
theorem step_of {a : Left}
    (e : a.1 = blkO (conved P (k0_pay9 x0) x5 x6) x0 x1 x2 x3 x4 x7 x8 x9 x10 x11 x12 x13 M N C)
    (e0 : kept a.2.2.2.2.2.1 = k0_pay11 (tailOf (k0_pay9 x0)))
    (e1 : a.2.2.2.2.2.2.1 = blkC (conved P (k0_pay9 x0) x5 x6) x0 x3 x4 x8 x9 x10 x11 M C)
    (e2 : a.2.2.2.2.2.2.2.1 = blkN (conved P (k0_pay9 x0) x5 x6) x3 x4 x8 x10 x11 M N)
    (e3 : a.2.2.2.2.2.2.2.2 = blkM x3 x4 x10 x11 M) : Result D b tt a ∧ Ready D b (tt.val + 1) a :=
  ⟨fun c h r s => by rw [e]; exact blkO_H hI hp hM hN hC c h r s,
    ⟨by rw [e0]; exact tail_H hI, fun h r s => by rw [e1]; exact blkC_H hI hp hM hC h r s,
      fun h s => by rw [e2]; exact blkN_H hI hp hM hN h s, fun h x => by rw [e3]; exact blkM_H hI hM h x⟩⟩

/-- The last block of a sequence also writes the states after it. -/
theorem last_of {a : Left}
    (e1 : a.2.1 = k0_pay1 (blkC (conved P (k0_pay9 x0) x5 x6) x0 x3 x4 x8 x9 x10 x11 M C))
    (e2 : a.2.2.1 = k0_pay2 (blkN (conved P (k0_pay9 x0) x5 x6) x3 x4 x8 x10 x11 M N))
    (e3 : a.2.2.2.1 = k0_pay3 (blkM x3 x4 x10 x11 M))
    (e4 : a.2.2.2.2.1 = k0_pay4 (k0_pay11 (tailOf (k0_pay9 x0)))) : Last D b (tt.val + 1) a where
  c h r s := by
    rw [e1, ← blkC_H hI hp hM hC h r s]
    generalize blkC (conved P (k0_pay9 x0) x5 x6) x0 x3 x4 x8 x9 x10 x11 M C = X
    pointwise [k0_pay1]
  n h s := by
    rw [e2, ← blkN_H hI hp hM hN h s]
    generalize blkN (conved P (k0_pay9 x0) x5 x6) x3 x4 x8 x10 x11 M N = X
    pointwise [k0_pay2]
  m h x := by
    rw [e3, ← blkM_H hI hM h x]
    generalize blkM x3 x4 x10 x11 M = X
    pointwise [k0_pay3]
  tail j s hj := by
    rw [e4]
    pointwise [k0_pay4, k0_pay11, tailOf, k0_pay9]
    rw [hI.x]
    congr 1
    exact Fin.ext (by simp only [tokB]; omega)

end Step

variable (m : (ℓ : Loc nD τ sig) → Buf (Elt Ideal) ℓ) (c : Dev nD)

/-- The first block of a sequence starts from the states that the layer is given. -/
theorem step_A (t : Fin cfg0.N) (acc : Left) (h0 : t.val % 16 = 0) (h1 : ¬t.val % 16 = 15) :
    Result (dat m c) (seq t) (blk t) (stAt0 m c t.val t.isLt acc) ∧ Ready (dat m c) (seq t) ((blk t).val + 1) (stAt0 m c t.val t.isLt acc) := by
  have z : (blk t).val = 0 := h0
  rw [stAt0_A m c t acc h0 h1]
  refine step_of (P := k0_pay5 (iblk m c 17 t)) (M := k0_pay8 (iblk m c 16 t)) (N := k0_pay7 (iblk m c 15 t))
    (C := k0_pay6 (iblk m c 14 t)) (inputs m c t) (by rw [z]; exact first_tail m c t) (fun h x => by rw [z]; exact first_m m c t h x)
    (fun h s => by rw [z]; exact first_n m c t h s) (fun h r s => by rw [z]; exact first_c m c t h r s) ?_ ?_ ?_ ?_ ?_
  · dsimp only; rw [res_A]
  · dsimp only; rw [tail_A]
  · dsimp only; rw [mat_A]
  · dsimp only; rw [norm_A]
  · dsimp only; rw [stab_A]

/-- A later block takes the states that the block before left. -/
theorem step_B (t : Fin cfg0.N) (acc : Left) (h0 : ¬t.val % 16 = 0) (h1 : ¬t.val % 16 = 15) (ha : Ready (dat m c) (seq t) (blk t).val acc) :
    Result (dat m c) (seq t) (blk t) (stAt0 m c t.val t.isLt acc) ∧ Ready (dat m c) (seq t) ((blk t).val + 1) (stAt0 m c t.val t.isLt acc) := by
  rw [stAt0_B m c t acc h0 h1]
  refine step_of (inputs m c t) ha.tail ha.m ha.n ha.c ?_ ?_ ?_ ?_ ?_
  · dsimp only; rw [res_B]
  · dsimp only; rw [tail_B]
  · dsimp only; rw [mat_B]
  · dsimp only; rw [norm_B]
  · dsimp only; rw [stab_B]

/-- The last block of a sequence is a later block. -/
theorem step_C (t : Fin cfg0.N) (acc : Left) (h0 : ¬t.val % 16 = 0) (h1 : t.val % 16 = 15) (ha : Ready (dat m c) (seq t) (blk t).val acc) :
    Result (dat m c) (seq t) (blk t) (stAt0 m c t.val t.isLt acc) ∧ Ready (dat m c) (seq t) ((blk t).val + 1) (stAt0 m c t.val t.isLt acc) := by
  rw [stAt0_C m c t acc h0 h1]
  refine step_of (inputs m c t) ha.tail ha.m ha.n ha.c ?_ ?_ ?_ ?_ ?_
  · dsimp only; rw [res_C]
  · dsimp only; rw [tail_C]
  · dsimp only; rw [mat_C]
  · dsimp only; rw [norm_C]
  · dsimp only; rw [stab_C]

/-- The last block of a sequence also writes the last states. -/
theorem last_C (t : Fin cfg0.N) (acc : Left) (h0 : ¬t.val % 16 = 0) (h1 : t.val % 16 = 15) (ha : Ready (dat m c) (seq t) (blk t).val acc) :
    Last (dat m c) (seq t) ((blk t).val + 1) (stAt0 m c t.val t.isLt acc) := by
  rw [stAt0_C m c t acc h0 h1]
  refine last_of (inputs m c t) ha.tail ha.m ha.n ha.c ?_ ?_ ?_ ?_
  · dsimp only; rw [matOut_C]
  · dsimp only; rw [normOut_C]
  · dsimp only; rw [stabOut_C]
  · dsimp only; rw [tailOut_C]

/-- After every grid point its block of the result is there, and the states after it. -/
theorem sweep (n : ℕ) (hn : n < cfg0.N) :
    Result (dat m c) (seq ⟨n, hn⟩) (blk ⟨n, hn⟩) (outsAt0 m c n hn) ∧
      Ready (dat m c) (seq ⟨n, hn⟩) ((blk ⟨n, hn⟩).val + 1) (outsAt0 m c n hn) := by
  induction n with
  | zero =>
    rw [outsAt0_zero]
    exact step_A m c ⟨0, hn⟩ junk0 (by norm_num) (by norm_num)
  | succ n ih =>
    rw [outsAt0_succ]
    by_cases h0 : (n + 1) % 16 = 0
    · exact step_A m c ⟨n + 1, hn⟩ _ h0 (by show ¬(n + 1) % 16 = 15; omega)
    · have hr := (ih (by omega)).2
      have e1 : seq ⟨n, by omega⟩ = seq ⟨n + 1, hn⟩ := Fin.ext (by simp only [seq]; omega)
      have e2 : (blk ⟨n, by omega⟩).val + 1 = (blk ⟨n + 1, hn⟩).val := by simp only [blk]; omega
      rw [e1, e2] at hr
      by_cases h1 : (n + 1) % 16 = 15
      · exact step_C m c ⟨n + 1, hn⟩ _ h0 h1 hr
      · exact step_B m c ⟨n + 1, hn⟩ _ h0 h1 hr

/-- At the last block of a sequence the last states are written. -/
theorem sweep_last (n : ℕ) (hn : n < cfg0.N) (h1 : n % 16 = 15) : Last (dat m c) (seq ⟨n, hn⟩) 16 (outsAt0 m c n hn) := by
  obtain ⟨k, rfl⟩ : ∃ k, n = k + 1 := ⟨n - 1, by omega⟩
  rw [outsAt0_succ]
  have hr := (sweep m c k (by omega)).2
  have e1 : seq ⟨k, by omega⟩ = seq ⟨k + 1, hn⟩ := Fin.ext (by simp only [seq]; omega)
  have e2 : (blk ⟨k, by omega⟩).val + 1 = (blk ⟨k + 1, hn⟩).val := by simp only [blk]; omega
  rw [e1, e2] at hr
  have h := last_C m c ⟨k + 1, hn⟩ _ (by show ¬(k + 1) % 16 = 0; omega) h1 hr
  have e3 : (blk ⟨k + 1, hn⟩).val + 1 = 16 := by simp only [blk]; omega
  rwa [e3] at h

/-! ## The arrays after the call -/

/-- The result, at token `256 tt + 64 k + r` of sequence `b` and column `e` of head `h`. -/
theorem out_at (b : Fin 4) (tt : Fin 16) (k h : Fin 4) (r : Fin 64) (e : Fin 128) (i : S16384x512.Idx)
    (h0 : (i 0).val = 256 * (16 * b.val + tt.val) + (64 * k.val + r.val)) (h1 : (i 1).val = 128 * h.val + e.val) :
    G18 m c i = (dat m c).result b h (4 * tt.val + k.val) r e := by
  have hn : 16 * b.val + tt.val < cfg0.N := lt_of_lt_of_eq (by omega) N_0.symm
  have hp : pt18Of i = 16 * b.val + tt.val := by
    show 1 * ((i 0).val / 256 - 0) + 1 * ((i 1).val / 512 - 0) = _; omega
  have hl : loc18Of i = ix2 ⟨64 * k.val + r.val, by omega⟩ ⟨128 * h.val + e.val, by omega⟩ := by
    funext a
    match a with
    | ⟨0, _⟩ => exact Fin.ext (by show (i 0).val % 256 = 64 * k.val + r.val; omega)
    | ⟨1, _⟩ => exact Fin.ext (by show (i 1).val % 512 = 128 * h.val + e.val; omega)
  have key := (sweep m c _ hn).1 k h r e
  have es : seq ⟨16 * b.val + tt.val, hn⟩ = b := Fin.ext (by simp only [seq]; omega)
  have eb : blk ⟨16 * b.val + tt.val, hn⟩ = tt := Fin.ext (by simp only [blk]; omega)
  rw [outsAt0_sweep, es, eb] at key
  unfold G18
  rw [dif_pos (by rw [hp]; exact hn), ← key, hl]
  exact congrArg (fun a : Left => a.1 _) (fold0_congr m c _ _ _ _ hp)

/-- The last matrix states. -/
theorem matOut_at (i : S4x4x128x128.Idx) : G19 m c i = ((dat m c).head (i 0) (i 1)).c 64 (i 2) (i 3) := by
  have b0 : (i 0).val < 4 := (i 0).isLt
  have b1 : (i 1).val < 4 := (i 1).isLt
  have b2 : (i 2).val < 128 := (i 2).isLt
  have b3 : (i 3).val < 128 := (i 3).isLt
  have hn : 16 * (i 0).val + 15 < cfg0.N := lt_of_lt_of_eq (by omega) N_0.symm
  have hp : pt19Of i = 16 * (i 0).val + 15 := by
    show 16 * (1 * ((i 0).val / 1 - 0) + 1 * ((i 1).val / 4 - 0) + 1 * ((i 2).val / 128 - 0) + 1 * ((i 3).val / 128 - 0)) + 15 = _; omega
  have key := (sweep_last m c _ hn (by omega)).c (i 1) (i 2) (i 3)
  have es : seq ⟨16 * (i 0).val + 15, hn⟩ = i 0 := Fin.ext (by simp only [seq]; omega)
  rw [outsAt0_sweep, es] at key
  unfold G19
  rw [dif_pos (by rw [hp]; exact hn)]
  refine ((congrArg (fun a : Left => a.2.1 (loc19Of i)) (fold0_congr m c _ _ _ (by rw [Nat.zero_add]; exact hn) hp)).trans ?_).trans key
  refine congrArg _ (funext fun a => ?_)
  match a with
  | ⟨0, _⟩ => exact Fin.ext (by show (i 0).val % 1 = 0; omega)
  | ⟨1, _⟩ => exact Fin.ext (by show (i 1).val % 4 = (i 1).val; omega)
  | ⟨2, _⟩ => exact Fin.ext (by show (i 2).val % 128 = (i 2).val; omega)
  | ⟨3, _⟩ => exact Fin.ext (by show (i 3).val % 128 = (i 3).val; omega)

/-- The last normalisers. -/
theorem normOut_at (i : S4x4x1x128.Idx) : G20 m c i = ((dat m c).head (i 0) (i 1)).n 64 (i 3) := by
  have b0 : (i 0).val < 4 := (i 0).isLt
  have b1 : (i 1).val < 4 := (i 1).isLt
  have b2 : (i 2).val < 1 := (i 2).isLt
  have b3 : (i 3).val < 128 := (i 3).isLt
  have hn : 16 * (i 0).val + 15 < cfg0.N := lt_of_lt_of_eq (by omega) N_0.symm
  have hp : pt20Of i = 16 * (i 0).val + 15 := by
    show 16 * (1 * ((i 0).val / 1 - 0) + 1 * ((i 1).val / 4 - 0) + 1 * ((i 2).val / 1 - 0) + 1 * ((i 3).val / 128 - 0)) + 15 = _; omega
  have key := (sweep_last m c _ hn (by omega)).n (i 1) (i 3)
  have es : seq ⟨16 * (i 0).val + 15, hn⟩ = i 0 := Fin.ext (by simp only [seq]; omega)
  rw [outsAt0_sweep, es] at key
  unfold G20
  rw [dif_pos (by rw [hp]; exact hn)]
  refine ((congrArg (fun a : Left => a.2.2.1 (loc20Of i)) (fold0_congr m c _ _ _ (by rw [Nat.zero_add]; exact hn) hp)).trans ?_).trans key
  refine congrArg _ (funext fun a => ?_)
  match a with
  | ⟨0, _⟩ => exact Fin.ext (by show (i 0).val % 1 = 0; omega)
  | ⟨1, _⟩ => exact Fin.ext (by show (i 1).val % 4 = (i 1).val; omega)
  | ⟨2, _⟩ => exact Fin.ext (by show (i 2).val % 1 = 0; omega)
  | ⟨3, _⟩ => exact Fin.ext (by show (i 3).val % 128 = (i 3).val; omega)

/-- The last stabilisers, each along a row. -/
theorem stabOut_at (i : S4x4x1x128.Idx) : G21 m c i = ((dat m c).head (i 0) (i 1)).m 64 := by
  have b0 : (i 0).val < 4 := (i 0).isLt
  have b1 : (i 1).val < 4 := (i 1).isLt
  have b2 : (i 2).val < 1 := (i 2).isLt
  have b3 : (i 3).val < 128 := (i 3).isLt
  have hn : 16 * (i 0).val + 15 < cfg0.N := lt_of_lt_of_eq (by omega) N_0.symm
  have hp : pt21Of i = 16 * (i 0).val + 15 := by
    show 16 * (1 * ((i 0).val / 1 - 0) + 1 * ((i 1).val / 4 - 0) + 1 * ((i 2).val / 1 - 0) + 1 * ((i 3).val / 128 - 0)) + 15 = _; omega
  have key := (sweep_last m c _ hn (by omega)).m (i 1) (i 3)
  have es : seq ⟨16 * (i 0).val + 15, hn⟩ = i 0 := Fin.ext (by simp only [seq]; omega)
  rw [outsAt0_sweep, es] at key
  unfold G21
  rw [dif_pos (by rw [hp]; exact hn)]
  refine ((congrArg (fun a : Left => a.2.2.2.1 (loc21Of i)) (fold0_congr m c _ _ _ (by rw [Nat.zero_add]; exact hn) hp)).trans ?_).trans key
  refine congrArg _ (funext fun a => ?_)
  match a with
  | ⟨0, _⟩ => exact Fin.ext (by show (i 0).val % 1 = 0; omega)
  | ⟨1, _⟩ => exact Fin.ext (by show (i 1).val % 4 = (i 1).val; omega)
  | ⟨2, _⟩ => exact Fin.ext (by show (i 2).val % 1 = 0; omega)
  | ⟨3, _⟩ => exact Fin.ext (by show (i 3).val % 128 = (i 3).val; omega)

/-- The last eight tokens before the convolution. -/
theorem tailOut_at (i : S4x8x512.Idx) : G22 m c i = (dat m c).x (i 0) ⟨4088 + (i 1).val, by have b1 : (i 1).val < 8 := (i 1).isLt; omega⟩ (i 2) := by
  have b0 : (i 0).val < 4 := (i 0).isLt
  have b1 : (i 1).val < 8 := (i 1).isLt
  have b2 : (i 2).val < 512 := (i 2).isLt
  have hn : 16 * (i 0).val + 15 < cfg0.N := lt_of_lt_of_eq (by omega) N_0.symm
  have hp : pt22Of i = 16 * (i 0).val + 15 := by
    show 16 * (1 * ((i 0).val / 1 - 0) + 1 * ((i 1).val / 8 - 0) + 1 * ((i 2).val / 512 - 0)) + 15 = _; omega
  have key := (sweep_last m c _ hn (by omega)).tail (i 1) (i 2) (by have b1 : (i 1).val < 8 := (i 1).isLt; omega)
  have es : seq ⟨16 * (i 0).val + 15, hn⟩ = i 0 := Fin.ext (by simp only [seq]; omega)
  rw [outsAt0_sweep, es] at key
  unfold G22
  rw [dif_pos (by rw [hp]; exact hn)]
  refine ((congrArg (fun a : Left => a.2.2.2.2.1 (loc22Of i)) (fold0_congr m c _ _ _ (by rw [Nat.zero_add]; exact hn) hp)).trans ?_).trans key
  refine congrArg _ (funext fun a => ?_)
  match a with
  | ⟨0, _⟩ => exact Fin.ext (by show (i 0).val % 1 = 0; omega)
  | ⟨1, _⟩ => exact Fin.ext (by show (i 1).val % 8 = (i 1).val; omega)
  | ⟨2, _⟩ => exact Fin.ext (by show (i 2).val % 512 = (i 2).val; omega)

end Cert.KernelIdeal.Mlstm
-- ==== Proof.Mlstm.RefOps.lean ====
/-
  Three operations of the reference read at an index: the running sum of the forget gates, and the slices that a trip of the loop
  takes and writes.
-/
module

public import proofs.«01_k».proof.Proof.Gen.ReferenceIdeal.Run
public import proofs.«01_k».proof.Proof.Mlstm.Spec
public import Idealize.ShloMosaic.Lib.Pointwise
public import Idealize.ShloMosaic.Lib.DynamicIndex
public import Idealize.ShloMosaic.Lib.Tactic.CleanTypes

@[expose] public section

set_option maxRecDepth 16384

noncomputable section

namespace Cert.ReferenceIdeal.Mlstm

open Idealize.ShloMosaic Idealize.ShloMosaic.TcCoe Idealize.ShloMosaic.Tactic Cert.ReferenceIdeal Cert.ReferenceIdeal.Gen
open Cert.Mlstm (Head Data cum)

/-! ## The running sum -/

/-- A sum over a window that ends at `r` is a sum over the entries up to `r`. -/
theorem sum_window (f : Fin 64 → EReal) (r : Fin 64) :
    (∑ w : Fin 64, if h : 63 ≤ r.val + w.val then f ⟨r.val + w.val - 63, by omega⟩ else 0) = cum f r := by
  unfold cum
  rw [← Finset.sum_filter, ← Finset.sum_filter_add_sum_filter_not _ (fun w : Fin 64 => 63 ≤ r.val + w.val)]
  rw [Finset.sum_eq_zero (s := Finset.univ.filter fun w : Fin 64 => ¬63 ≤ r.val + w.val)
    (fun w hw => dif_neg (Finset.mem_filter.1 hw).2), add_zero]
  refine Finset.sum_bij' (fun w hw => ⟨r.val + w.val - 63, by omega⟩) (fun x hx => ⟨63 + x.val - r.val, ?_⟩) ?_ ?_ ?_ ?_ ?_
  · have : x ≤ r := (Finset.mem_filter.1 hx).2
    have : x.val ≤ r.val := this
    omega
  · intro w hw
    refine Finset.mem_filter.2 ⟨Finset.mem_univ _, ?_⟩
    show r.val + w.val - 63 ≤ r.val
    omega
  · intro x hx
    refine Finset.mem_filter.2 ⟨Finset.mem_univ _, ?_⟩
    have h : x.val ≤ r.val := (Finset.mem_filter.1 hx).2
    show 63 ≤ r.val + (63 + x.val - r.val)
    omega
  · intro w hw
    have h := (Finset.mem_filter.1 hw).2
    exact Fin.ext (by show 63 + (r.val + w.val - 63) - r.val = w.val; omega)
  · intro x hx
    have h : x.val ≤ r.val := (Finset.mem_filter.1 hx).2
    exact Fin.ext (by show r.val + (63 + x.val - r.val) - 63 = x.val; omega)
  · intro w hw
    exact dif_pos (Finset.mem_filter.1 hw).2

/-- Adding up along a list. -/
theorem foldl_add {β : Type} (g : β → EReal) (l : List β) (a : EReal) : l.foldl (fun r n => r + g n) a = a + (l.map g).sum := by
  induction l generalizing a with
  | nil => simp
  | cons x l ih => rw [List.foldl_cons, ih, List.map_cons, List.sum_cons, add_assoc]

/-- The running sum along the last axis. -/
theorem cumsum_at (x : FVec Ideal S4x4x64 .f32) (i0 : FVec Ideal S_ .f32) (h0 : i0 (Shape.Idx.first h_S_) = 0) (b h : Fin 4) (r : Fin 64) :
    Host.reduceWindowAdd ![1, 1, 64] ![1, 1, 1] ![0, 0, 63] ![0, 0, 0] x i0 reduceWindows_S4x4x64_S4x4x64_w1s1p0_0_w1s1p0_0_w64s1p63_0 h_S_
      (ix3 b h r) = cum (fun s => x (ix3 b h s)) r := by
  show Ideal.hostReduceWindowAdd ![1, 1, 64] ![1, 1, 1] ![0, 0, 63] ![0, 0, 0]
    reduceWindows_S4x4x64_S4x4x64_w1s1p0_0_w1s1p0_0_w64s1p63_0 x (i0 (Shape.Idx.first h_S_)) (ix3 b h r) = _
  rw [h0, ← sum_window]
  unfold Ideal.hostReduceWindowAdd Host.reduceWindow
  refine (foldl_add _ _ _).trans ?_
  rw [zero_add]
  refine (Fin.sum_univ_def _).symm.trans ?_
  let G : (⟨3, ![1, 1, 64]⟩ : Shape).Idx → EReal := fun w =>
    if h63 : 63 ≤ r.val + (w 2).val then x (ix3 b h ⟨r.val + (w 2).val - 63, by have h2 : (w 2).val < 64 := (w 2).isLt; omega⟩) else 0
  refine (Finset.sum_congr rfl fun n _ => ?_ : _ = ∑ n, G ((⟨3, ![1, 1, 64]⟩ : Shape).rowMajor.symm n)).trans ?_
  · dsimp only [G]
    let w : (⟨3, ![1, 1, 64]⟩ : Shape).Idx := (⟨3, ![1, 1, 64]⟩ : Shape).rowMajor.symm n
    have w0 : (w 0).val < 1 := (w 0).isLt
    have w1 : (w 1).val < 1 := (w 1).isLt
    have w2 : (w 2).val < 64 := (w 2).isLt
    by_cases hw : 63 ≤ r.val + (w 2).val
    · rw [dif_pos hw, dif_pos (fun a => by
        match a with
        | ⟨0, _⟩ => exact ⟨Nat.zero_le _, by show b.val * 1 + (w 0).val - 0 < 4; omega⟩
        | ⟨1, _⟩ => exact ⟨Nat.zero_le _, by show h.val * 1 + (w 1).val - 0 < 4; omega⟩
        | ⟨2, _⟩ => exact ⟨by show 63 ≤ r.val * 1 + (w 2).val; omega, by show r.val * 1 + (w 2).val - 63 < 64; omega⟩)]
      refine congrArg x (funext fun a => Fin.ext ?_)
      match a with
      | ⟨0, _⟩ => show b.val * 1 + (w 0).val - 0 = b.val; omega
      | ⟨1, _⟩ => show h.val * 1 + (w 1).val - 0 = h.val; omega
      | ⟨2, _⟩ => show r.val * 1 + (w 2).val - 63 = r.val + (w 2).val - 63; omega
    · rw [dif_neg hw, dif_neg (fun hin => hw (by have h2 : 63 ≤ r.val * 1 + (w 2).val := (hin 2).1; omega))]
  · rw [Equiv.sum_comp, sum_idx3, Fin.sum_univ_one, Fin.sum_univ_one]
    exact Finset.sum_congr rfl fun _ _ => rfl

/-! ## A trip's slices -/

/-- The slice that trip `n` takes of a stack of blocks. -/
theorem slice5_at (x : FVec Ideal S64x4x4x64x128 .f32) (st : Fin 5 → Int) (n : Fin 64) (hs : ∀ a, st a = ((![n.val, 0, 0, 0, 0] : Fin 5 → ℕ) a : Int))
    (b h : Fin 4) (r : Fin 64) (d : Fin 128) :
    shapeCast S4x4x64x128 (Host.dynamicSlice S1x4x4x64x128 x st sliceFits_S64x4x4x64x128_S1x4x4x64x128) shapeCasts_S1x4x4x64x128_S4x4x64x128
      (ix4 b h r d) = x (ix5 n b h r d) := by
  have ho : S64x4x4x64x128.Slices ![n.val, 0, 0, 0, 0] S1x4x4x64x128 := ⟨rfl, fun a => by
    match a with
    | ⟨0, _⟩ => show n.val + 1 ≤ 64; omega
    | ⟨1, _⟩ => show 0 + 4 ≤ 4; omega
    | ⟨2, _⟩ => show 0 + 4 ≤ 4; omega
    | ⟨3, _⟩ => show 0 + 64 ≤ 64; omega
    | ⟨4, _⟩ => show 0 + 128 ≤ 128; omega⟩
  rw [Host.dynamicSlice_eq_extractStridedSlice _ x st _ _ ho hs]
  pointwise

/-- The slice that trip `n` takes of a stack of gates. -/
theorem slice4_at (x : FVec Ideal S64x4x4x64 .f32) (st : Fin 4 → Int) (n : Fin 64) (hs : ∀ a, st a = ((![n.val, 0, 0, 0] : Fin 4 → ℕ) a : Int))
    (b h : Fin 4) (r : Fin 64) :
    shapeCast S4x4x64 (Host.dynamicSlice S1x4x4x64 x st sliceFits_S64x4x4x64_S1x4x4x64) shapeCasts_S1x4x4x64_S4x4x64
      (ix3 b h r) = x (ix4 n b h r) := by
  have ho : S64x4x4x64.Slices ![n.val, 0, 0, 0] S1x4x4x64 := ⟨rfl, fun a => by
    match a with
    | ⟨0, _⟩ => show n.val + 1 ≤ 64; omega
    | ⟨1, _⟩ => show 0 + 4 ≤ 4; omega
    | ⟨2, _⟩ => show 0 + 4 ≤ 4; omega
    | ⟨3, _⟩ => show 0 + 64 ≤ 64; omega⟩
  rw [Host.dynamicSlice_eq_extractStridedSlice _ x st _ _ ho hs]
  pointwise

/-- A stack after trip `n` has written its block. -/
theorem update_at (x : FVec Ideal S64x4x4x64x128 .f32) (u : FVec Ideal S1x4x4x64x128 .f32) (st : Fin 5 → Int) (n : Fin 64)
    (hs : ∀ a, st a = ((![n.val, 0, 0, 0, 0] : Fin 5 → ℕ) a : Int)) (t : Fin 64) (b h : Fin 4) (r : Fin 64) (d : Fin 128) :
    Host.dynamicUpdateSlice x u st updateFits_S64x4x4x64x128_S1x4x4x64x128 (ix5 t b h r d) =
      if t = n then u (ix5 0 b h r d) else x (ix5 t b h r d) := by
  have s0 : st 0 = n.val := hs 0
  have s1 : st 1 = 0 := hs 1
  have s2 : st 2 = 0 := hs 2
  have s3 : st 3 = 0 := hs 3
  have s4 : st 4 = 0 := hs 4
  unfold Host.dynamicUpdateSlice updateSlice
  dsimp only
  by_cases ht : t = n
  · subst ht
    rw [if_pos rfl, dif_pos (fun a => by
      match a with
      | ⟨0, _⟩ =>
        show (min (max (st 0) 0) ((64 - 1 : ℕ) : Int)).toNat ≤ t.val ∧ t.val < (min (max (st 0) 0) ((64 - 1 : ℕ) : Int)).toNat + 1
        rw [s0]; omega
      | ⟨1, _⟩ =>
        show (min (max (st 1) 0) ((4 - 4 : ℕ) : Int)).toNat ≤ b.val ∧ b.val < (min (max (st 1) 0) ((4 - 4 : ℕ) : Int)).toNat + 4
        rw [s1]; omega
      | ⟨2, _⟩ =>
        show (min (max (st 2) 0) ((4 - 4 : ℕ) : Int)).toNat ≤ h.val ∧ h.val < (min (max (st 2) 0) ((4 - 4 : ℕ) : Int)).toNat + 4
        rw [s2]; omega
      | ⟨3, _⟩ =>
        show (min (max (st 3) 0) ((64 - 64 : ℕ) : Int)).toNat ≤ r.val ∧ r.val < (min (max (st 3) 0) ((64 - 64 : ℕ) : Int)).toNat + 64
        rw [s3]; omega
      | ⟨4, _⟩ =>
        show (min (max (st 4) 0) ((128 - 128 : ℕ) : Int)).toNat ≤ d.val ∧ d.val < (min (max (st 4) 0) ((128 - 128 : ℕ) : Int)).toNat + 128
        rw [s4]; omega)]
    refine congrArg u (funext fun a => Fin.ext ?_)
    match a with
    | ⟨0, _⟩ => show t.val - (min (max (st 0) 0) ((64 - 1 : ℕ) : Int)).toNat = 0; rw [s0]; omega
    | ⟨1, _⟩ => show b.val - (min (max (st 1) 0) ((4 - 4 : ℕ) : Int)).toNat = b.val; rw [s1]; omega
    | ⟨2, _⟩ => show h.val - (min (max (st 2) 0) ((4 - 4 : ℕ) : Int)).toNat = h.val; rw [s2]; omega
    | ⟨3, _⟩ => show r.val - (min (max (st 3) 0) ((64 - 64 : ℕ) : Int)).toNat = r.val; rw [s3]; omega
    | ⟨4, _⟩ => show d.val - (min (max (st 4) 0) ((128 - 128 : ℕ) : Int)).toNat = d.val; rw [s4]; omega
  · rw [if_neg ht, dif_neg (fun hin => ht (Fin.ext (by
      have h0 : (min (max (st 0) 0) ((64 - 1 : ℕ) : Int)).toNat ≤ t.val ∧ t.val < (min (max (st 0) 0) ((64 - 1 : ℕ) : Int)).toNat + 1 := hin 0
      rw [s0] at h0; omega)))]

end Cert.ReferenceIdeal.Mlstm
-- ==== Proof.Mlstm.RefStep.lean ====
/-
  One trip of the reference's loop over chunks: from the states of `Spec` before a chunk to the states after it, and the chunk of the
  result that it writes.
-/
module

public import proofs.«01_k».proof.Proof.Mlstm.RefOps

@[expose] public section

set_option maxRecDepth 16384

noncomputable section

namespace Cert.ReferenceIdeal.Mlstm

open Idealize.ShloMosaic Idealize.ShloMosaic.TcCoe Idealize.ShloMosaic.Tactic Cert.ReferenceIdeal Cert.ReferenceIdeal.Gen
open Cert.ReferenceIdeal.Value
open Cert.Mlstm (Head Data cum dm wEnd dec nextC nextN att carry readOut never bot)

/-- The loop's carried arrays before trip `u`: the queries, keys, values and gates of every chunk, the mask, the states before
    chunk `u`, and what the chunks before it read. -/
structure Trip (H : Fin 4 → Fin 4 → Head) (u : ℕ) (V : Valuation τ sig (Elt Ideal)) : Prop where
  q : ∀ (t : Fin 64) b h r d, (V (Proc.devRef .tc main_v73_0) : FVec Ideal S64x4x4x64x128 .f32) (ix5 t b h r d) = (H b h).q t r d
  k : ∀ (t : Fin 64) b h r d, (V (Proc.devRef .tc main_v73_1) : FVec Ideal S64x4x4x64x128 .f32) (ix5 t b h r d) = (H b h).k t r d
  v : ∀ (t : Fin 64) b h r d, (V (Proc.devRef .tc main_v73_2) : FVec Ideal S64x4x4x64x128 .f32) (ix5 t b h r d) = (H b h).v t r d
  i : ∀ (t : Fin 64) b h r, (V (Proc.devRef .tc main_v73_3) : FVec Ideal S64x4x4x64 .f32) (ix4 t b h r) = (H b h).i t r
  f : ∀ (t : Fin 64) b h r, (V (Proc.devRef .tc main_v73_4) : FVec Ideal S64x4x4x64 .f32) (ix4 t b h r) = (H b h).f t r
  tri : ∀ r s : Fin 64, (V (Proc.devRef .tc main_v73_5) : IVec S64x64 1) (ix2 r s) = if s ≤ r then 1#1 else 0#1
  ctr : (V (Proc.devRef .tc main_v73_6) : IVec S_ 32) = fun _ => Scf.iv 0#32 1#32 u
  c : ∀ b h r s, (V (Proc.devRef .tc main_v73_7) : FVec Ideal S4x4x128x128 .f32) (ix4 b h r s) = (H b h).c u r s
  n : ∀ b h s, (V (Proc.devRef .tc main_v73_8) : FVec Ideal S4x4x128 .f32) (ix3 b h s) = (H b h).n u s
  m : ∀ b h, (V (Proc.devRef .tc main_v73_9) : FVec Ideal S4x4 .f32) (ix2 b h) = (H b h).m u
  out : ∀ (t : Fin 64) b h r s, t.val < u → (V (Proc.devRef .tc main_v73_10) : FVec Ideal S64x4x4x64x128 .f32) (ix5 t b h r s) = (H b h).out t r s

theorem toInt_ctr (n : Fin 64) : (Scf.iv 0#32 1#32 n.val).toInt = n.val := by
  revert n; decide

section Trip

variable {H : Fin 4 → Fin 4 → Head} {n : Fin 64} {V : Valuation τ sig (Elt Ideal)} (hV : Trip H n.val V)
include hV

theorem start5 (a : Fin 5) :
    (((![V (Proc.devRef .tc main_v73_6), constantI S_ 32 0#32, constantI S_ 32 0#32, constantI S_ 32 0#32, constantI S_ 32 0#32] :
      Fin 5 → (⟨S_, .i32⟩ : BufTy).Contents (Elt Ideal))) a (Shape.Idx.first h_S_)).toInt = ((![n.val, 0, 0, 0, 0] : Fin 5 → ℕ) a : Int) := by
  match a with
  | ⟨0, _⟩ => exact (congrArg (fun x : IVec S_ 32 => (x (Shape.Idx.first h_S_)).toInt) hV.ctr).trans (toInt_ctr n)
  | ⟨1, _⟩ => rfl
  | ⟨2, _⟩ => rfl
  | ⟨3, _⟩ => rfl
  | ⟨4, _⟩ => rfl

theorem start4 (a : Fin 4) :
    (((![V (Proc.devRef .tc main_v73_6), constantI S_ 32 0#32, constantI S_ 32 0#32, constantI S_ 32 0#32] :
      Fin 4 → (⟨S_, .i32⟩ : BufTy).Contents (Elt Ideal))) a (Shape.Idx.first h_S_)).toInt = ((![n.val, 0, 0, 0] : Fin 4 → ℕ) a : Int) := by
  match a with
  | ⟨0, _⟩ => exact (congrArg (fun x : IVec S_ 32 => (x (Shape.Idx.first h_S_)).toInt) hV.ctr).trans (toInt_ctr n)
  | ⟨1, _⟩ => rfl
  | ⟨2, _⟩ => rfl
  | ⟨3, _⟩ => rfl

theorem q_at (b h : Fin 4) (r : Fin 64) (d : Fin 128) :
    (res_main_while0b_v146 V : FVec Ideal S4x4x64x128 .f32) (ix4 b h r d) = (H b h).q n r d :=
  (slice5_at _ _ n (start5 hV) b h r d).trans (hV.q n b h r d)

theorem k_at (b h : Fin 4) (r : Fin 64) (d : Fin 128) :
    (res_main_while0b_v147 V : FVec Ideal S4x4x64x128 .f32) (ix4 b h r d) = (H b h).k n r d :=
  (slice5_at _ _ n (start5 hV) b h r d).trans (hV.k n b h r d)

theorem v_at (b h : Fin 4) (r : Fin 64) (d : Fin 128) :
    (res_main_while0b_v148 V : FVec Ideal S4x4x64x128 .f32) (ix4 b h r d) = (H b h).v n r d :=
  (slice5_at _ _ n (start5 hV) b h r d).trans (hV.v n b h r d)

theorem i_at (b h : Fin 4) (r : Fin 64) : (res_main_while0b_v149 V : FVec Ideal S4x4x64 .f32) (ix3 b h r) = (H b h).i n r :=
  (slice4_at _ _ n (start4 hV) b h r).trans (hV.i n b h r)

theorem f_at (b h : Fin 4) (r : Fin 64) : (res_main_while0b_v151 V : FVec Ideal S4x4x64 .f32) (ix3 b h r) = cum ((H b h).f n) r := by
  refine (cumsum_at _ _ ?_ b h r).trans ?_
  · pointwise
  · exact congrArg (fun g => cum g r) (funext fun s => (slice4_at _ _ n (start4 hV) b h s).trans (hV.f n b h s))

theorem dm_at (b h : Fin 4) (r s : Fin 64) :
    (res_main_while0b_v160 V : FVec Ideal S4x4x64x64 .f32) (ix4 b h r s) = dm ((H b h).f n) ((H b h).i n) r s := by
  unfold res_main_while0b_v160
  clean_types
  pointwise []
  rw [hV.tri r s, f_at hV, f_at hV, i_at hV]
  unfold dm
  by_cases hs : s ≤ r
  · rw [if_pos hs, if_pos hs]; rfl
  · rw [if_neg hs, if_neg hs]; rfl

theorem mt_at (b h : Fin 4) (r : Fin 64) :
    (res_main_while0b_v165 V : FVec Ideal S4x4x64 .f32) (ix3 b h r) = Cert.Mlstm.mt ((H b h).f n) ((H b h).i n) ((H b h).m n) r := by
  unfold res_main_while0b_v165 res_main_while0b_v163
  clean_types
  pointwise []
  simp only [dm_at hV, f_at hV]
  rw [hV.m b h]
  rfl

theorem att_at (b h : Fin 4) (r x : Fin 64) :
    (res_main_while0b_v173 V : FVec Ideal S4x4x64x64 .f32) (ix4 b h r x) =
      att ((H b h).f n) ((H b h).i n) ((H b h).q n) ((H b h).k n) ((H b h).m n) r x := by
  unfold res_main_while0b_v173
  clean_types
  pointwise []
  simp only [q_at hV, k_at hV, dm_at hV, mt_at hV]
  rfl

theorem carry_at (b h : Fin 4) (r : Fin 64) :
    (res_main_while0b_v171 V : FVec Ideal S4x4x64 .f32) (ix3 b h r) = carry ((H b h).f n) ((H b h).i n) ((H b h).m n) r := by
  unfold res_main_while0b_v171 res_main_while0b_v163
  clean_types
  pointwise []
  simp only [f_at hV, mt_at hV]
  rw [hV.m b h]
  rfl

theorem step_c (b h : Fin 4) (r s : Fin 128) : (step_main_v73_7 V : FVec Ideal S4x4x128x128 .f32) (ix4 b h r s) = (H b h).c (n.val + 1) r s := by
  unfold step_main_v73_7 res_main_while0b_v205 res_main_while0b_v200 res_main_while0b_v192
  clean_types
  simp only [id]
  pointwise []
  simp only [f_at hV, mt_at hV, i_at hV, k_at hV, v_at hV]
  rw [hV.m b h, hV.c b h r s]
  rfl

theorem step_n (b h : Fin 4) (s : Fin 128) : (step_main_v73_8 V : FVec Ideal S4x4x128 .f32) (ix3 b h s) = (H b h).n (n.val + 1) s := by
  unfold step_main_v73_8 res_main_while0b_v205 res_main_while0b_v200 res_main_while0b_v192
  clean_types
  simp only [id]
  pointwise []
  simp only [f_at hV, mt_at hV, i_at hV, k_at hV]
  rw [hV.m b h, hV.n b h s]
  rfl

theorem step_m (b h : Fin 4) : (step_main_v73_9 V : FVec Ideal S4x4 .f32) (ix2 b h) = (H b h).m (n.val + 1) := by
  unfold step_main_v73_9 res_main_while0b_v192
  clean_types
  simp only [id]
  pointwise []
  simp only [mt_at hV]
  rfl

theorem step_out (t : Fin 64) (b h : Fin 4) (r : Fin 64) (s : Fin 128) (ht : t.val < n.val + 1) :
    (step_main_v73_10 V : FVec Ideal S64x4x4x64x128 .f32) (ix5 t b h r s) = (H b h).out t r s := by
  unfold step_main_v73_10
  clean_types
  simp only [id]
  rw [update_at _ _ _ n (start5 hV)]
  by_cases e : t = n
  · subst e
    rw [if_pos rfl]
    pointwise []
    simp only [att_at hV, carry_at hV, mt_at hV, v_at hV, q_at hV, hV.c, hV.n]
    rw [show (∑ x, (H b h).n t.val x * (H b h).q t.val r x) = ∑ x, (H b h).q t.val r x * (H b h).n t.val x from
      Finset.sum_congr rfl fun _ _ => mul_comm _ _]
    unfold Head.out readOut
    rw [zero_sub]
  · rw [if_neg e]
    exact hV.out t b h r s (by have : t.val ≠ n.val := fun q => e (Fin.ext q); omega)

theorem step_ctr : (step_main_v73_6 V : IVec S_ 32) = fun _ => Scf.iv 0#32 1#32 (n.val + 1) := by
  have e : ∀ n : Fin 64, IntOp.addi (Scf.iv 0#32 1#32 n.val) 1#32 = Scf.iv 0#32 1#32 (n.val + 1) := by decide
  funext j
  unfold step_main_v73_6
  clean_types
  simp only [id]
  refine Eq.trans (congrArg (fun x : IVec S_ 32 => (addi x (constantI S_ 32 1#32)) j) hV.ctr) ?_
  exact e n

/-- One trip of the loop. -/
theorem step : Trip H (n.val + 1) (STEP V) where
  q t b h r d := by rw [STEP_main_v73_0]; exact hV.q t b h r d
  k t b h r d := by rw [STEP_main_v73_1]; exact hV.k t b h r d
  v t b h r d := by rw [STEP_main_v73_2]; exact hV.v t b h r d
  i t b h r := by rw [STEP_main_v73_3]; exact hV.i t b h r
  f t b h r := by rw [STEP_main_v73_4]; exact hV.f t b h r
  tri r s := by rw [STEP_main_v73_5]; exact hV.tri r s
  ctr := by rw [STEP_main_v73_6]; exact step_ctr hV
  c b h r s := by rw [STEP_main_v73_7]; exact step_c hV b h r s
  n b h s := by rw [STEP_main_v73_8]; exact step_n hV b h s
  m b h := by rw [STEP_main_v73_9]; exact step_m hV b h
  out t b h r s ht := by rw [STEP_main_v73_10]; exact step_out hV t b h r s ht

end Trip

/-- After `k` trips from a valuation that holds the states before chunk `0`, the states before chunk `k`. -/
theorem trips {H : Fin 4 → Fin 4 → Head} {V : Valuation τ sig (Elt Ideal)} (h0 : Trip H 0 V) : ∀ k : ℕ, k ≤ 64 → Trip H k (STEP^[k] V)
  | 0, _ => h0
  | k + 1, hk => by
    rw [Function.iterate_succ_apply']
    exact step (n := ⟨k, by omega⟩) (trips h0 k (by omega))

end Cert.ReferenceIdeal.Mlstm
-- ==== Proof.Mlstm.RefParts.lean ====
/-
  The reference's steps round the recurrence, each an array of arrays, read at an index: the convolution, the logistic function,
  the projections cut into chunks, the gates cut into chunks, and the norm.
-/
module

public import proofs.«01_k».proof.Proof.Mlstm.RefOps

@[expose] public section

set_option maxRecDepth 16384

noncomputable section

namespace Cert.ReferenceIdeal.Mlstm

open Idealize.ShloMosaic Idealize.ShloMosaic.TcCoe Idealize.ShloMosaic.Tactic Cert.ReferenceIdeal Cert.ReferenceIdeal.Gen
open Cert.Mlstm (Head Data logSig fin)
open Cert.Mlstm.Data (row tok col)

/-! ## The convolution -/

/-- The convolution's input, by sequence. -/
def xR (a0 : FVec Ideal S16384x8192 .f32) : FVec Ideal S4x4096x512 .f32 :=
  extractStridedSlice S4x4096x512 ![0, 0, 1536] (shapeCast _ a0 shapeCasts_S16384x8192_S4x4096x8192) slices_S4x4096x8192_S4x4096x512_0_0_1536

/-- The output gate's column block, by sequence. -/
def oR (a0 : FVec Ideal S16384x8192 .f32) : FVec Ideal S4x4096x512 .f32 :=
  extractStridedSlice S4x4096x512 ![0, 0, 2048] (shapeCast _ a0 shapeCasts_S16384x8192_S4x4096x8192) slices_S4x4096x8192_S4x4096x512_0_0_2048

/-- The last gate's column block, by sequence. -/
def zR (a0 : FVec Ideal S16384x8192 .f32) : FVec Ideal S4x4096x512 .f32 :=
  extractStridedSlice S4x4096x512 ![0, 0, 2560] (shapeCast _ a0 shapeCasts_S16384x8192_S4x4096x8192) slices_S4x4096x8192_S4x4096x512_0_0_2560

/-- The input with the three tokens before it in front. -/
def xpR (a0 : FVec Ideal S16384x8192 .f32) (a14 : FVec Ideal S4x3x512 .f32) : FVec Ideal S4x4099x512 .f32 :=
  concatenate S4x4099x512 1 [⟨S4x3x512, a14⟩, ⟨S4x4096x512, xR a0⟩] concatenates_S4x3x512_S4x4096x512_S4x4099x512_d1

/-- A row of weights, for every token. -/
def rowR (w : FVec Ideal S512 .f32) : FVec Ideal S4x4096x512 .f32 :=
  broadcastInDim S4x4096x512 ![0, 1, 2] bcast_S1x1x512_S4x4096x512_0_1_2 (broadcastInDim S1x1x512 ![2] bcast_S512_S1x1x512_2 w)

/-- The causal convolution. -/
def convR (a0 : FVec Ideal S16384x8192 .f32) (a2 : FVec Ideal S4x512 .f32) (a3 : FVec Ideal S512 .f32) (a14 : FVec Ideal S4x3x512 .f32) :
    FVec Ideal S4x4096x512 .f32 :=
  addf (addf (addf (addf (rowR a3)
    (mulf (extractStridedSlice S4x4096x512 ![0, 0, 0] (xpR a0 a14) slices_S4x4099x512_S4x4096x512_0_0_0)
      (rowR (shapeCast _ (extractStridedSlice S1x512 ![0, 0] a2 slices_S4x512_S1x512_0_0) shapeCasts_S1x512_S512))))
    (mulf (extractStridedSlice S4x4096x512 ![0, 1, 0] (xpR a0 a14) slices_S4x4099x512_S4x4096x512_0_1_0)
      (rowR (shapeCast _ (extractStridedSlice S1x512 ![1, 0] a2 slices_S4x512_S1x512_1_0) shapeCasts_S1x512_S512))))
    (mulf (extractStridedSlice S4x4096x512 ![0, 2, 0] (xpR a0 a14) slices_S4x4099x512_S4x4096x512_0_2_0)
      (rowR (shapeCast _ (extractStridedSlice S1x512 ![2, 0] a2 slices_S4x512_S1x512_2_0) shapeCasts_S1x512_S512))))
    (mulf (extractStridedSlice S4x4096x512 ![0, 3, 0] (xpR a0 a14) slices_S4x4099x512_S4x4096x512_0_3_0)
      (rowR (shapeCast _ (extractStridedSlice S1x512 ![3, 0] a2 slices_S4x512_S1x512_3_0) shapeCasts_S1x512_S512)))

/-- The logistic function, on every entry. -/
def sigR (x : FVec Ideal S4x4096x512 .f32) : FVec Ideal S4x4096x512 .f32 :=
  Host.divf (broadcastInDim S4x4096x512 ![] bcast_S_S4x4096x512 (constant S_ .f32 0x3F800000#32))
    (addf (broadcastInDim S4x4096x512 ![] bcast_S_S4x4096x512 (constant S_ .f32 0x3F800000#32)) (Host.exp (Host.negf x)))

/-- The convolution, gated by itself. -/
def mcR (a0 : FVec Ideal S16384x8192 .f32) (a2 : FVec Ideal S4x512 .f32) (a3 : FVec Ideal S512 .f32) (a14 : FVec Ideal S4x3x512 .f32) :
    FVec Ideal S4x4096x512 .f32 := mulf (convR a0 a2 a3 a14) (sigR (convR a0 a2 a3 a14))

theorem sigR_at (x : FVec Ideal S4x4096x512 .f32) (b : Fin 4) (l : Fin 4096) (s : Fin 512) : sigR x (ix3 b l s) = Cert.Mlstm.sig (x (ix3 b l s)) := by
  unfold sigR
  pointwise []
  unfold Cert.Mlstm.sig
  rw [zero_sub]

section Read

variable {D : Data} {a0 : FVec Ideal S16384x8192 .f32} (h0 : ∀ r s, a0 (ix2 r s) = D.ub r s)

include h0

theorem cut_at (b : Fin 4) (l : Fin 4096) (s : Fin 8192) :
    (shapeCast S4x4096x8192 a0 shapeCasts_S16384x8192_S4x4096x8192) (ix3 b l s) = D.ub (row b l) s := by
  pointwise []
  rw [← h0]
  refine congrArg (fun r => a0 (ix2 r s)) (Fin.ext ?_)
  show b.val * 4096 + l.val = 4096 * b.val + l.val
  omega

theorem xR_at (b : Fin 4) (l : Fin 4096) (s : Fin 512) : xR a0 (ix3 b l s) = D.x b l s := by
  refine Eq.trans ?_ (cut_at h0 b l ⟨1536 + s.val, by omega⟩)
  unfold xR
  pointwise []

theorem oR_at (b : Fin 4) (l : Fin 4096) (s : Fin 512) : oR a0 (ix3 b l s) = D.ub (row b l) ⟨2048 + s.val, by omega⟩ := by
  refine Eq.trans ?_ (cut_at h0 b l ⟨2048 + s.val, by omega⟩)
  unfold oR
  pointwise []

theorem zR_at (b : Fin 4) (l : Fin 4096) (s : Fin 512) : zR a0 (ix3 b l s) = D.ub (row b l) ⟨2560 + s.val, by omega⟩ := by
  refine Eq.trans ?_ (cut_at h0 b l ⟨2560 + s.val, by omega⟩)
  unfold zR
  pointwise []

variable {a14 : FVec Ideal S4x3x512 .f32} (h14 : ∀ b j s, a14 (ix3 b j s) = D.cv b j s)

include h14

theorem xpR_at (b : Fin 4) (j : Fin 4099) (s : Fin 512) : xpR a0 a14 (ix3 b j s) = D.pre b j s := by
  unfold xpR
  pointwise []
  unfold Data.pre
  by_cases hj : j.val < 3
  · rw [dif_pos hj, dif_pos hj]; exact h14 ..
  · rw [dif_neg hj, dif_neg hj]; exact xR_at h0 ..

variable {a2 : FVec Ideal S4x512 .f32} (h2 : ∀ r s, a2 (ix2 r s) = D.cw r s)
variable {a3 : FVec Ideal S512 .f32} (h3 : ∀ s, a3 (ix1 s) = D.cb s)

include h2 h3

theorem convR_at (b : Fin 4) (l : Fin 4096) (s : Fin 512) : convR a0 a2 a3 a14 (ix3 b l s) = D.conv b l s := by
  unfold convR rowR
  pointwise []
  simp only [xpR_at h0 h14, h2, h3]
  unfold Data.conv
  simp only [Nat.add_comm 1 l.val, Nat.add_comm 2 l.val, Nat.add_comm 3 l.val]

theorem mcR_at (b : Fin 4) (l : Fin 4096) (s : Fin 512) : mcR a0 a2 a3 a14 (ix3 b l s) = D.mc b l s := by
  refine Eq.trans (b := convR a0 a2 a3 a14 (ix3 b l s) * sigR (convR a0 a2 a3 a14) (ix3 b l s)) rfl ?_
  rw [sigR_at, convR_at h0 h14 h2 h3]
  rfl

end Read

/-! ## Cut into chunks -/

/-- A projection, cut into chunks. -/
theorem proj_at (X : FVec Ideal S4x4096x512 .f32) (w : FVec Ideal S4x128x128 .f32) (b : Fin 4) (l : Fin 4096) (h : Fin 4) (d : Fin 128) :
    transpose S4x4096x4x128 [2, 3, 0, 1]
        (Host.dotGeneral (φ₁ := .f32) (φ₂ := .f32) dot_S4x128x128_S4x4096x4x128_S4x128x4x4096_1_3_2_01_0_2 none w
          (shapeCast S4x4096x4x128 X shapeCasts_S4x4096x512_S4x4096x4x128) : FVec Ideal S4x128x4x4096 .f32)
        transposes_S4x128x4x4096_S4x4096x4x128_2_3_0_1 (ix4 b l h d) = ∑ x, X (ix3 b l (col h x)) * w (ix3 h x d) := by
  pointwise []
  refine Finset.sum_congr rfl fun x _ => (mul_comm _ _).trans ?_
  refine congrArg (fun e => X (ix3 b l e) * w (ix3 h x d)) (Fin.ext ?_)
  show h.val * 128 + x.val = 128 * h.val + x.val
  omega

/-- Padding by nothing keeps an array. -/
theorem pad4 (Y : FVec Ideal S4x4096x4x128 .f32) (v : FVec Ideal S_ .f32) :
    pad S4x4096x4x128 ![0, 0, 0, 0] ![0, 0, 0, 0] ![0, 0, 0, 0] Y v pads_S4x4096x4x128_S4x4096x4x128_000_000_000_000 h_S_ = Y := by
  funext j
  unfold pad
  have hin : ∀ a : Fin 4, (![0, 0, 0, 0] : Fin 4 → ℕ) a ≤ (j a).val ∧ ((j a).val - (![0, 0, 0, 0] : Fin 4 → ℕ) a) % ((![0, 0, 0, 0] : Fin 4 → ℕ) a + 1) = 0
      ∧ ((j a).val - (![0, 0, 0, 0] : Fin 4 → ℕ) a) / ((![0, 0, 0, 0] : Fin 4 → ℕ) a + 1) < S4x4096x4x128.size a := by
    intro a
    have e : (![0, 0, 0, 0] : Fin 4 → ℕ) a = 0 := by fin_cases a <;> rfl
    rw [e]
    refine ⟨Nat.zero_le _, by omega, ?_⟩
    rw [Nat.sub_zero, Nat.zero_add, Nat.div_one]
    exact (j a).isLt
  refine (dif_pos hin).trans (congrArg Y (funext fun a => Fin.ext ?_))
  have e : (![0, 0, 0, 0] : Fin 4 → ℕ) a = 0 := by fin_cases a <;> rfl
  show ((j a).val - (![0, 0, 0, 0] : Fin 4 → ℕ) a) / ((![0, 0, 0, 0] : Fin 4 → ℕ) a + 1) = (j a).val
  rw [e, Nat.sub_zero, Nat.zero_add, Nat.div_one]

/-- Padding by nothing keeps an array. -/
theorem pad3 (Y : FVec Ideal S4x4096x4 .f32) (v : FVec Ideal S_ .f32) :
    pad S4x4096x4 ![0, 0, 0] ![0, 0, 0] ![0, 0, 0] Y v pads_S4x4096x4_S4x4096x4_000_000_000 h_S_ = Y := by
  funext j
  unfold pad
  have hin : ∀ a : Fin 3, (![0, 0, 0] : Fin 3 → ℕ) a ≤ (j a).val ∧ ((j a).val - (![0, 0, 0] : Fin 3 → ℕ) a) % ((![0, 0, 0] : Fin 3 → ℕ) a + 1) = 0
      ∧ ((j a).val - (![0, 0, 0] : Fin 3 → ℕ) a) / ((![0, 0, 0] : Fin 3 → ℕ) a + 1) < S4x4096x4.size a := by
    intro a
    have e : (![0, 0, 0] : Fin 3 → ℕ) a = 0 := by fin_cases a <;> rfl
    rw [e]
    refine ⟨Nat.zero_le _, by omega, ?_⟩
    rw [Nat.sub_zero, Nat.zero_add, Nat.div_one]
    exact (j a).isLt
  refine (dif_pos hin).trans (congrArg Y (funext fun a => Fin.ext ?_))
  have e : (![0, 0, 0] : Fin 3 → ℕ) a = 0 := by fin_cases a <;> rfl
  show ((j a).val - (![0, 0, 0] : Fin 3 → ℕ) a) / ((![0, 0, 0] : Fin 3 → ℕ) a + 1) = (j a).val
  rw [e, Nat.sub_zero, Nat.zero_add, Nat.div_one]

theorem tok_val (t r : Fin 64) : (tok t.val r).val = t.val * 64 + r.val := by
  show (64 * t.val + r.val) % 4096 = _
  omega

/-- The tokens of a sequence, cut into chunks. -/
theorem chunk5 (Y : FVec Ideal S4x4096x4x128 .f32) (v : FVec Ideal S_ .f32) (t : Fin 64) (b h : Fin 4) (r : Fin 64) (d : Fin 128) :
    transpose S64x4x4x64x128 [1, 0, 3, 2, 4] (shapeCast S4x64x64x4x128
        (pad S4x4096x4x128 ![0, 0, 0, 0] ![0, 0, 0, 0] ![0, 0, 0, 0] Y v pads_S4x4096x4x128_S4x4096x4x128_000_000_000_000 h_S_)
        shapeCasts_S4x4096x4x128_S4x64x64x4x128) transposes_S4x64x64x4x128_S64x4x4x64x128_1_0_3_2_4 (ix5 t b h r d) =
      Y (ix4 b (tok t.val r) h d) := by
  rw [pad4]
  pointwise []
  exact congrArg (fun l => Y (ix4 b l h d)) (Fin.ext (tok_val t r).symm)

/-- The tokens of a sequence, cut into chunks. -/
theorem chunk4 (Y : FVec Ideal S4x4096x4 .f32) (v : FVec Ideal S_ .f32) (t : Fin 64) (b h : Fin 4) (r : Fin 64) :
    transpose S64x4x4x64 [1, 0, 3, 2] (shapeCast S4x64x64x4
        (pad S4x4096x4 ![0, 0, 0] ![0, 0, 0] ![0, 0, 0] Y v pads_S4x4096x4_S4x4096x4_000_000_000 h_S_)
        shapeCasts_S4x4096x4_S4x64x64x4) transposes_S4x64x64x4_S64x4x4x64_1_0_3_2 (ix4 t b h r) =
      Y (ix3 b (tok t.val r) h) := by
  rw [pad3]
  pointwise []
  exact congrArg (fun l => Y (ix3 b l h)) (Fin.ext (tok_val t r).symm)

/-- The logarithm of the logistic function, as it is spelt through the soft maximum of `-x` and `0`. -/
theorem logSig_eq (x : EReal) :
    -(max (-x) 0 + Ideal.log1p (Ideal.exp (-FloatOps.absf (F := Ideal) (φ := .f32) (-x)))) = logSig x := by
  have ha : FloatOps.absf (F := Ideal) (φ := .f32) (-x) = FloatOps.absf (F := Ideal) (φ := .f32) x := by
    show max (-x) (-(-x)) = max x (-x)
    rw [neg_neg, max_comm]
  have h1 : max (-x) 0 ≠ ⊥ := fun e => absurd (le_max_right (-x) 0) (by rw [e]; simp)
  have h2 : Ideal.log1p (Ideal.exp (-FloatOps.absf (F := Ideal) (φ := .f32) x)) ≠ ⊥ := by
    generalize -FloatOps.absf (F := Ideal) (φ := .f32) x = y
    induction y using EReal.rec with
    | bot =>
      show Ideal.log (1 + 0) ≠ ⊥
      rw [add_zero]
      show (if (1 : ℝ) ≤ 0 then ⊥ else (Real.log 1 : EReal)) ≠ ⊥
      norm_num
    | top =>
      show Ideal.log (1 + ⊤) ≠ ⊥
      rw [show (1 : EReal) + ⊤ = ⊤ from rfl]
      exact top_ne_bot
    | coe r =>
      show Ideal.log ((1 : ℝ) + (Real.exp r : ℝ)) ≠ ⊥
      rw [← EReal.coe_add]
      have hp : ¬ (1 + Real.exp r ≤ 0) := by have := Real.exp_pos r; linarith
      show (if 1 + Real.exp r ≤ 0 then ⊥ else (Real.log (1 + Real.exp r) : EReal)) ≠ ⊥
      rw [if_neg hp]
      exact EReal.coe_ne_bot _
  rw [ha, EReal.neg_add (Or.inl h1) (Or.inr h2)]
  unfold logSig
  rw [zero_sub]
  have hm : -max (-x) 0 = min x 0 := by
    rcases le_total x 0 with hx | hx
    · rw [min_eq_left hx, max_eq_left (EReal.le_neg_of_le_neg (by simpa using hx)), neg_neg]
    · rw [min_eq_right hx, max_eq_right (EReal.neg_le.1 (by simpa using hx)), neg_zero]
  rw [hm]
  rfl

end Cert.ReferenceIdeal.Mlstm
-- ==== Proof.Mlstm.RefGates.lean ====
/-
  What the reference's loop starts from, without the projections: the gates, the mask and the first states, as `Spec` says them of
  the arrays that the layer is given.
-/
module

public import proofs.«01_k».proof.Proof.Mlstm.RefStep
public import proofs.«01_k».proof.Proof.Mlstm.RefParts
public import Idealize.ShloMosaic.Lib.StableHlo.ReadAt

@[expose] public section

set_option maxRecDepth 16384

noncomputable section

namespace Cert.ReferenceIdeal.Mlstm

open Idealize.ShloMosaic Idealize.ShloMosaic.TcCoe Idealize.ShloMosaic.Tactic Cert.ReferenceIdeal Cert.ReferenceIdeal.Gen
open Cert.ReferenceIdeal.Value Idealize.ShloMosaic.StableHlo Idealize.SL.Sem
open Cert.Mlstm (Head Data logSig)
open Cert.Mlstm.Data (row tok col)

variable (m : (ℓ : Loc nD τ sig) → Buf (Elt Ideal) ℓ) (c : Dev nD)

/-- The layer's data, in the reference's memory. -/
def rdat : Data :=
  Data.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

theorem row_eq (b : Fin 4) (l : Fin 4096) : (⟨b.val * 4096 + l.val, by omega⟩ : Fin 16384) = row b l :=
  Fin.ext (by show b.val * 4096 + l.val = 4096 * b.val + l.val; omega)

theorem entry_tri (r s : Fin 64) : (entryContents preI m c (Proc.devRef .tc main_v73_5) : IVec S64x64 1) (ix2 r s) =
    if s ≤ r then 1#1 else 0#1 := by
  simp only [entryContents, afterL_cons, afterL_nil]
  after_reads_simp
  simp -implicitDefEqProofs only [TRef.toBuf, TRef.ofBuf, cast_cast, cast_eq, id]
  clean_types
  pointwise []
  have e : ∀ r s : Fin 64, Scalar.select (IntOp.cmpi .sge (IntOp.addi (BitVec.ofNat 32 r.val) 0#32) (BitVec.ofNat 32 s.val)) 1#1 0#1 =
      if s ≤ r then 1#1 else 0#1 := by decide
  exact e r s

theorem entry_i (t : Fin 64) (b h : Fin 4) (r : Fin 64) :
    (entryContents preI m c (Proc.devRef .tc main_v73_3) : FVec Ideal S64x4x4x64 .f32) (ix4 t b h r) = ((rdat m c).head b h).i t r := by
  simp only [entryContents, afterL_cons, afterL_nil]
  after_reads_simp
  simp -implicitDefEqProofs only [TRef.toBuf, TRef.ofBuf, cast_cast, cast_eq, id]
  clean_types
  refine (chunk4 _ _ t b h r).trans ?_
  pointwise []
  exact congrArg (fun x => (rdat m c).us x ⟨16 + h.val, by omega⟩ + (rdat m c).bi h) (row_eq b (tok t.val r))

theorem entry_f (t : Fin 64) (b h : Fin 4) (r : Fin 64) :
    (entryContents preI m c (Proc.devRef .tc main_v73_4) : FVec Ideal S64x4x4x64 .f32) (ix4 t b h r) = ((rdat m c).head b h).f t r := by
  simp only [entryContents, afterL_cons, afterL_nil]
  after_reads_simp
  simp -implicitDefEqProofs only [TRef.toBuf, TRef.ofBuf, cast_cast, cast_eq, id]
  clean_types
  refine (chunk4 _ _ t b h r).trans ?_
  pointwise []
  rw [if_neg (fun h => h rfl), logSig_eq]
  exact congrArg (fun x => logSig ((rdat m c).us x ⟨20 + h.val, by omega⟩ + (rdat m c).bf h)) (row_eq b (tok t.val r))

theorem entry_c (b h : Fin 4) (r s : Fin 128) :
    (entryContents preI m c (Proc.devRef .tc main_v73_7) : FVec Ideal S4x4x128x128 .f32) (ix4 b h r s) = ((rdat m c).head b h).c 0 r s := by
  simp only [entryContents, afterL_cons, afterL_nil]
  after_reads_simp
  rfl

theorem entry_n (b h : Fin 4) (s : Fin 128) :
    (entryContents preI m c (Proc.devRef .tc main_v73_8) : FVec Ideal S4x4x128 .f32) (ix3 b h s) = ((rdat m c).head b h).n 0 s := by
  simp only [entryContents, afterL_cons, afterL_nil]
  after_reads_simp
  rfl

theorem entry_m (b h : Fin 4) :
    (entryContents preI m c (Proc.devRef .tc main_v73_9) : FVec Ideal S4x4 .f32) (ix2 b h) = ((rdat m c).head b h).m 0 := by
  simp only [entryContents, afterL_cons, afterL_nil]
  after_reads_simp
  rfl

end Cert.ReferenceIdeal.Mlstm
-- ==== Proof.Mlstm.RefEntry.lean ====
/-
  What the reference's loop starts from: the projections, the gates, the mask and the first states, as `Spec` says them of the
  arrays that the layer is given.
-/
module

public import proofs.«01_k».proof.Proof.Mlstm.RefGates

@[expose] public section

set_option maxRecDepth 16384

noncomputable section

namespace Cert.ReferenceIdeal.Mlstm

open Idealize.ShloMosaic Idealize.ShloMosaic.TcCoe Idealize.ShloMosaic.Tactic Cert.ReferenceIdeal Cert.ReferenceIdeal.Gen
open Cert.ReferenceIdeal.Value Idealize.ShloMosaic.StableHlo Idealize.SL.Sem
open Cert.Mlstm (Head Data logSig)
open Cert.Mlstm.Data (row tok col)

variable (m : (ℓ : Loc nD τ sig) → Buf (Elt Ideal) ℓ) (c : Dev nD)

theorem entry_v (t : Fin 64) (b h : Fin 4) (r : Fin 64) (d : Fin 128) :
    (entryContents preI m c (Proc.devRef .tc main_v73_2) : FVec Ideal S64x4x4x64x128 .f32) (ix5 t b h r d) = ((rdat m c).head b h).v t r d := by
  simp only [entryContents, afterL_cons, afterL_nil]
  after_reads_simp
  rw [id_eq]
  simp -implicitDefEqProofs only [TRef.toBuf, TRef.ofBuf, cast_cast, cast_eq]
  clean_types
  refine (chunk5 _ _ t b h r d).trans ?_
  refine (proj_at (xR (m ((c : Thread nD τ).loc main_arg0))) (m ((c : Thread nD τ).loc main_arg6)) _ _ _ _).trans ?_
  exact Finset.sum_congr rfl fun x _ => congrArg (· * _) (xR_at (D := rdat m c) (fun _ _ => rfl) ..)

theorem entry_q (t : Fin 64) (b h : Fin 4) (r : Fin 64) (d : Fin 128) :
    (entryContents preI m c (Proc.devRef .tc main_v73_0) : FVec Ideal S64x4x4x64x128 .f32) (ix5 t b h r d) = ((rdat m c).head b h).q t r d := by
  simp only [entryContents, afterL_cons, afterL_nil]
  after_reads_simp
  rw [id_eq]
  simp -implicitDefEqProofs only [TRef.toBuf, TRef.ofBuf, cast_cast, cast_eq]
  clean_types
  refine (chunk5 _ _ t b h r d).trans ?_
  refine (proj_at (mcR (m ((c : Thread nD τ).loc main_arg0)) (m ((c : Thread nD τ).loc main_arg2)) (m ((c : Thread nD τ).loc main_arg3))
    (m ((c : Thread nD τ).loc main_arg14))) (m ((c : Thread nD τ).loc main_arg4)) _ _ _ _).trans ?_
  exact Finset.sum_congr rfl fun x _ => congrArg (· * _)
    (mcR_at (D := rdat m c) (fun _ _ => rfl) (fun _ _ _ => rfl) (fun _ _ => rfl) (fun _ => rfl) ..)

theorem entry_k (t : Fin 64) (b h : Fin 4) (r : Fin 64) (d : Fin 128) :
    (entryContents preI m c (Proc.devRef .tc main_v73_1) : FVec Ideal S64x4x4x64x128 .f32) (ix5 t b h r d) = ((rdat m c).head b h).k t r d := by
  simp only [entryContents, afterL_cons, afterL_nil]
  after_reads_simp
  rw [id_eq]
  simp -implicitDefEqProofs only [TRef.toBuf, TRef.ofBuf, cast_cast, cast_eq]
  clean_types
  refine (chunk5 _ _ t b h r d).trans ?_
  refine Eq.trans (congrArg (· * Ideal.ofBits .f32 0x3DB504F3#32) (proj_at (mcR (m ((c : Thread nD τ).loc main_arg0)) (m ((c : Thread nD τ).loc main_arg2)) (m ((c : Thread nD τ).loc main_arg3))
    (m ((c : Thread nD τ).loc main_arg14))) (m ((c : Thread nD τ).loc main_arg5)) _ _ _ _)) ?_
  exact congrArg (· * Ideal.ofBits .f32 0x3DB504F3#32) (Finset.sum_congr rfl fun x _ => congrArg (· * _)
    (mcR_at (D := rdat m c) (fun _ _ => rfl) (fun _ _ _ => rfl) (fun _ _ => rfl) (fun _ => rfl) ..))

/-- The loop's arrays before its first trip. -/
theorem entry : Trip (rdat m c).head 0 (entryContents preI m c) where
  q := entry_q m c
  k := entry_k m c
  v := entry_v m c
  i := entry_i m c
  f := entry_f m c
  tri := entry_tri m c
  ctr := (ctr_entry m c).trans (by rw [Scf.iv_zero])
  c := entry_c m c
  n := entry_n m c
  m := entry_m m c
  out _ _ _ _ _ ht := absurd ht (Nat.not_lt_zero _)

end Cert.ReferenceIdeal.Mlstm
-- ==== Proof.Mlstm.RefNorm.lean ====
/-
  What the reference does after the loop with what the chunks read: the output gate, the norm, the skip and the last gate, read at an
  index.
-/
module

public import proofs.«01_k».proof.Proof.Mlstm.RefParts

@[expose] public section

set_option maxRecDepth 16384

noncomputable section

namespace Cert.ReferenceIdeal.Mlstm

open Idealize.ShloMosaic Idealize.ShloMosaic.TcCoe Idealize.ShloMosaic.Tactic Cert.ReferenceIdeal Cert.ReferenceIdeal.Gen
open Cert.Mlstm (Head Data fin)
open Cert.Mlstm.Data (row tok col)

/-- What the chunks read, by token, behind the output gate. -/
def gateR (st : FVec Ideal S64x4x4x64x128 .f32) (a0 : FVec Ideal S16384x8192 .f32) : FVec Ideal S4x4096x4x128 .f32 :=
  mulf (shapeCast _ (transpose S4x64x64x4x128 [1, 0, 3, 2, 4] st transposes_S64x4x4x64x128_S4x64x64x4x128_1_0_3_2_4)
    shapeCasts_S4x64x64x4x128_S4x4096x4x128) (shapeCast _ (sigR (oR a0)) shapeCasts_S4x4096x512_S4x4096x4x128)

/-- The norm over a head's columns. -/
def normR (g : FVec Ideal S4x4096x4x128 .f32) (a9 : FVec Ideal S128 .f32) : FVec Ideal S4x4096x4x128 .f32 :=
  mulf (mulf g (broadcastInDim S4x4096x4x128 ![0, 1, 2, 3] bcast_S4x4096x4x1_S4x4096x4x128_0_1_2_3
      (Host.rsqrt (addf (Host.divf (broadcastInDim S4x4096x4x1 ![0, 1, 2] bcast_S4x4096x4_S4x4096x4x1_0_1_2
          (Host.reduceAdd (mulf g g) (constant S_ .f32 0x00000000#32) reducesTo_S4x4096x4x128_S4x4096x4_d3 h_S_))
          (broadcastInDim S4x4096x4x1 ![] bcast_S_S4x4096x4x1 (constant S_ .f32 0x43000000#32)))
        (broadcastInDim S4x4096x4x1 ![] bcast_S_S4x4096x4x1 (constant S_ .f32 0x358637BD#32))))))
    (broadcastInDim S4x4096x4x128 ![0, 1, 2, 3] bcast_S1x1x1x128_S4x4096x4x128_0_1_2_3
      (broadcastInDim S1x1x1x128 ![3] bcast_S128_S1x1x1x128_3 a9))

/-- The norm, the skip and the last gate. -/
def finR (N : FVec Ideal S4x4096x4x128 .f32) (a10 : FVec Ideal S512 .f32) (mc z : FVec Ideal S4x4096x512 .f32) :
    FVec Ideal S16384x512 .f32 :=
  shapeCast _ (mulf (addf (shapeCast _ N shapeCasts_S4x4096x4x128_S4x4096x512) (mulf (rowR a10) mc)) (mulf z (sigR z)))
    shapeCasts_S4x4096x512_S16384x512

theorem gateR_at (st : FVec Ideal S64x4x4x64x128 .f32) (a0 : FVec Ideal S16384x8192 .f32) (b : Fin 4) (t r : Fin 64) (h : Fin 4) (e : Fin 128) :
    gateR st a0 (ix4 b (tok t.val r) h e) = st (ix5 t b h r e) * Cert.Mlstm.sig (oR a0 (ix3 b (tok t.val r) (col h e))) := by
  unfold gateR
  rw [← sigR_at]
  refine congrArg₂ (fun x y : EReal => x * y) ?_ ?_
  · pointwise []
    refine congrArg₂ (fun x y => st (ix5 x b h y e)) (Fin.ext ?_) (Fin.ext ?_)
    · show (tok t.val r).val / 64 = t.val
      rw [tok_val]; omega
    · show (tok t.val r).val % 64 = r.val
      rw [tok_val]; omega
  · pointwise []
    refine congrArg (fun x => sigR (oR a0) (ix3 b (tok t.val r) x)) (Fin.ext ?_)
    show h.val * 128 + e.val = 128 * h.val + e.val
    omega

theorem normR_at (g : FVec Ideal S4x4096x4x128 .f32) (a9 : FVec Ideal S128 .f32) (b : Fin 4) (l : Fin 4096) (h : Fin 4) (e : Fin 128) :
    normR g a9 (ix4 b l h e) = g (ix4 b l h e) * Ideal.rsqrt (Ideal.div (∑ x, g (ix4 b l h x) * g (ix4 b l h x))
      (Ideal.ofBits .f32 1124073472#32) + Ideal.ofBits .f32 897988541#32) * a9 (ix1 e) := by
  unfold normR
  pointwise []

theorem finR_at (N : FVec Ideal S4x4096x4x128 .f32) (a10 : FVec Ideal S512 .f32) (mc z : FVec Ideal S4x4096x512 .f32)
    (b : Fin 4) (l : Fin 4096) (h : Fin 4) (e : Fin 128) :
    finR N a10 mc z (ix2 (row b l) (col h e)) = (N (ix4 b l h e) + a10 (ix1 (col h e)) * mc (ix3 b l (col h e))) *
      (z (ix3 b l (col h e)) * Cert.Mlstm.sig (z (ix3 b l (col h e)))) := by
  rw [← sigR_at]
  unfold finR rowR
  pointwise []
  have e0 : (row b l).val = 4096 * b.val + l.val := rfl
  have e1 : (col h e).val = 128 * h.val + e.val := rfl
  have b1 : (⟨(row b l).val / 4096, by omega⟩ : Fin 4) = b := Fin.ext (by show (row b l).val / 4096 = b.val; omega)
  have l1 : (⟨(row b l).val % 4096, by omega⟩ : Fin 4096) = l := Fin.ext (by show (row b l).val % 4096 = l.val; omega)
  have h1 : (⟨(col h e).val / 128, by omega⟩ : Fin 4) = h := Fin.ext (by show (col h e).val / 128 = h.val; omega)
  have x1 : (⟨(col h e).val % 128, by omega⟩ : Fin 128) = e := Fin.ext (by show (col h e).val % 128 = e.val; omega)
  rw [b1, l1, h1, x1]

end Cert.ReferenceIdeal.Mlstm
-- ==== Proof.Mlstm.RefOut.lean ====
/-
  The reference's results, read at an index, from the layer's data.
-/
module

public import proofs.«01_k».proof.Proof.Mlstm.RefEntry
public import proofs.«01_k».proof.Proof.Mlstm.RefNorm

@[expose] public section

set_option maxRecDepth 16384

noncomputable section

namespace Cert.ReferenceIdeal.Mlstm

open Idealize.ShloMosaic Idealize.ShloMosaic.TcCoe Idealize.ShloMosaic.Tactic Cert.ReferenceIdeal Cert.ReferenceIdeal.Gen
open Cert.ReferenceIdeal.Value Idealize.ShloMosaic.StableHlo Idealize.SL.Sem
open Cert.Mlstm (Head Data fin)
open Cert.Mlstm.Data (row tok col)

variable (m : (ℓ : Loc nD τ sig) → Buf (Elt Ideal) ℓ) (c : Dev nD)

/-- The loop's arrays after its last trip. -/
abbrev last : Valuation τ sig (Elt Ideal) := STEP^[64] (entryContents preI m c)

theorem last_trip : Trip (rdat m c).head 64 (last m c) := trips (entry m c) 64 le_rfl

theorem mat (i : S4x4x128x128.Idx) :
    (last m c (Proc.devRef .tc main_v73_7) : FVec Ideal S4x4x128x128 .f32) i = ((rdat m c).head (i 0) (i 1)).c 64 (i 2) (i 3) := by
  obtain ⟨b, h, r, s, rfl⟩ : ∃ b h r s, i = ix4 b h r s := ⟨_, _, _, _, eq_ix4 i⟩
  exact (last_trip m c).c b h r s

theorem norm (i : S4x4x1x128.Idx) :
    (out_main_v142 (last m c) : FVec Ideal S4x4x1x128 .f32) i = ((rdat m c).head (i 0) (i 1)).n 64 (i 3) := by
  obtain ⟨b, h, r, s, rfl⟩ : ∃ b h r s, i = ix4 b h r s := ⟨_, _, _, _, eq_ix4 i⟩
  refine Eq.trans ?_ ((last_trip m c).n b h s)
  unfold out_main_v142
  clean_types
  pointwise []

theorem stab (i : S4x4x1x128.Idx) :
    (out_main_v144 (last m c) : FVec Ideal S4x4x1x128 .f32) i = ((rdat m c).head (i 0) (i 1)).m 64 := by
  obtain ⟨b, h, r, s, rfl⟩ : ∃ b h r s, i = ix4 b h r s := ⟨_, _, _, _, eq_ix4 i⟩
  refine Eq.trans ?_ ((last_trip m c).m b h)
  unfold out_main_v144
  clean_types
  pointwise []

theorem tail (i : S4x8x512.Idx) :
    (out_main_v145 (last m c) : FVec Ideal S4x8x512 .f32) i = (rdat m c).x (i 0) ⟨4088 + (i 1).val, by have := (i 1).isLt; simp at this; omega⟩ (i 2) := by
  obtain ⟨b, j, s, rfl⟩ : ∃ b j s, i = ix3 b j s := ⟨_, _, _, eq_ix3 i⟩
  have e0 := iter_main_arg0 m c 64
  have e14 := iter_main_arg14 m c 64
  have hx : (out_main_v145 (last m c) : FVec Ideal S4x8x512 .f32) =
      extractStridedSlice S4x8x512 ![0, 4091, 0] (xpR (m ((c : Thread nD τ).loc main_arg0)) (m ((c : Thread nD τ).loc main_arg14)))
        slices_S4x4099x512_S4x8x512_0_4091_0 := by
    rw [← e0, ← e14]; rfl
  rw [hx]
  have hp := xpR_at (D := rdat m c) (a0 := m ((c : Thread nD τ).loc main_arg0)) (a14 := m ((c : Thread nD τ).loc main_arg14))
    (fun _ _ => rfl) (fun _ _ _ => rfl) b ⟨4091 + j.val, by omega⟩ s
  refine Eq.trans ?_ (hp.trans ?_)
  · pointwise []
  · unfold Data.pre
    rw [dif_neg (by show ¬ 4091 + j.val < 3; omega)]
    exact congrArg (fun l => (rdat m c).x b l s) (Fin.ext (by show 4091 + j.val - 3 = 4088 + j.val; omega))

theorem out (b : Fin 4) (t r : Fin 64) (h : Fin 4) (e : Fin 128) :
    (out_main_v141 (last m c) : FVec Ideal S16384x512 .f32) (ix2 (row b (tok t.val r)) (col h e)) = (rdat m c).result b h t.val r e := by
  have hx : (out_main_v141 (last m c) : FVec Ideal S16384x512 .f32) =
      finR (normR (gateR (last m c (Proc.devRef .tc main_v73_10)) (m ((c : Thread nD τ).loc main_arg0))) (m ((c : Thread nD τ).loc main_arg9)))
        (m ((c : Thread nD τ).loc main_arg10))
        (mcR (m ((c : Thread nD τ).loc main_arg0)) (m ((c : Thread nD τ).loc main_arg2)) (m ((c : Thread nD τ).loc main_arg3))
          (m ((c : Thread nD τ).loc main_arg14))) (zR (m ((c : Thread nD τ).loc main_arg0))) := by
    rw [← iter_main_arg0 m c 64, ← iter_main_arg9 m c 64, ← iter_main_arg10 m c 64, ← iter_main_arg2 m c 64, ← iter_main_arg3 m c 64,
      ← iter_main_arg14 m c 64]
    rfl
  rw [hx, finR_at, normR_at]
  have hg : ∀ x, gateR (last m c (Proc.devRef .tc main_v73_10)) (m ((c : Thread nD τ).loc main_arg0)) (ix4 b (tok t.val r) h x) =
      ((rdat m c).head b h).out t.val r x * Cert.Mlstm.sig ((rdat m c).ub (row b (tok t.val r)) ⟨2048 + (col h x).val, by omega⟩) := by
    intro x
    rw [gateR_at, oR_at (D := rdat m c) (fun _ _ => rfl), ← (last_trip m c).out t b h r x t.isLt]
  simp only [hg]
  rw [mcR_at (D := rdat m c) (fun _ _ => rfl) (fun _ _ _ => rfl) (fun _ _ => rfl) (fun _ => rfl), zR_at (D := rdat m c) (fun _ _ => rfl)]
  rfl

end Cert.ReferenceIdeal.Mlstm
-- ==== Proof.Mlstm.Final.lean ====
/-
  The kernel's five results are the reference's five results: both are the same words about the layer's data.
-/
module

public import proofs.«01_k».proof.Defs
public import proofs.«01_k».proof.Proof.Mlstm.Sweep
public import proofs.«01_k».proof.Proof.Mlstm.RefOut

@[expose] public section

set_option maxRecDepth 16384

noncomputable section

namespace Cert.Mlstm.Final

open Idealize.ShloMosaic Idealize.ShloMosaic.TcCoe Idealize.SL.Sem
open Cert.Mlstm (Data)
open Cert.Mlstm.Data (row tok col)
open Cert.ReferenceIdeal.Mlstm (rdat last)
open Cert.KernelIdeal.Mlstm (dat)
open Cert.KernelIdeal.Value (G18 G19 G20 G21 G22)
open Cert.ReferenceIdeal.Value (out_main_v141 out_main_v142 out_main_v144 out_main_v145)

variable {m : (ℓ : Loc Cert.KernelIdeal.nD Cert.KernelIdeal.τ Cert.KernelIdeal.sig) → Buf (Elt Ideal) ℓ}
variable {m' : (ℓ : Loc Cert.ReferenceIdeal.nD Cert.ReferenceIdeal.τ Cert.ReferenceIdeal.sig) → Buf (Elt Ideal) ℓ}
variable {c : Dev Cert.KernelIdeal.nD} (hd : rdat m' c = dat m c)

include hd

theorem res0 : (out_main_v141 (last m' c) : FVec Ideal ⟨2, ![16384, 512]⟩ .f32) = G18 m c := by
  funext i
  obtain ⟨a, s, rfl⟩ : ∃ a s, i = ix2 a s := ⟨_, _, eq_ix2 i⟩
  have ha := a.isLt
  have hs := s.isLt
  let b : Fin 4 := ⟨a.val / 4096, by omega⟩
  let tt : Fin 16 := ⟨a.val % 4096 / 256, by omega⟩
  let k : Fin 4 := ⟨a.val % 256 / 64, by omega⟩
  let r : Fin 64 := ⟨a.val % 64, by omega⟩
  let h : Fin 4 := ⟨s.val / 128, by omega⟩
  let e : Fin 128 := ⟨s.val % 128, by omega⟩
  let t : Fin 64 := ⟨4 * tt.val + k.val, by omega⟩
  have ea : a = row b (tok t.val r) := Fin.ext (by
    show a.val = 4096 * (a.val / 4096) + (64 * (4 * (a.val % 4096 / 256) + a.val % 256 / 64) + a.val % 64) % 4096
    omega)
  have es : s = col h e := Fin.ext (by show s.val = 128 * (s.val / 128) + s.val % 128; omega)
  have hr := Cert.ReferenceIdeal.Mlstm.out m' c b t r h e
  rw [← ea, ← es, hd] at hr
  refine hr.trans (Cert.KernelIdeal.Mlstm.out_at m c b tt k h r e (ix2 a s) ?_ ?_).symm
  · show a.val = 256 * (16 * (a.val / 4096) + a.val % 4096 / 256) + (64 * (a.val % 256 / 64) + a.val % 64)
    omega
  · show s.val = 128 * (s.val / 128) + s.val % 128
    omega

theorem res1 : (last m' c (Proc.devRef .tc Cert.ReferenceIdeal.main_v73_7) : FVec Ideal ⟨4, ![4, 4, 128, 128]⟩ .f32) = G19 m c := by
  funext i
  refine (Cert.ReferenceIdeal.Mlstm.mat m' c i).trans ?_
  rw [hd]
  exact (Cert.KernelIdeal.Mlstm.matOut_at m c i).symm

theorem res2 : (out_main_v142 (last m' c) : FVec Ideal ⟨4, ![4, 4, 1, 128]⟩ .f32) = G20 m c := by
  funext i
  refine (Cert.ReferenceIdeal.Mlstm.norm m' c i).trans ?_
  rw [hd]
  exact (Cert.KernelIdeal.Mlstm.normOut_at m c i).symm

theorem res3 : (out_main_v144 (last m' c) : FVec Ideal ⟨4, ![4, 4, 1, 128]⟩ .f32) = G21 m c := by
  funext i
  refine (Cert.ReferenceIdeal.Mlstm.stab m' c i).trans ?_
  rw [hd]
  exact (Cert.KernelIdeal.Mlstm.stabOut_at m c i).symm

theorem res4 : (out_main_v145 (last m' c) : FVec Ideal ⟨3, ![4, 8, 512]⟩ .f32) = G22 m c := by
  funext i
  refine (Cert.ReferenceIdeal.Mlstm.tail m' c i).trans ?_
  rw [hd]
  exact (Cert.KernelIdeal.Mlstm.tailOut_at m c i).symm

omit hd

/-- The kernel computes what the reference computes. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨G18 m, G19 m, G20 m, G21 m, G22 m, Cert.KernelIdeal.Value.run m g, ?_⟩
  refine (θ_run _ _ _).mono (fun _ h c => ?_) (Cert.ReferenceIdeal.Value.run m' g')
  have hd : rdat m' c = dat m c := by
    obtain ⟨a0, a1, a2, a3, a4, a5, a6, a7, a8, a9, a10, a11, a12, a13, a14⟩ := hargs c
    unfold rdat dat
    rw [a0, a1, a2, a3, a4, a5, a6, a7, a8, a9, a10, a11, a12, a13, a14]
  obtain ⟨h0, h1, h2, h3, h4, hr⟩ := h c
  exact ⟨h0.trans (res0 hd), h1.trans (res1 hd), h2.trans (res2 hd), h3.trans (res3 hd), h4.trans (res4 hd), hr⟩

end Cert.Mlstm.Final
-- ==== Proof.Merge.Spec.lean ====
/-
  The merge of the three branches, as a function of coordinates.
-/
module

public import proofs.«01_k».proof.Proof.Mlstm.Spec

@[expose] public section

noncomputable section

namespace Cert.Merge

open Idealize.ShloMosaic
open Cert.Mlstm (sig)

/-- What the merge reads: the layer's input, the three branches, the gates' columns and the four weights. -/
structure Data where
  x : Fin 16384 → Fin 1024 → EReal
  a : Fin 16384 → Fin 512 → EReal
  b : Fin 16384 → Fin 512 → EReal
  d : Fin 16384 → Fin 512 → EReal
  gate : Fin 16384 → Fin 3 → Fin 1024 → EReal
  wa : Fin 512 → Fin 1024 → EReal
  wb : Fin 512 → Fin 1024 → EReal
  wd : Fin 512 → Fin 1024 → EReal
  wo : Fin 1024 → Fin 1024 → EReal

/-- The gated sum of the three branches' projections. -/
def Data.mix (D : Data) (r : Fin 16384) (k : Fin 1024) : EReal :=
  sig (D.gate r 0 k) * (∑ j, D.a r j * D.wa j k) + sig (D.gate r 1 k) * (∑ j, D.b r j * D.wb j k) +
    sig (D.gate r 2 k) * (∑ j, D.d r j * D.wd j k)

/-- The layer's output: its input and the projection of the gated sum. -/
def Data.out (D : Data) (r : Fin 16384) (s : Fin 1024) : EReal := D.x r s + ∑ k, D.mix r k * D.wo k s

/-- The data as arrays hold them. -/
def Data.of (x : FVec Ideal ⟨2, ![16384, 1024]⟩ .f32) (a b d : FVec Ideal ⟨2, ![16384, 512]⟩ .f32)
    (ub : FVec Ideal ⟨2, ![16384, 8192]⟩ .f32) (wa wb wd : FVec Ideal ⟨2, ![512, 1024]⟩ .f32)
    (wo : FVec Ideal ⟨2, ![1024, 1024]⟩ .f32) : Data where
  x r s := x (ix2 r s)
  a r s := a (ix2 r s)
  b r s := b (ix2 r s)
  d r s := d (ix2 r s)
  gate r g s := ub (ix2 r ⟨5120 + 1024 * g.val + s.val, by omega⟩)
  wa r s := wa (ix2 r s)
  wb r s := wb (ix2 r s)
  wd r s := wd (ix2 r s)
  wo r s := wo (ix2 r s)

end Cert.Merge

end
-- ==== Proof.Merge.Call.lean ====
/-
  The merge's call: a grid point's block of the result is the gated sum of the branches' rows, projected and added to the input.
-/
module

public import proofs.«01_k».proof.Proof.Gen.Kernel2Ideal.Value
public import proofs.«01_k».proof.Proof.Merge.Spec
public import Idealize.ShloMosaic.Lib.Pipeline.ValueKit
public import Idealize.ShloMosaic.Lib.StableHlo.ReadAt
public import Idealize.ShloMosaic.Lib.Tactic.CleanTypes

@[expose] public section

set_option maxRecDepth 16384

noncomputable section

namespace Cert.Kernel2Ideal.Merge

open Idealize.ShloMosaic Idealize.ShloMosaic.TcCoe Idealize.ShloMosaic.Tactic Cert.Kernel2Ideal Cert.Kernel2Ideal.Gen
open Idealize.ShloMosaic.StableHlo Cert.Kernel2Ideal.Value Idealize.SL.Sem
open Cert.Merge (Data)

/-- The body's block, entry by entry. -/
theorem body_at (x0 : Vec Ideal S512x1024 .f32) (x1 x2 x3 : Vec Ideal S512x512 .f32) (x4 x5 x6 : Vec Ideal S512x1024 .f32)
    (x7 x8 x9 : Vec Ideal S512x1024 .bf16) (x10 : Vec Ideal S1024x1024 .bf16) (r : Fin 512) (s : Fin 1024) :
    k0_pay1 (k0_pay2 x4 x1 x7 x5 x2 x8) (k0_pay3 x6) x3 x9 x0 x10 (ix2 r s) =
      x0 (ix2 r s) + ∑ k : Fin 1024, (Cert.Mlstm.sig (x4 (ix2 r k)) * (∑ j : Fin 512, x1 (ix2 r j) * x7 (ix2 j k)) +
        Cert.Mlstm.sig (x5 (ix2 r k)) * (∑ j : Fin 512, x2 (ix2 r j) * x8 (ix2 j k)) +
        Cert.Mlstm.sig (x6 (ix2 r k)) * (∑ j : Fin 512, x3 (ix2 r j) * x9 (ix2 j k))) * x10 (ix2 k s) := by
  pointwise [k0_pay1, k0_pay2, k0_pay3]
  simp only [Cert.Mlstm.sig]

theorem origin : (![0, 0] : Fin 2 → Nat) = fun _ => 0 := funext fun a => by fin_cases a <;> rfl

/-- The body stores one block, the whole of the window, from whole blocks. -/
theorem out_eq (x0 : Vec Ideal S512x1024 .f32) (x1 x2 x3 : Vec Ideal S512x512 .f32) (x4 x5 x6 : Vec Ideal S512x1024 .f32)
    (x7 x8 x9 : Vec Ideal S512x1024 .bf16) (x10 : Vec Ideal S1024x1024 .bf16) :
    out0_11 x0 x1 x2 x3 x4 x5 x6 x7 x8 x9 x10 = k0_pay1 (k0_pay2 x4 x1 x7 x5 x2 x8) (k0_pay3 x6) x3 x9 x0 x10 := by
  unfold out0_11
  rw [View.canon_unit_zero origin]
  repeat rw [View.ld_unit_zero origin]

variable (m : (ℓ : Loc nD τ sig) → Buf (Elt Ideal) ℓ) (c : Dev nD)

/-- The merge's data, as the device holds it. -/
def dat : Data :=
  Data.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- Which block of its array each window takes at a grid point. -/
theorem idx (t : Fin cfg0.N) :
    win0_0.index t = ![t.val, 0] ∧ win0_1.index t = ![t.val, 0] ∧ win0_2.index t = ![t.val, 0] ∧ win0_3.index t = ![t.val, 0] ∧
    win0_4.index t = ![t.val, 5] ∧ win0_5.index t = ![t.val, 6] ∧ win0_6.index t = ![t.val, 7] ∧ win0_7.index t = ![0, 0] ∧
    win0_8.index t = ![0, 0] ∧ win0_9.index t = ![0, 0] ∧ win0_10.index t = ![0, 0] ∧ win0_11.index t = ![t.val, 0] :=
  (by decide +kernel : ∀ t : Fin grid0.N,
    win0_0.index t = ![t.val, 0] ∧ win0_1.index t = ![t.val, 0] ∧ win0_2.index t = ![t.val, 0] ∧ win0_3.index t = ![t.val, 0] ∧
    win0_4.index t = ![t.val, 5] ∧ win0_5.index t = ![t.val, 6] ∧ win0_6.index t = ![t.val, 7] ∧ win0_7.index t = ![0, 0] ∧
    win0_8.index t = ![0, 0] ∧ win0_9.index t = ![0, 0] ∧ win0_10.index t = ![0, 0] ∧ win0_11.index t = ![t.val, 0]) t

theorem lt32 (t : Fin cfg0.N) : t.val < 32 := lt_of_lt_of_eq t.isLt N_0

/-- The row of the arrays that is row `r` of a grid point's block. -/
def row (t : Fin cfg0.N) (r : Fin 512) : Fin 16384 := ⟨512 * t.val + r.val, by have := lt32 t; omega⟩

/-! ## The weights, narrowed before the call -/

theorem v0_at (r : Fin 512) (s : Fin 1024) : (V m c main_v0 : FVec Ideal S512x1024 .bf16) (ix2 r s) =
    m ((c : Thread nD τ).loc main_arg5) (ix2 r s) := by
  unfold V
  after_reads_at

theorem v1_at (r : Fin 512) (s : Fin 1024) : (V m c main_v1 : FVec Ideal S512x1024 .bf16) (ix2 r s) =
    m ((c : Thread nD τ).loc main_arg6) (ix2 r s) := by
  unfold V
  after_reads_at

theorem v2_at (r : Fin 512) (s : Fin 1024) : (V m c main_v2 : FVec Ideal S512x1024 .bf16) (ix2 r s) =
    m ((c : Thread nD τ).loc main_arg7) (ix2 r s) := by
  unfold V
  after_reads_at

theorem v3_at (r : Fin 1024) (s : Fin 1024) : (V m c main_v3 : FVec Ideal S1024x1024 .bf16) (ix2 r s) =
    m ((c : Thread nD τ).loc main_arg8) (ix2 r s) := by
  unfold V
  after_reads_at

/-! ## One window at a time -/

theorem in_x (t : Fin cfg0.N) (r : Fin 512) (s : Fin 1024) : (iblk m c 0 t : Vec Ideal S512x1024 .f32) (ix2 r s) =
    (dat m c).x (row t r) s := by
  have ht := lt32 t
  show _ = m ((c : Thread nD τ).loc main_arg0) _
  blk_ext [iblk, row, V_main_arg0 m c, idx t]

theorem in_a (t : Fin cfg0.N) (r : Fin 512) (s : Fin 512) : (iblk m c 1 t : Vec Ideal S512x512 .f32) (ix2 r s) =
    (dat m c).a (row t r) s := by
  have ht := lt32 t
  show _ = m ((c : Thread nD τ).loc main_arg1) _
  blk_ext [iblk, row, V_main_arg1 m c, idx t]

theorem in_b (t : Fin cfg0.N) (r : Fin 512) (s : Fin 512) : (iblk m c 2 t : Vec Ideal S512x512 .f32) (ix2 r s) =
    (dat m c).b (row t r) s := by
  have ht := lt32 t
  show _ = m ((c : Thread nD τ).loc main_arg2) _
  blk_ext [iblk, row, V_main_arg2 m c, idx t]

theorem in_d (t : Fin cfg0.N) (r : Fin 512) (s : Fin 512) : (iblk m c 3 t : Vec Ideal S512x512 .f32) (ix2 r s) =
    (dat m c).d (row t r) s := by
  have ht := lt32 t
  show _ = m ((c : Thread nD τ).loc main_arg3) _
  blk_ext [iblk, row, V_main_arg3 m c, idx t]

theorem in_g0 (t : Fin cfg0.N) (r : Fin 512) (s : Fin 1024) : (iblk m c 4 t : Vec Ideal S512x1024 .f32) (ix2 r s) =
    (dat m c).gate (row t r) 0 s := by
  have ht := lt32 t
  show _ = m ((c : Thread nD τ).loc main_arg4) (ix2 _ ⟨5120 + s.val, _⟩)
  blk_ext [iblk, row, V_main_arg4 m c, idx t]

theorem in_g1 (t : Fin cfg0.N) (r : Fin 512) (s : Fin 1024) : (iblk m c 5 t : Vec Ideal S512x1024 .f32) (ix2 r s) =
    (dat m c).gate (row t r) 1 s := by
  have ht := lt32 t
  show _ = m ((c : Thread nD τ).loc main_arg4) (ix2 _ ⟨6144 + s.val, _⟩)
  blk_ext [iblk, row, V_main_arg4 m c, idx t]

theorem in_g2 (t : Fin cfg0.N) (r : Fin 512) (s : Fin 1024) : (iblk m c 6 t : Vec Ideal S512x1024 .f32) (ix2 r s) =
    (dat m c).gate (row t r) 2 s := by
  have ht := lt32 t
  show _ = m ((c : Thread nD τ).loc main_arg4) (ix2 _ ⟨7168 + s.val, _⟩)
  blk_ext [iblk, row, V_main_arg4 m c, idx t]

theorem in_wa (t : Fin cfg0.N) (r : Fin 512) (s : Fin 1024) : (iblk m c 7 t : Vec Ideal S512x1024 .bf16) (ix2 r s) =
    (dat m c).wa r s := by
  show _ = m ((c : Thread nD τ).loc main_arg5) (ix2 r s)
  rw [← v0_at m c r s]
  blk_ext [iblk, idx t]

theorem in_wb (t : Fin cfg0.N) (r : Fin 512) (s : Fin 1024) : (iblk m c 8 t : Vec Ideal S512x1024 .bf16) (ix2 r s) =
    (dat m c).wb r s := by
  show _ = m ((c : Thread nD τ).loc main_arg6) (ix2 r s)
  rw [← v1_at m c r s]
  blk_ext [iblk, idx t]

theorem in_wd (t : Fin cfg0.N) (r : Fin 512) (s : Fin 1024) : (iblk m c 9 t : Vec Ideal S512x1024 .bf16) (ix2 r s) =
    (dat m c).wd r s := by
  show _ = m ((c : Thread nD τ).loc main_arg7) (ix2 r s)
  rw [← v2_at m c r s]
  blk_ext [iblk, idx t]

theorem in_wo (t : Fin cfg0.N) (r : Fin 1024) (s : Fin 1024) : (iblk m c 10 t : Vec Ideal S1024x1024 .bf16) (ix2 r s) =
    (dat m c).wo r s := by
  show _ = m ((c : Thread nD τ).loc main_arg8) (ix2 r s)
  rw [← v3_at m c r s]
  blk_ext [iblk, idx t]

/-! ## The array after the call -/

/-- The result as one array. -/
def G : FVec Ideal S16384x1024 .f32 := fun i => (dat m c).out (i 0) (i 1)

/-- A grid point's block of the result. -/
theorem block_at (t : Fin cfg0.N) (r : Fin 512) (s : Fin 1024) :
    out0_11 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 r s) = (dat m c).out (row t r) s := by
  rw [out_eq, body_at]
  simp only [in_x, in_a, in_b, in_d, in_g0, in_g1, in_g2, in_wa, in_wb, in_wd, in_wo]
  rfl

theorem emb_eq (t : Fin cfg0.N) (y : S512x1024.Idx) :
    (((cfg0.win 11).blk t).view.emb y : S16384x1024.Idx) = ix2 (row t (y 0)) (y 1) := by
  have e : win0_11.index t = ![t.val, 0] := (idx t).2.2.2.2.2.2.2.2.2.2.2
  have e0 : win0_11.index t (0 : Fin 2) = t.val := congrFun e 0
  have e1 : win0_11.index t (1 : Fin 2) = 0 := congrFun e 1
  funext a
  apply Fin.ext
  match a with
  | ⟨0, _⟩ => show win0_11.index t (0 : Fin 2) * 512 + 1 * (y 0).val = 512 * t.val + (y 0).val; omega
  | ⟨1, _⟩ => show win0_11.index t (1 : Fin 2) * 1024 + 1 * (y 1).val = (y 1).val; omega

/-- What a grid point writes back is its block of the result. -/
theorem flushed_eq (t : Fin cfg0.N) : (dats m 0 c).flushed 11 t = ((cfg0.win 11).blk t).view.read (Elt Ideal) (G m c) := by
  rw [flushed11]
  funext y
  have h : ∀ y : S512x1024.Idx, out0_11 (iblk m c 0 t) (iblk m c 1 t) (iblk m c 2 t) (iblk m c 3 t) (iblk m c 4 t) (iblk m c 5 t)
      (iblk m c 6 t) (iblk m c 7 t) (iblk m c 8 t) (iblk m c 9 t) (iblk m c 10 t) y = G m c (ix2 (row t (y 0)) (y 1)) := fun y => by
    obtain ⟨r, s, rfl⟩ : ∃ r s, y = ix2 r s := ⟨_, _, eq_ix2 y⟩
    exact block_at m c t r s
  exact (h y).trans (congrArg (G m c) (emb_eq t y).symm)

/-- Every entry of the result is in some grid point's block. -/
theorem covered (i : S16384x1024.Idx) : ∃ t : Fin cfg0.N, (cfg0.win 11).flush t = true ∧ i ∈ ((cfg0.win 11).blk t).view.set := by
  have h0 : (i 0).val < 16384 := (i 0).isLt
  have h1 : (i 1).val < 1024 := (i 1).isLt
  have hn : (i 0).val / 512 < cfg0.N := lt_of_lt_of_eq (by omega) N_0.symm
  refine ⟨⟨(i 0).val / 512, hn⟩, flush0_11 _, ?_⟩
  show i ∈ ((View.whole main_v4).slice (win0_11.rect ⟨(i 0).val / 512, hn⟩)).set
  rw [View.set_slice_whole, Rect.mem_set_unit]
  have e : win0_11.index ⟨(i 0).val / 512, hn⟩ = ![(i 0).val / 512, 0] := (idx ⟨(i 0).val / 512, hn⟩).2.2.2.2.2.2.2.2.2.2.2
  have e0 : win0_11.index ⟨(i 0).val / 512, hn⟩ (0 : Fin 2) = (i 0).val / 512 := congrFun e 0
  have e1 : win0_11.index ⟨(i 0).val / 512, hn⟩ (1 : Fin 2) = 0 := congrFun e 1
  intro a
  match a with
  | ⟨0, _⟩ =>
    show win0_11.index ⟨(i 0).val / 512, hn⟩ (0 : Fin 2) * 512 ≤ (i 0).val ∧ (i 0).val < win0_11.index ⟨(i 0).val / 512, hn⟩ (0 : Fin 2) * 512 + 512
    omega
  | ⟨1, _⟩ =>
    show win0_11.index ⟨(i 0).val / 512, hn⟩ (1 : Fin 2) * 1024 ≤ (i 1).val ∧ (i 1).val < win0_11.index ⟨(i 0).val / 512, hn⟩ (1 : Fin 2) * 1024 + 1024
    omega

theorem final : (dats m 0 c).arrAt 11 cfg0.N = G m c :=
  (dats m 0 c).arrAt_eq_of_cover 11 (G m c) (fun t _ => flushed_eq m c t) covered

end Cert.Kernel2Ideal.Merge

end
-- ==== Proof.Merge.Final.lean ====
/-
  The merge's call computes the reference's merge.
-/
module

public import proofs.«01_k».proof.Defs
public import proofs.«01_k».proof.Proof.Merge.Call
public import proofs.«01_k».proof.Proof.Gen.Reference2Ideal.Run

@[expose] public section

set_option maxRecDepth 16384

noncomputable section

namespace Cert.Reference2Ideal.Merge

open Idealize.ShloMosaic Idealize.ShloMosaic.TcCoe Idealize.ShloMosaic.Tactic Cert.Reference2Ideal Cert.Reference2Ideal.Gen
open Idealize.SL.Sem
open Cert.Merge (Data)

variable (x : FVec Ideal S16384x1024 .f32) (a b d : FVec Ideal S16384x512 .f32) (ub : FVec Ideal S16384x8192 .f32)
variable (wa wb wd : FVec Ideal S512x1024 .f32) (wo : FVec Ideal S1024x1024 .f32)

/-- The gates: the last columns through the logistic function, in three parts. -/
def gates : FVec Ideal S16384x3x1024 .f32 :=
  shapeCast S16384x3x1024
    (Host.divf (broadcastInDim S16384x3072 ![] bcast_S_S16384x3072 (constant S_ .f32 0x3F800000#32))
      (addf (broadcastInDim S16384x3072 ![] bcast_S_S16384x3072 (constant S_ .f32 0x3F800000#32))
        (Host.exp (Host.negf (extractStridedSlice S16384x3072 ![0, 5120] ub slices_S16384x8192_S16384x3072_0_5120)))) : FVec Ideal S16384x3072 .f32)
    shapeCasts_S16384x3072_S16384x3x1024

theorem gates_at (r : Fin 16384) (g : Fin 3) (s : Fin 1024) :
    gates ub (ix3 r g s) = Cert.Mlstm.sig (ub (ix2 r ⟨5120 + 1024 * g.val + s.val, by omega⟩)) := by
  unfold gates
  pointwise []
  unfold Cert.Mlstm.sig
  rw [zero_sub]
  exact congrArg (fun e => Ideal.div 1 (1 + Ideal.exp (-ub (ix2 r e)))) (Fin.ext (by show 5120 + (g.val * 1024 + s.val) = 5120 + 1024 * g.val + s.val; omega))

/-- The gated sum of the three projections. -/
def mixed : FVec Ideal S16384x1024 .f32 :=
  addf (addf
    (mulf (shapeCast S16384x1024 (extractStridedSlice S16384x1x1024 ![0, 0, 0] (gates ub) slices_S16384x3x1024_S16384x1x1024_0_0_0)
        shapeCasts_S16384x1x1024_S16384x1024)
      (Host.dotGeneral (φ₁ := .f32) (φ₂ := .f32) dot_S16384x512_S512x1024_S16384x1024_1_0_0_1_n_n none a wa))
    (mulf (shapeCast S16384x1024 (extractStridedSlice S16384x1x1024 ![0, 1, 0] (gates ub) slices_S16384x3x1024_S16384x1x1024_0_1_0)
        shapeCasts_S16384x1x1024_S16384x1024)
      (Host.dotGeneral (φ₁ := .f32) (φ₂ := .f32) dot_S16384x512_S512x1024_S16384x1024_1_0_0_1_n_n none b wb)))
    (mulf (shapeCast S16384x1024 (extractStridedSlice S16384x1x1024 ![0, 2, 0] (gates ub) slices_S16384x3x1024_S16384x1x1024_0_2_0)
        shapeCasts_S16384x1x1024_S16384x1024)
      (Host.dotGeneral (φ₁ := .f32) (φ₂ := .f32) dot_S16384x512_S512x1024_S16384x1024_1_0_0_1_n_n none d wd))

/-- One branch of the sum: its gate times its projection. -/
theorem branch_at (g : Fin 3) (hs : S16384x3x1024.Slices ![0, g.val, 0] S16384x1x1024) (v : FVec Ideal S16384x512 .f32)
    (w : FVec Ideal S512x1024 .f32) (r : Fin 16384) (k : Fin 1024) :
    mulf (shapeCast S16384x1024 (extractStridedSlice S16384x1x1024 ![0, g.val, 0] (gates ub) hs) shapeCasts_S16384x1x1024_S16384x1024)
      (Host.dotGeneral (φ₁ := .f32) (φ₂ := .f32) dot_S16384x512_S512x1024_S16384x1024_1_0_0_1_n_n none v w : FVec Ideal S16384x1024 .f32) (ix2 r k) =
    Cert.Mlstm.sig (ub (ix2 r ⟨5120 + 1024 * g.val + k.val, by omega⟩)) * ∑ j, v (ix2 r j) * w (ix2 j k) := by
  rw [← gates_at]
  generalize gates ub = X
  pointwise []

theorem mixed_at (r : Fin 16384) (k : Fin 1024) : mixed a b d ub wa wb wd (ix2 r k) = (Data.of x a b d ub wa wb wd wo).mix r k :=
  congrArg₂ (· + ·) (congrArg₂ (· + ·) (branch_at ub 0 slices_S16384x3x1024_S16384x1x1024_0_0_0 a wa r k)
    (branch_at ub 1 slices_S16384x3x1024_S16384x1x1024_0_1_0 b wb r k)) (branch_at ub 2 slices_S16384x3x1024_S16384x1x1024_0_2_0 d wd r k)

/-- The reference's result. -/
def result : FVec Ideal S16384x1024 .f32 :=
  addf x (Host.dotGeneral (φ₁ := .f32) (φ₂ := .f32) dot_S16384x1024_S1024x1024_S16384x1024_1_0_0_1_n_n none (mixed a b d ub wa wb wd) wo)

theorem result_at (r : Fin 16384) (s : Fin 1024) : result x a b d ub wa wb wd wo (ix2 r s) = (Data.of x a b d ub wa wb wd wo).out r s := by
  unfold Data.out
  simp only [← mixed_at x a b d ub wa wb wd wo]
  unfold result
  generalize mixed a b d ub wa wb wd = X
  pointwise []
  rfl

end Cert.Reference2Ideal.Merge

namespace Cert.Merge

open Idealize.ShloMosaic Idealize.ShloMosaic.TcCoe Idealize.SL.Sem

/-- The call computes the reference's merge. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨Cert.Kernel2Ideal.Merge.G m,
    (θ_run _ _ _).mono (fun _ h c => ⟨(h c).1.trans (Cert.Kernel2Ideal.Merge.final m c), (h c).2⟩) (Cert.Kernel2Ideal.Value.run_blocks m g), ?_⟩
  refine (θ_run _ _ _).mono (fun _ h c => ⟨(h c).1.trans ?_, (h c).2⟩) (Cert.Reference2Ideal.Value.run m' g')
  obtain ⟨a0, a1, a2, a3, a4, a5, a6, a7, a8⟩ := hargs c
  rw [a0, a1, a2, a3, a4, a5, a6, a7, a8]
  funext i
  obtain ⟨r, s, rfl⟩ : ∃ r s, i = ix2 r s := ⟨_, _, eq_ix2 i⟩
  exact Cert.Reference2Ideal.Merge.result_at _ _ _ _ _ _ _ _ _ r s

end Cert.Merge

end
-- ==== Proof.InProj.StepIdeal.lean ====
/-
  One grid point of the input projection, over the reals: what the body leaves in its buffers, at the first point of a row of blocks
  (where it normalises the rows and makes the narrow results) and at the others (where it reads the normalised rows back).
-/
module

public import proofs.«01_k».proof.Proof.Gen.Kernel3Ideal.Frame
public import proofs.«01_k».proof.Proof.Gen.Kernel3Ideal.Skeleton
public import Idealize.ShloMosaic.Lib.Pipeline.ValueKit

@[expose] public section

set_option maxRecDepth 16384

noncomputable section

namespace Cert.Kernel3Ideal.InProj

open Idealize.ShloMosaic Idealize.ShloMosaic.TcCoe Idealize.ShloMosaic.Tactic Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem origin2 : (![0, 0] : Fin 2 → Nat) = fun _ => 0 := funext fun a => by fin_cases a <;> rfl

theorem origin3 : (![0, 0, 0] : Fin 3 → Nat) = fun _ => 0 := funext fun a => by fin_cases a <;> rfl

/-- A buffer that one store filled whole holds the stored block. -/
theorem stored {Val : EltTy → Type} [∀ e, Nonempty (Val e)] {κ : Kind} {sp : Space} {S : Shape} {e : EltTy} (v : View sig κ sp S e)
    (f : v.ty.Contents Val) {off : Fin S.rank → Nat} (h : off = fun _ => 0) (inb : ∀ a, off a + S.size a ≤ S.size a) (w : S.Idx → Val e) :
    v.read Val (v.writes Val f [⟨Rect.unit off S.size inb, w⟩]) = w :=
  (View.read_writes_eq_canon _ _ _ fun y => ⟨_, List.mem_singleton_self _, View.mem_set_unit_zero h inb y⟩).trans (View.canon_unit_zero h inb w)

/-- Reading a whole buffer by a load. -/
theorem loaded {Val : EltTy → Type} {κ : Kind} {sp : Space} {S : Shape} {e : EltTy} (v : View sig κ sp S e)
    (f : v.ty.Contents Val) {off : Fin S.rank → Nat} (h : off = fun _ => 0) (inb : ∀ a, off a + S.size a ≤ S.size a) :
    v.readAt Val (Rect.unit off S.size inb).toLoadRect f = v.read Val f :=
  View.ld_unit_zero h inb (v.read Val f)

variable (c : Dev nD) (i : grid0.Coords)
  (arg2 : Memref sig .tc .vmem S1024x1024 .f32) (harg2 : arg2.IsWhole) (arg3 : Memref sig .tc .vmem S1x1024 .f32) (harg3 : arg3.IsWhole)
  (arg4 : Memref sig .tc .vmem S1024x1024 .bf16) (harg4 : arg4.IsWhole) (arg5 : Memref sig .tc .vmem S1024x128 .bf16) (harg5 : arg5.IsWhole)
  (arg6 : Memref sig .tc .vmem S8x1024 .bf16) (harg6 : arg6.IsWhole) (arg7 : Memref sig .tc .vmem S1024x1024 .f32) (harg7 : arg7.IsWhole)
  (arg8 : Memref sig .tc .vmem S1024x128 .f32) (harg8 : arg8.IsWhole) (arg9 : Memref sig .tc .vmem S1x8x1024 .f32) (harg9 : arg9.IsWhole)
  (arg10 : Memref sig .tc .vmem S1024x1024 .bf16) (harg10 : arg10.IsWhole)
  (x0 : Vec F S1024x1024 .f32) (x1 : Vec F S1x1024 .f32) (x2 : Vec F S1024x1024 .bf16) (x3 : Vec F S1024x128 .bf16) (x4 : Vec F S8x1024 .bf16)

/-- The five inputs' buffers, at the blocks `x0` … `x4`. -/
def ins : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4)

/-- The results' buffers and the scratch, at given blocks. -/
def outs (y0 : Vec F S1024x1024 .f32) (y1 : Vec F S1024x128 .f32) (y2 : Vec F S1x8x1024 .f32) (s : Vec F S1024x1024 .bf16) : sProp 𝕄 :=
  iprop(owns (c : Thread nD τ) arg7 fullShare y0 ∗ owns (c : Thread nD τ) arg8 fullShare y1 ∗ owns (c : Thread nD τ) arg9 fullShare y2
    ∗ owns (c : Thread nD τ) arg10 fullShare s)

set_option maxHeartbeats 2000000 in
/-- The first point of a row of blocks: everything is made from the inputs, whatever the buffers held. -/
theorem first (hc : k0_cond1 i = 1#1) (y0 : Vec F S1024x1024 .f32) (y1 : Vec F S1024x128 .f32) (y2 : Vec F S1x8x1024 .f32)
    (s : Vec F S1024x1024 .bf16) (E : Set ℕ) (K : PUnit → sProp 𝕄) :
    iprop(ins c arg2 arg3 arg4 arg5 arg6 x0 x1 x2 x3 x4 ∗ outs c arg7 arg8 arg9 arg10 y0 y1 y2 s
        ∗ (iprop(ins c arg2 arg3 arg4 arg5 arg6 x0 x1 x2 x3 x4
            ∗ outs c arg7 arg8 arg9 arg10 (k0_pay5 (k0_pay2 x0 x1) x2) (k0_pay3 x0 x1 x3) (k0_pay4 x0 x1 x4) (k0_pay2 x0 x1)) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold ins outs owns
  iintro ⟨⟨⟨%f0, %hf0, H0⟩, ⟨%f1, %hf1, H1⟩, ⟨%f2, %hf2, H2⟩, ⟨%f3, %hf3, H3⟩, ⟨%f4, %hf4, H4⟩⟩, ⟨⟨%f5, -, H5⟩, ⟨%f6, -, H6⟩, ⟨%f7, -, H7⟩, ⟨%f8, -, H8⟩⟩, Hk⟩
  subst hf0 hf1 hf2 hf3 hf4
  sl_exec (disch := first | sl_exact hc)
  sl_step
  iapply Hk
  isplitl [H0 H1 H2 H3 H4]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    iexists f4; isplitr; · ipureintro; rfl
    iexact H4
  isplitl [H5]
  · iexists _; isplitr
    swap; · iexact H5
    ipureintro
    rw [stored _ _ origin2, loaded _ _ origin2]
    unfold first.sl.v3 first.sl.H8_1
    rw [View.readCov_unit_zero _ origin2, loaded _ _ origin2, loaded _ _ origin2]
  isplitl [H6]
  · iexists _; isplitr
    swap; · iexact H6
    ipureintro
    rw [stored _ _ origin2, loaded _ _ origin2, loaded _ _ origin2, loaded _ _ origin2]
  isplitl [H7]
  · iexists _; isplitr
    swap; · iexact H7
    ipureintro
    rw [stored _ _ origin3, loaded _ _ origin2, loaded _ _ origin2, loaded _ _ origin2]
  iexists _; isplitr
  swap; · iexact H8
  ipureintro
  unfold first.sl.H8_1
  rw [stored _ _ origin2, loaded _ _ origin2, loaded _ _ origin2]

set_option maxHeartbeats 2000000 in
/-- Any other point: the wide result's block is made from the rows that the scratch holds, and nothing else is touched. -/
theorem later (hc : ¬k0_cond1 i = 1#1) (y0 : Vec F S1024x1024 .f32) (y1 : Vec F S1024x128 .f32) (y2 : Vec F S1x8x1024 .f32)
    (s : Vec F S1024x1024 .bf16) (E : Set ℕ) (K : PUnit → sProp 𝕄) :
    iprop(ins c arg2 arg3 arg4 arg5 arg6 x0 x1 x2 x3 x4 ∗ outs c arg7 arg8 arg9 arg10 y0 y1 y2 s
        ∗ (iprop(ins c arg2 arg3 arg4 arg5 arg6 x0 x1 x2 x3 x4 ∗ outs c arg7 arg8 arg9 arg10 (k0_pay5 s x2) y1 y2 s) -∗ K ⟨⟩))
      ⊢ wp frame (wpE (defs₀ (F := F)) Variants.none c none) E
          (cc0_in_proj i arg2 harg2 arg3 harg3 arg4 harg4 arg5 harg5 arg6 harg6 arg7 harg7 arg8 harg8 arg9 harg9 arg10 harg10) K := by
  simp only [cc0_in_proj_eq_skeleton]; unfold cc0_in_proj_skel
  unfold ins outs
  unfold owns
  iintro ⟨⟨H0, H1, ⟨%f2, %hf2, H2⟩, H3, H4⟩, ⟨⟨%f5, -, H5⟩, H6, H7, ⟨%f8, %hf8, H8⟩⟩, Hk⟩
  subst hf2 hf8
  sl_exec (disch := first | sl_exact hc)
  sl_step
  iapply Hk
  isplitl [H0 H1 H2 H3 H4]
  · isplitl [H0]; · iexact H0
    isplitl [H1]; · iexact H1
    isplitl [H2]
    · iexists f2; isplitr; · ipureintro; rfl
      iexact H2
    isplitl [H3]; · iexact H3
    iexact H4
  isplitl [H5]
  · iexists _; isplitr
    swap; · iexact H5
    ipureintro
    rw [stored _ _ origin2, loaded _ _ origin2, loaded _ _ origin2]
  isplitl [H6]; · iexact H6
  isplitl [H7]; · iexact H7
  iexists f8; isplitr; · ipureintro; rfl
  iexact H8

end Cert.Kernel3Ideal.InProj

end
-- ==== Proof.InProj.RunIdeal.lean ====
/-
  The input projection's run, over the reals: what every buffer holds after each grid point, and from it the call's frame. The narrow
  results are stored at the first of a row's eight points and written back at the last, so between them their buffers, and the scratch
  with the normalised rows, hold what the row's first point left: functions of the row's blocks, which do not move inside a row.
-/
module

public import proofs.«01_k».proof.Proof.InProj.StepIdeal
public import Idealize.ShloMosaic.Lib.Claim

@[expose] public section

set_option maxRecDepth 16384

noncomputable section

namespace Cert.Kernel3Ideal.InProj

open Idealize.ShloMosaic Idealize.ShloMosaic.TcCoe Idealize.ShloMosaic.Tactic Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The normalised rows of a grid point's row of blocks. -/
def rows (c : Dev nD) (t : Fin cfg0.N) : Vec F S1024x1024 .bf16 := k0_pay2 (iblk m c 0 t) (iblk m c 1 t)

/-- A block of the wide result. -/
def wide (c : Dev nD) (t : Fin cfg0.N) : Vec F S1024x1024 .f32 := k0_pay5 (rows m c t) (iblk m c 2 t)

/-- A block of the narrow result, by columns. -/
def narrow (c : Dev nD) (t : Fin cfg0.N) : Vec F S1024x128 .f32 := k0_pay3 (iblk m c 0 t) (iblk m c 1 t) (iblk m c 3 t)

/-- A block of the narrow result, by rows. -/
def turned (c : Dev nD) (t : Fin cfg0.N) : Vec F S1x8x1024 .f32 := k0_pay4 (iblk m c 0 t) (iblk m c 1 t) (iblk m c 4 t)

/-- The scratch with the normalised rows. -/
abbrev scratch : Memref sig .tc .vmem S1024x1024 .bf16 := Memref.whole cc0_scratch0

/-- What is kept between points: before the first nothing is known, afterwards the scratch holds the normalised rows of the point before. -/
def kept (c : Dev nD) : (n : ℕ) → n ≤ cfg0.N → sProp 𝕄
  | 0, _ => Pipeline.ΦA spec0 c
  | n + 1, hn => iprop(owns (c : Thread nD τ) scratch fullShare (rows m c ⟨n, hn⟩) ∗ (∃ r, prngReg c r))

theorem kept_zero (c : Dev nD) (n : ℕ) (h : n ≤ cfg0.N) (hz : n = 0) : kept m c n h = Pipeline.ΦA spec0 c := by
  subst hz; rfl

theorem kept_succ (c : Dev nD) (n : ℕ) (hn : n < cfg0.N) :
    kept m c (n + 1) hn = iprop(owns (c : Thread nD τ) scratch fullShare (rows m c ⟨n, hn⟩) ∗ (∃ r, prngReg c r)) := rfl

theorem kept_pos (c : Dev nD) (n : ℕ) (h : n ≤ cfg0.N) (hz : n ≠ 0) :
    kept m c n h = iprop(owns (c : Thread nD τ) scratch fullShare (rows m c ⟨n - 1, by omega⟩) ∗ (∃ r, prngReg c r)) := by
  cases n with
  | zero => exact absurd rfl hz
  | succ n => rfl

theorem any_eq (c : Dev nD) : (Pipeline.ΦA spec0 c : sProp 𝕄)
    = iprop((∃ d, owns (c : Thread nD τ) scratch fullShare d) ∗ (∃ r, prngReg c r)) := by
  unfold Pipeline.ΦA; rw [scopedRest0_eq]; simp only [scratch, owns_whole]; try rfl

/-- The contents of every window's buffer after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => wide m c t
    | ⟨6, _⟩ => narrow m c t
    | ⟨7, _⟩ => turned m c t
    | ⟨_ + 8, h⟩ => absurd h (Nat.not_lt.2 (Nat.le_add_left _ _))
  Φ t := kept m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem kept_castSucc (c : Dev nD) (t : Fin cfg0.N) :
    (dats m 0 c).Φ t.castSucc = kept m c t.val (Nat.le_of_lt t.isLt) := by
  dsimp only [dats]; exact Pipeline.Dat.Φ_castSucc (kept m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = wide m c t := by dsimp only [dats]
theorem after_6 (c : Dev nD) (t : Fin cfg0.N) : (dats m 0 c).after 6 t = narrow m c t := by dsimp only [dats]
theorem after_7 (c : Dev nD) (t : Fin cfg0.N) : (dats m 0 c).after 7 t = turned m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The blocks do not move inside a row -/

theorem lt128 (t : Fin cfg0.N) : t.val < 128 := lt_of_lt_of_eq t.isLt N_0

/-- The point before. -/
abbrev prev (t : Fin cfg0.N) : Fin cfg0.N := ⟨t.val - 1, Nat.lt_of_le_of_lt (Nat.sub_le _ _) t.isLt⟩

/-- A block that is not fetched at a point is the block of the point before. -/
theorem same_of (c : Dev nD) (w : Fin cfg0.W) (t : Fin cfg0.N) (ht : t.val ≠ 0) (hf : (cfg0.win w).fetch t = false)
    (hw : (cfg0.win w).flush (prev t) = false) (X Y : (cfg0.win w).block.Idx → Elt F (cfg0.win w).elt)
    (hb : ∀ d, (dats m 0 c).before w t d = X) (hl : ∀ d, (dats m 0 c).left w (prev t) d = Y) : X = Y := by
  have h := (dats m 0 c).before_of_pos w t ht hf X
  rw [if_neg (by rw [hw]; exact Bool.false_ne_true)] at h
  exact (hb X).symm.trans (h.trans (hl X))

theorem same_0 (c : Dev nD) (t : Fin cfg0.N) (h : ¬t.val % 8 = 0) : iblk m c 0 t = iblk m c 0 (prev t) :=
  same_of m c 0 t (fun e => h (by rw [e])) (Bool.eq_false_iff.mpr fun e => h ((fetch0_0 t).mp e)) rfl _ _ (before_0 m c t)
    (fun d => after_0 m c (prev t))
theorem same_1 (c : Dev nD) (t : Fin cfg0.N) (h : ¬t.val % 8 = 0) : iblk m c 1 t = iblk m c 1 (prev t) :=
  same_of m c 1 t (fun e => h (by rw [e])) (Bool.eq_false_iff.mpr fun e => h (by have := (fetch0_1 t).mp e; omega)) rfl _ _ (before_1 m c t)
    (fun d => after_1 m c (prev t))
theorem same_3 (c : Dev nD) (t : Fin cfg0.N) (h : ¬t.val % 8 = 0) : iblk m c 3 t = iblk m c 3 (prev t) :=
  same_of m c 3 t (fun e => h (by rw [e])) (Bool.eq_false_iff.mpr fun e => h (by have := (fetch0_3 t).mp e; omega)) rfl _ _ (before_3 m c t)
    (fun d => after_3 m c (prev t))
theorem same_4 (c : Dev nD) (t : Fin cfg0.N) (h : ¬t.val % 8 = 0) : iblk m c 4 t = iblk m c 4 (prev t) :=
  same_of m c 4 t (fun e => h (by rw [e])) (Bool.eq_false_iff.mpr fun e => h (by have := (fetch0_4 t).mp e; omega)) rfl _ _ (before_4 m c t)
    (fun d => after_4 m c (prev t))

theorem rows_prev (c : Dev nD) (t : Fin cfg0.N) (h : ¬t.val % 8 = 0) : rows m c (prev t) = rows m c t := by
  unfold rows; rw [same_0 m c t h, same_1 m c t h]
theorem narrow_prev (c : Dev nD) (t : Fin cfg0.N) (h : ¬t.val % 8 = 0) : narrow m c (prev t) = narrow m c t := by
  unfold narrow; rw [same_0 m c t h, same_1 m c t h, same_3 m c t h]
theorem turned_prev (c : Dev nD) (t : Fin cfg0.N) (h : ¬t.val % 8 = 0) : turned m c (prev t) = turned m c t := by
  unfold turned; rw [same_0 m c t h, same_1 m c t h, same_4 m c t h]

/-! ## The branch, and the windows that are idle off it -/

/-- The body's branch is taken at the first point of each row. -/
theorem cond_iff : ∀ t : Fin cfg0.N, k0_cond1 (grid0.coords t) = 1#1 ↔ t.val % 8 = 0 :=
  (fun t => by
    have ht : t.val < 128 := Nat.lt_of_lt_of_eq t.isLt N_0
    have e0 : (grid0.coords t 0).val = t.val / 8 % 16 := Pipeline.Grid.coords_val t 0 (by decide) rfl
    have e1 : (grid0.coords t 1).val = t.val / 1 % 8 := Pipeline.Grid.coords_val t 1 (by decide) rfl
    simp only [k0_cond1, e0, e1]
    word_cmp
   : ∀ t : Fin grid0.N, k0_cond1 (grid0.coords t) = 1#1 ↔ t.val % 8 = 0)

theorem live_6 (t : Fin cfg0.N) (h : t.val % 8 = 0) : cfg0.idle 6 (grid0.coords t) = false := by
  show (!(k0_cond1 (grid0.coords t) == 1#1)) = false
  rw [(cond_iff t).mpr h]; rfl
theorem live_7 (t : Fin cfg0.N) (h : t.val % 8 = 0) : cfg0.idle 7 (grid0.coords t) = false := by
  show (!(k0_cond1 (grid0.coords t) == 1#1)) = false
  rw [(cond_iff t).mpr h]; rfl
theorem idle_6 (t : Fin cfg0.N) (h : ¬t.val % 8 = 0) : cfg0.idle 6 (grid0.coords t) = true := by
  show (!(k0_cond1 (grid0.coords t) == 1#1)) = true
  rw [beq_eq_false_iff_ne.mpr fun e => h ((cond_iff t).mp e)]; rfl
theorem idle_7 (t : Fin cfg0.N) (h : ¬t.val % 8 = 0) : cfg0.idle 7 (grid0.coords t) = true := by
  show (!(k0_cond1 (grid0.coords t) == 1#1)) = true
  rw [beq_eq_false_iff_ne.mpr fun e => h ((cond_iff t).mp e)]; rfl

/-- Off a row's first point the narrow result's buffer holds what that point left. -/
theorem before_6 (c : Dev nD) (d) : ∀ (n : ℕ) (t : Fin cfg0.N), t.val = n → ¬t.val % 8 = 0 → (dats m 0 c).before 6 t d = narrow m c t := by
  intro n
  induction n with
  | zero => intro t e h; exact absurd (by rw [e]) h
  | succ n ih =>
    intro t e h
    rw [(dats m 0 c).before_of_pos 6 t (by omega) rfl d,
      if_neg (fun hf => by have h7 : (t.val - 1) % 8 = 7 := (flush0_6 (prev t)).mp hf; omega), ← narrow_prev m c t h]
    unfold Dat.left
    by_cases h1 : (prev t).val % 8 = 0
    · rw [live_6 (prev t) h1]; exact after_6 m c (prev t)
    · rw [idle_6 (prev t) h1]; exact ih (prev t) (by show t.val - 1 = n; omega) h1

theorem before_7 (c : Dev nD) (d) : ∀ (n : ℕ) (t : Fin cfg0.N), t.val = n → ¬t.val % 8 = 0 → (dats m 0 c).before 7 t d = turned m c t := by
  intro n
  induction n with
  | zero => intro t e h; exact absurd (by rw [e]) h
  | succ n ih =>
    intro t e h
    rw [(dats m 0 c).before_of_pos 7 t (by omega) rfl d,
      if_neg (fun hf => by have h7 : (t.val - 1) % 8 = 7 := (flush0_7 (prev t)).mp hf; omega), ← turned_prev m c t h]
    unfold Dat.left
    by_cases h1 : (prev t).val % 8 = 0
    · rw [live_7 (prev t) h1]; exact after_7 m c (prev t)
    · rw [idle_7 (prev t) h1]; exact ih (prev t) (by show t.val - 1 = n; omega) h1

/-! ## The body at every point -/

/-- A window that is live at a point leaves what it should. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- A window that is idle at a point, and whose buffer holds what it should after it, leaves it, written back or not. -/
theorem leaves_idle (c : Dev nD) (w : Fin cfg0.W) (t : Fin cfg0.N) (h : cfg0.idle w (grid0.coords t) = true) (d)
    (hb : (dats m 0 c).before w t d = (dats m 0 c).after w t) :
    owns (c : Thread nD τ) ((cfg0.win w).stage (cfg0.slots t w)) fullShare ((dats m 0 c).before w t d) ⊢ (dats m 0 c).leavesExact w t := by
  unfold Dat.leavesExact
  rw [h]
  cases hf : (cfg0.win w).flush t
  · iintro H; iexists d; iexact H
  · rw [hb]

/-- What the body finds at a point, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it leaves. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

/-- The scratch at anything, whatever point comes next. -/
theorem scratch_any (c : Dev nD) (n : ℕ) (h : n ≤ cfg0.N) :
    kept m c n h ⊢ iprop((∃ d, owns (c : Thread nD τ) scratch fullShare d) ∗ (∃ r, prngReg c r)) := by
  cases n with
  | zero => rw [kept_zero m c 0 h rfl, any_eq]
  | succ n =>
    rw [kept_succ]
    iintro ⟨HS, Hg⟩
    isplitl [HS]
    · iexists _; iexact HS
    iexact Hg

set_option maxHeartbeats 4000000 in
/-- The body does so at every point. -/
theorem body_at_point (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).owesAt () t.succ = (dats m 0 c).owesAt () t.castSucc from rfl,
    show (dats m 0 c).Φ t.succ = kept m c (t.val + 1) t.isLt from rfl, kept_succ, kept_castSucc]
  rw [leaves_live m c 0 t rfl, leaves_live m c 1 t rfl, leaves_live m c 2 t rfl, leaves_live m c 3 t rfl, leaves_live m c 4 t rfl,
    leaves_live m c 5 t rfl, after_0, after_1, after_2, after_3, after_4, after_5]
  by_cases h : t.val % 8 = 0
  · rw [leaves_live m c 6 t (live_6 t h), leaves_live m c 7 t (live_7 t h), after_6, after_7]
    refine BIBase.Entails.trans (sep_mono_left (scratch_any m c _ _)) ?_
    iintro ⟨⟨⟨%s, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (first c (grid0.coords t) _ _ _ _ _ _ _ _ _ _ _ _ _ _ _ _ _ _ (iblk m c 0 t) (iblk m c 1 t) (iblk m c 2 t) (iblk m c 3 t)
      (iblk m c 4 t) ((cond_iff t).mpr h) _ _ _ s Set.univ _)
    unfold ins outs
    isplitl [H0 H1 H2 H3 H4]
    · isplitl [H0]; · iexact H0
      isplitl [H1]; · iexact H1
      isplitl [H2]; · iexact H2
      isplitl [H3]; · iexact H3
      iexact H4
    isplitl [H5 H6 H7 HS]
    · isplitl [H5]; · iexact H5
      isplitl [H6]; · iexact H6
      isplitl [H7]; · iexact H7
      iexact HS
    iintro ⟨⟨H0, H1, H2, H3, H4⟩, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [kept_pos m c _ _ (fun e => h (by rw [e])), show rows m c ⟨t.val - 1, _⟩ = rows m c t from rows_prev m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (later c (grid0.coords t) _ _ _ _ _ _ _ _ _ _ _ _ _ _ _ _ _ _ (iblk m c 0 t) (iblk m c 1 t) (iblk m c 2 t) (iblk m c 3 t)
      (iblk m c 4 t) (fun e => h ((cond_iff t).mp e)) _ _ _ (rows m c t) Set.univ _)
    unfold ins outs
    isplitl [H0 H1 H2 H3 H4]
    · isplitl [H0]; · iexact H0
      isplitl [H1]; · iexact H1
      isplitl [H2]; · iexact H2
      isplitl [H3]; · iexact H3
      iexact H4
    isplitl [H5 H6 H7 HS]
    · isplitl [H5]; · iexact H5
      isplitl [H6]; · iexact H6
      isplitl [H7]; · iexact H7
      iexact HS
    iintro ⟨⟨H0, H1, H2, H3, H4⟩, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_idle m c 6 t (idle_6 t h) d6 ((before_6 m c d6 _ t rfl h).trans (after_6 m c t).symm)); iexact H6
    iapply (leaves_idle m c 7 t (idle_7 t h) d7 ((before_7 m c d7 _ t rfl h).trans (after_7 m c t).symm)); iexact H7

theorem row_of_table (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row_of_table]
  exact triple_restated (body_at_point m c t) rfl .rfl fun _ => .rfl

theorem kept_in (c : Dev nD) : Pipeline.ΦA spec0 c ⊢ (dats m 0 c).Φ 0 := by
  rw [show (dats m 0 c).Φ 0 = kept m c 0 (Nat.zero_le _) from rfl, kept_zero m c 0 _ rfl]

theorem kept_out (c : Dev nD) : (dats m 0 c).Φ (Fin.last cfg0.N) ⊢ Pipeline.ΦA spec0 c := by
  rw [show (dats m 0 c).Φ (Fin.last cfg0.N) = kept m c cfg0.N (Nat.le_refl _) from rfl, any_eq]
  exact scratch_any m c _ _

/-! ## The run and the frame -/

set_option backward.isDefEq.respectTransparency.types false in
/-- The call's run: it ends, every array is what the contents above say, and every counter is at zero. -/
theorem run : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by fin_cases w <;> rfl)
    (howed := fun _ _ => rfl) (V := V m) (hmain := hmain m Variants.none) (hA := A_eq m) (hin := kept_in m) (hout := kept_out m)

theorem run_arrays : θ_run defs (onTc (τ := τ) (main (F := F))) (s₀ m ρ) (Pipeline.FramePost cfgs (dats m) 0 (V m)) :=
  (θ_run defs _ _).mono (fun _ h => h.1) (run m ρ)

/-- The frame: the arguments end unchanged, and the counters at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_arrays m ρ)) ((θ_run defs _ _).mono (fun _ h => h.2) (run m ρ))

end Cert.Kernel3Ideal.InProj

end
-- ==== Proof.InProj.RunKernel.lean ====
/-
  The input projection's frame in the device's formats. The program is the same text as the one read over the reals, whose run was
  proved for floats of any kind, so its table of bodies is that program's table and its frame that program's frame.
-/
module

public import proofs.«01_k».proof.Proof.InProj.RunIdeal
public import proofs.«01_k».proof.Proof.Gen.Kernel3.Frame

@[expose] public section

set_option maxRecDepth 16384

noncomputable section

namespace Cert.Kernel3.InProj

open Idealize.ShloMosaic Idealize.ShloMosaic.TcCoe Cert.Kernel3 Cert.Kernel3.Gen

variable {F : FTy → Type} [FloatOps F]
variable (m : (ℓ : Loc nD τ sig) → Buf (Elt F) ℓ) (ρ : Dev nD → PrngReg)

/-- The two tables have the same bodies, -/
theorem bodies_same : defs₀ (F := F) = Cert.Kernel3Ideal.defs₀ (F := F) := by
  unfold defs₀ Cert.Kernel3Ideal.defs₀
  congr 1
  funext a b
  rcases a with ⟨_ | n, h⟩
  · rfl
  · exact absurd h (Nat.not_lt.2 (Nat.le_add_left _ _))

/-- and so have the two with the pipeline's own labels. -/
theorem table_same : defs (F := F) = Cert.Kernel3Ideal.defs (F := F) := by
  unfold defs Cert.Kernel3Ideal.defs
  exact congrArg (fun d => Pipeline.defs (pcfgs (F := F)) d) bodies_same

/-- The frame: the arguments end unchanged, and the counters at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [table_same]
  exact Cert.Kernel3Ideal.InProj.frame_holds m ρ

end Cert.Kernel3.InProj

end
-- ==== Proof.InProj.Spec.lean ====
/-
  The input projection, as a function of coordinates: the layer's input is normalised row by row and multiplied by the columns of one
  weight. The results are most of the product's columns side by side, the few narrow columns beside zeros, and the gates' columns again,
  turned, in groups of 1024 rows.
-/
module

public import Idealize.ShloMosaic.Lib.Pipeline.ValueKit

@[expose] public section

noncomputable section

namespace Cert.InProj

open Idealize.ShloMosaic

/-- What the projection reads: the layer's input, the norm's scale and the weight. -/
structure Data where
  x : Fin 16384 → Fin 1024 → EReal
  g : Fin 1024 → EReal
  w : Fin 1024 → Fin 8216 → EReal

/-- The two constants of the norm: how many entries a row has, and what is added to the mean of their squares. -/
def width : EReal := (FloatOps.ofBits .f32 0x44800000#32 : Ideal .f32)
def small : EReal := (FloatOps.ofBits .f32 0x358637BD#32 : Ideal .f32)

/-- A row's factor: one over the root of its mean square. -/
def factor (v : Fin 1024 → EReal) : EReal := Ideal.rsqrt (Ideal.div (∑ k, v k * v k) width + small)

/-- The normalised rows. -/
def Data.h (D : Data) (r : Fin 16384) (k : Fin 1024) : EReal := D.x r k * factor (D.x r) * D.g k

/-- The product with the weight's columns. -/
def Data.u (D : Data) (r : Fin 16384) (j : Fin 8216) : EReal := ∑ k, D.h r k * D.w k j

/-- The weight's column that is column `j` of the wide result: the narrow columns are left out. -/
def wideCol (j : Fin 8192) : Fin 8216 :=
  ⟨if j.val < 1024 then j.val else if j.val < 2048 then j.val + 16 else j.val + 24, by split_ifs <;> omega⟩

theorem wideCol_val (j : Fin 8192) : (j.val < 1024 → (wideCol j).val = j.val) ∧
    (1024 ≤ j.val → j.val < 2048 → (wideCol j).val = j.val + 16) ∧ (2048 ≤ j.val → (wideCol j).val = j.val + 24) := by
  simp only [wideCol]
  split_ifs <;> omega

/-- The weight's column that is column `j` of the narrow result. -/
def narrowCol (j : Fin 24) : Fin 8216 := ⟨if j.val < 16 then 1024 + j.val else 2048 + j.val, by split_ifs <;> omega⟩

/-- The weight's column of gate `s`. -/
def gateCol (s : Fin 8) : Fin 8216 := ⟨2064 + s.val, by omega⟩

/-- A value chosen by cases is `z` when it is in each case. -/
theorem either {p : Prop} [Decidable p] {a : p → EReal} {b : ¬p → EReal} {z : EReal} (ha : ∀ h, a h = z) (hb : ∀ h, b h = z) :
    (if h : p then a h else b h) = z := by
  by_cases h : p
  · rw [dif_pos h]; exact ha h
  · rw [dif_neg h]; exact hb h

/-- A row in its group of 1024. -/
def inGroup (b : Fin 16) (r : Fin 1024) : Fin 16384 := ⟨1024 * b.val + r.val, by omega⟩

/-- The wide result, -/
def Data.wide (D : Data) (r : Fin 16384) (j : Fin 8192) : EReal := D.u r (wideCol j)

/-- the narrow columns beside zeros, -/
def Data.narrow (D : Data) (r : Fin 16384) (j : Fin 128) : EReal := if h : j.val < 24 then D.u r (narrowCol ⟨j.val, h⟩) else 0

/-- and the gates, turned. -/
def Data.turned (D : Data) (b : Fin 16) (s : Fin 8) (r : Fin 1024) : EReal := D.u (inGroup b r) (gateCol s)

/-- The narrow weight beside zeros, -/
def Data.narrowW (D : Data) (k : Fin 1024) (j : Fin 128) : EReal := if h : j.val < 24 then D.w k (narrowCol ⟨j.val, h⟩) else 0

/-- whose product with the normalised rows is the narrow result: a sum of zeros is zero. -/
theorem Data.narrow_eq (D : Data) (r : Fin 16384) (j : Fin 128) : (∑ k, D.h r k * D.narrowW k j) = D.narrow r j := by
  unfold Data.narrowW Data.narrow
  by_cases h : j.val < 24
  · simp only [dif_pos h]; rfl
  · simp only [dif_neg h, mul_zero, Finset.sum_const_zero]

/-- The data as arrays hold them. -/
def Data.of (x : FVec Ideal ⟨2, ![16384, 1024]⟩ .f32) (g : FVec Ideal ⟨1, ![1024]⟩ .f32) (w : FVec Ideal ⟨2, ![1024, 8216]⟩ .f32) : Data where
  x r k := x (ix2 r k)
  g k := g (ix1 k)
  w k j := w (ix2 k j)

end Cert.InProj

end
-- ==== Proof.InProj.Body.lean ====
/-
  The input projection's payloads and host arrays, entry by entry.
-/
module

public import proofs.«01_k».proof.Proof.InProj.RunIdeal
public import proofs.«01_k».proof.Proof.InProj.Spec
public import Idealize.ShloMosaic.Lib.Pipeline.ValueKit
public import Idealize.ShloMosaic.Lib.KernelVsHost
public import Idealize.ShloMosaic.Lib.StableHlo.ReadAt
public import Idealize.ShloMosaic.Lib.Tactic.CleanTypes

@[expose] public section

set_option maxRecDepth 16384

noncomputable section

namespace Cert.Kernel3Ideal.InProj

open Idealize.ShloMosaic Idealize.ShloMosaic.TcCoe Idealize.ShloMosaic.Tactic Cert.Kernel3Ideal Cert.Kernel3Ideal.Gen
open Idealize.ShloMosaic.StableHlo Idealize.SL.Sem
open Cert.InProj (Data factor wideCol narrowCol gateCol)

/-- The normalised rows of a block. -/
theorem rows_at (x0 : Vec Ideal S1024x1024 .f32) (x1 : Vec Ideal S1x1024 .f32) (r : Fin 1024) (k : Fin 1024) :
    k0_pay1 x0 x1 (ix2 r k) = x0 (ix2 r k) * factor (fun k => x0 (ix2 r k)) * x1 (ix2 0 k) := by
  pointwise [k0_pay1]

  rfl

theorem stored_at (x0 : Vec Ideal S1024x1024 .f32) (x1 : Vec Ideal S1x1024 .f32) (r : Fin 1024) (k : Fin 1024) :
    k0_pay2 x0 x1 (ix2 r k) = x0 (ix2 r k) * factor (fun k => x0 (ix2 r k)) * x1 (ix2 0 k) := by
  rw [← rows_at]
  unfold k0_pay2
  generalize k0_pay1 x0 x1 = X
  pointwise []

/-- The three products. -/
theorem narrow_at (x0 : Vec Ideal S1024x1024 .f32) (x1 : Vec Ideal S1x1024 .f32) (w : Vec Ideal S1024x128 .bf16) (r : Fin 1024) (s : Fin 128) :
    k0_pay3 x0 x1 w (ix2 r s) = ∑ k : Fin 1024, x0 (ix2 r k) * factor (fun k => x0 (ix2 r k)) * x1 (ix2 0 k) * w (ix2 k s) := by
  have h := rows_at x0 x1 r
  unfold k0_pay3
  generalize k0_pay1 x0 x1 = X at h ⊢
  pointwise []
  simp only [h]

theorem turned_at (x0 : Vec Ideal S1024x1024 .f32) (x1 : Vec Ideal S1x1024 .f32) (w : Vec Ideal S8x1024 .bf16) (s : Fin 8) (r : Fin 1024) :
    k0_pay4 x0 x1 w (ix3 0 s r) = ∑ k : Fin 1024, x0 (ix2 r k) * factor (fun k => x0 (ix2 r k)) * x1 (ix2 0 k) * w (ix2 s k) := by
  have h := rows_at x0 x1 r
  unfold k0_pay4
  generalize k0_pay1 x0 x1 = X at h ⊢
  pointwise []
  simp only [h]
  exact Finset.sum_congr rfl fun k _ => mul_comm _ _

theorem wide_at (h : Vec Ideal S1024x1024 .bf16) (w : Vec Ideal S1024x1024 .bf16) (r s : Fin 1024) :
    k0_pay5 h w (ix2 r s) = ∑ k : Fin 1024, h (ix2 r k) * w (ix2 k s) := by
  unfold k0_pay5
  pointwise []

variable (m : (ℓ : Loc nD τ sig) → Buf (Elt Ideal) ℓ) (c : Dev nD)

/-- The projection's data, as the device holds it. -/
def dat : Data := Data.of (m ((c : Thread nD τ).loc main_arg0)) (m ((c : Thread nD τ).loc main_arg1)) (m ((c : Thread nD τ).loc main_arg2))

/-! ## The arrays prepared before the call -/

theorem scale_at (k : Fin 1024) : (V m c main_v25 : FVec Ideal S1x1024 .f32) (ix2 0 k) = (dat m c).g k := by
  unfold V
  after_reads_at
  rfl

/-- The weight's entry at a column given by its number. -/
theorem weight_at (k : Fin 1024) {a b : Fin 8216} (h : a.val = b.val) :
    m (c, Proc.tc.devRef main_arg2) (ix2 k a) = (dat m c).w k b := by
  rw [Fin.ext h]
  rfl

theorem gateW_at (s : Fin 8) (k : Fin 1024) : (V m c main_v24 : FVec Ideal S8x1024 .bf16) (ix2 s k) = (dat m c).w k (gateCol s) := by
  unfold V
  after_reads_at
  split_ifs <;> after_reads_at <;> refine weight_at m c k ?_ <;> simp only [gateCol] <;> omega

theorem narrowW_at (k : Fin 1024) (j : Fin 128) : (V m c main_v19 : FVec Ideal S1024x128 .bf16) (ix2 k j) = (dat m c).narrowW k j := by
  unfold V Data.narrowW
  after_reads_at
  by_cases h : j.val < 24
  · rw [dif_pos h, dif_pos h]
    split_ifs <;> after_reads_at <;> refine weight_at m c k ?_ <;> simp only [narrowCol] <;> split_ifs <;> omega
  · rw [dif_neg h, dif_neg h]
    exact sitofp_zero (φ := .f32)

set_option maxHeartbeats 4000000 in
theorem wideW_at (k : Fin 1024) (j : Fin 8192) : (V m c main_v13 : FVec Ideal S1024x8192 .bf16) (ix2 k j) = (dat m c).w k (wideCol j) := by
  unfold V
  after_reads_at
  have hj := Cert.InProj.wideCol_val j
  repeat' refine Cert.InProj.either (fun _ => ?_) (fun _ => ?_)
  all_goals
    after_reads_at
    refine weight_at m c k ?_
    dsimp only
    omega

end Cert.Kernel3Ideal.InProj

end
-- ==== Proof.InProj.Call.lean ====
/-
  The input projection's call: what each grid point writes back is its block of the projection, and the blocks cover the results. A row
  of eight points shares one group of 1024 rows of the input; its points take the wide weight's columns in turn.
-/
module

public import proofs.«01_k».proof.Proof.InProj.Body

@[expose] public section

set_option maxRecDepth 16384

noncomputable section

namespace Cert.Kernel3Ideal.InProj

open Idealize.ShloMosaic Idealize.ShloMosaic.TcCoe Idealize.ShloMosaic.Tactic Cert.Kernel3Ideal Cert.Kernel3Ideal.Gen
open Idealize.ShloMosaic.StableHlo Idealize.SL.Sem
open Cert.InProj (Data factor wideCol narrowCol gateCol inGroup)

variable (m : (ℓ : Loc nD τ sig) → Buf (Elt Ideal) ℓ) (c : Dev nD)

/-- Which block of its array each window takes at a grid point. -/
theorem idx (t : Fin cfg0.N) :
    win0_0.index t = ![t.val / 8, 0] ∧ win0_1.index t = ![0, 0] ∧ win0_2.index t = ![0, t.val % 8] ∧ win0_3.index t = ![0, 0] ∧
    win0_4.index t = ![0, 0] ∧ win0_5.index t = ![t.val / 8, t.val % 8] ∧ win0_6.index t = ![t.val / 8, 0] ∧
    win0_7.index t = ![t.val / 8, 0, 0] :=
  (by decide +kernel : ∀ t : Fin grid0.N,
    win0_0.index t = ![t.val / 8, 0] ∧ win0_1.index t = ![0, 0] ∧ win0_2.index t = ![0, t.val % 8] ∧ win0_3.index t = ![0, 0] ∧
    win0_4.index t = ![0, 0] ∧ win0_5.index t = ![t.val / 8, t.val % 8] ∧ win0_6.index t = ![t.val / 8, 0] ∧
    win0_7.index t = ![t.val / 8, 0, 0]) t

/-- The group of rows that a grid point works on, -/
def group (t : Fin cfg0.N) : Fin 16 := ⟨t.val / 8, by have := lt128 t; omega⟩

/-- and the wide result's column that is column `s` of its block. -/
def col (t : Fin cfg0.N) (s : Fin 1024) : Fin 8192 := ⟨1024 * (t.val % 8) + s.val, by omega⟩

/-! ## One window at a time -/

theorem in_x (t : Fin cfg0.N) (r k : Fin 1024) : (iblk m c 0 t : Vec Ideal S1024x1024 .f32) (ix2 r k) =
    (dat m c).x (inGroup (group t) r) k := by
  have ht := lt128 t
  show _ = m ((c : Thread nD τ).loc main_arg0) (ix2 _ k)
  blk_ext [iblk, inGroup, group, V_main_arg0 m c, idx t]

theorem in_g (t : Fin cfg0.N) (k : Fin 1024) : (iblk m c 1 t : Vec Ideal S1x1024 .f32) (ix2 0 k) = (dat m c).g k := by
  rw [← scale_at m c k]
  blk_ext [iblk, idx t]

theorem in_wide (t : Fin cfg0.N) (k s : Fin 1024) : (iblk m c 2 t : Vec Ideal S1024x1024 .bf16) (ix2 k s) =
    (dat m c).w k (wideCol (col t s)) := by
  have ht := lt128 t
  rw [← wideW_at m c k (col t s)]
  blk_ext [iblk, col, idx t]

theorem in_narrow (t : Fin cfg0.N) (k : Fin 1024) (s : Fin 128) : (iblk m c 3 t : Vec Ideal S1024x128 .bf16) (ix2 k s) =
    (dat m c).narrowW k s := by
  rw [← narrowW_at m c k s]
  blk_ext [iblk, idx t]

theorem in_gates (t : Fin cfg0.N) (s : Fin 8) (k : Fin 1024) : (iblk m c 4 t : Vec Ideal S8x1024 .bf16) (ix2 s k) =
    (dat m c).w k (gateCol s) := by
  rw [← gateW_at m c s k]
  blk_ext [iblk, idx t]

/-- The normalised rows that a grid point works with. -/
theorem rows_eq (t : Fin cfg0.N) (r k : Fin 1024) : rows m c t (ix2 r k) = (dat m c).h (inGroup (group t) r) k := by
  unfold rows
  rw [stored_at]
  simp only [in_x, in_g]
  rfl

/-! ## The blocks of the three results -/

/-- The results as arrays. -/
def wideG : FVec Ideal S16384x8192 .f32 := fun i => (dat m c).wide (i 0) (i 1)
def narrowG : FVec Ideal S16384x128 .f32 := fun i => (dat m c).narrow (i 0) (i 1)
def turnedG : FVec Ideal S16x8x1024 .f32 := fun i => (dat m c).turned (i 0) (i 1) (i 2)

theorem wide_block (t : Fin cfg0.N) (r s : Fin 1024) : wide m c t (ix2 r s) = (dat m c).wide (inGroup (group t) r) (col t s) := by
  unfold wide
  rw [wide_at]
  simp only [rows_eq, in_wide]
  rfl

theorem narrow_block (t : Fin cfg0.N) (r : Fin 1024) (s : Fin 128) :
    narrow m c t (ix2 r s) = (dat m c).narrow (inGroup (group t) r) s := by
  unfold narrow
  rw [narrow_at, ← Data.narrow_eq]
  simp only [in_x, in_g, in_narrow]
  rfl

theorem turned_block (t : Fin cfg0.N) (s : Fin 8) (r : Fin 1024) : turned m c t (ix3 0 s r) = (dat m c).turned (group t) s r := by
  unfold turned
  rw [turned_at]
  simp only [in_x, in_g, in_gates]
  rfl

/-- Where a block's entries lie in its array. -/
theorem emb_wide (t : Fin cfg0.N) (y : S1024x1024.Idx) :
    (((cfg0.win 5).blk t).view.emb y : S16384x8192.Idx) = ix2 (inGroup (group t) (y 0)) (col t (y 1)) := by
  have e : win0_5.index t = ![t.val / 8, t.val % 8] := (idx t).2.2.2.2.2.1
  have e0 : win0_5.index t (0 : Fin 2) = t.val / 8 := congrFun e 0
  have e1 : win0_5.index t (1 : Fin 2) = t.val % 8 := congrFun e 1
  funext a
  apply Fin.ext
  match a with
  | ⟨0, _⟩ => show win0_5.index t (0 : Fin 2) * 1024 + 1 * (y 0).val = 1024 * (t.val / 8) + (y 0).val; omega
  | ⟨1, _⟩ => show win0_5.index t (1 : Fin 2) * 1024 + 1 * (y 1).val = 1024 * (t.val % 8) + (y 1).val; omega

theorem emb_narrow (t : Fin cfg0.N) (y : S1024x128.Idx) :
    (((cfg0.win 6).blk t).view.emb y : S16384x128.Idx) = ix2 (inGroup (group t) (y 0)) (y 1) := by
  have e : win0_6.index t = ![t.val / 8, 0] := (idx t).2.2.2.2.2.2.1
  have e0 : win0_6.index t (0 : Fin 2) = t.val / 8 := congrFun e 0
  have e1 : win0_6.index t (1 : Fin 2) = 0 := congrFun e 1
  funext a
  apply Fin.ext
  match a with
  | ⟨0, _⟩ => show win0_6.index t (0 : Fin 2) * 1024 + 1 * (y 0).val = 1024 * (t.val / 8) + (y 0).val; omega
  | ⟨1, _⟩ => show win0_6.index t (1 : Fin 2) * 128 + 1 * (y 1).val = (y 1).val; omega

theorem emb_turned (t : Fin cfg0.N) (y : S1x8x1024.Idx) :
    (((cfg0.win 7).blk t).view.emb y : S16x8x1024.Idx) = ix3 (group t) (y 1) (y 2) := by
  have e : win0_7.index t = ![t.val / 8, 0, 0] := (idx t).2.2.2.2.2.2.2
  have e0 : win0_7.index t (0 : Fin 3) = t.val / 8 := congrFun e 0
  have e1 : win0_7.index t (1 : Fin 3) = 0 := congrFun e 1
  have e2 : win0_7.index t (2 : Fin 3) = 0 := congrFun e 2
  have hy : (y 0).val < 1 := (y 0).isLt
  funext a
  apply Fin.ext
  match a with
  | ⟨0, _⟩ => show win0_7.index t (0 : Fin 3) * 1 + 1 * (y 0).val = t.val / 8; omega
  | ⟨1, _⟩ => show win0_7.index t (1 : Fin 3) * 8 + 1 * (y 1).val = (y 1).val; omega
  | ⟨2, _⟩ => show win0_7.index t (2 : Fin 3) * 1024 + 1 * (y 2).val = (y 2).val; omega

/-! ## What is written back, and where -/

theorem flushed_wide (t : Fin cfg0.N) : (dats m 0 c).flushed 5 t = ((cfg0.win 5).blk t).view.read (Elt Ideal) (wideG m c) := by
  rw [show (dats m 0 c).flushed 5 t = wide m c t from after_5 m c t]
  funext y
  have h : ∀ y : S1024x1024.Idx, wide m c t y = wideG m c (ix2 (inGroup (group t) (y 0)) (col t (y 1))) := fun y => by
    obtain ⟨r, s, rfl⟩ : ∃ r s, y = ix2 r s := ⟨_, _, eq_ix2 y⟩
    exact wide_block m c t r s
  exact (h y).trans (congrArg (wideG m c) (emb_wide t y).symm)

theorem flushed_narrow (t : Fin cfg0.N) : (dats m 0 c).flushed 6 t = ((cfg0.win 6).blk t).view.read (Elt Ideal) (narrowG m c) := by
  rw [show (dats m 0 c).flushed 6 t = narrow m c t from after_6 m c t]
  funext y
  have h : ∀ y : S1024x128.Idx, narrow m c t y = narrowG m c (ix2 (inGroup (group t) (y 0)) (y 1)) := fun y => by
    obtain ⟨r, s, rfl⟩ : ∃ r s, y = ix2 r s := ⟨_, _, eq_ix2 y⟩
    exact narrow_block m c t r s
  exact (h y).trans (congrArg (narrowG m c) (emb_narrow t y).symm)

theorem flushed_turned (t : Fin cfg0.N) : (dats m 0 c).flushed 7 t = ((cfg0.win 7).blk t).view.read (Elt Ideal) (turnedG m c) := by
  rw [show (dats m 0 c).flushed 7 t = turned m c t from after_7 m c t]
  funext y
  have h : ∀ y : S1x8x1024.Idx, turned m c t y = turnedG m c (ix3 (group t) (y 1) (y 2)) := fun y => by
    obtain ⟨z, s, r, rfl⟩ : ∃ z s r, y = ix3 z s r := ⟨_, _, _, eq_ix3 y⟩
    obtain rfl : z = 0 := Subsingleton.elim _ _
    exact turned_block m c t s r
  exact (h y).trans (congrArg (turnedG m c) (emb_turned t y).symm)

/-- The point of group `b` that takes the wide result's block of columns `j`. -/
def point (b : Fin 16) (j : Fin 8) : Fin cfg0.N := ⟨8 * b.val + j.val, lt_of_lt_of_eq (by omega) N_0.symm⟩

theorem covered_wide (i : S16384x8192.Idx) : ∃ t : Fin cfg0.N, (cfg0.win 5).flush t = true ∧ i ∈ ((cfg0.win 5).blk t).view.set := by
  have h0 : (i 0).val < 16384 := (i 0).isLt
  have h1 : (i 1).val < 8192 := (i 1).isLt
  obtain ⟨t, ht⟩ : ∃ t : Fin cfg0.N, t.val = 8 * ((i 0).val / 1024) + (i 1).val / 1024 :=
    ⟨point ⟨(i 0).val / 1024, by omega⟩ ⟨(i 1).val / 1024, by omega⟩, rfl⟩
  refine ⟨t, flush0_5 t, ?_⟩
  show i ∈ ((View.whole main_v26_0).slice (win0_5.rect t)).set
  rw [View.set_slice_whole, Rect.mem_set_unit]
  have e : win0_5.index t = ![t.val / 8, t.val % 8] := (idx t).2.2.2.2.2.1
  have e0 : win0_5.index t (0 : Fin 2) = t.val / 8 := congrFun e 0
  have e1 : win0_5.index t (1 : Fin 2) = t.val % 8 := congrFun e 1
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

theorem covered_narrow (i : S16384x128.Idx) : ∃ t : Fin cfg0.N, (cfg0.win 6).flush t = true ∧ i ∈ ((cfg0.win 6).blk t).view.set := by
  have h0 : (i 0).val < 16384 := (i 0).isLt
  have h1 : (i 1).val < 128 := (i 1).isLt
  obtain ⟨t, ht⟩ : ∃ t : Fin cfg0.N, t.val = 8 * ((i 0).val / 1024) + 7 := ⟨point ⟨(i 0).val / 1024, by omega⟩ 7, rfl⟩
  refine ⟨t, (flush0_6 t).mpr (by omega), ?_⟩
  show i ∈ ((View.whole main_v26_1).slice (win0_6.rect t)).set
  rw [View.set_slice_whole, Rect.mem_set_unit]
  have e : win0_6.index t = ![t.val / 8, 0] := (idx t).2.2.2.2.2.2.1
  have e0 : win0_6.index t (0 : Fin 2) = t.val / 8 := congrFun e 0
  have e1 : win0_6.index t (1 : Fin 2) = 0 := congrFun e 1
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 128 ≤ (i 1).val ∧ (i 1).val < win0_6.index t (1 : Fin 2) * 128 + 128; omega

theorem covered_turned (i : S16x8x1024.Idx) : ∃ t : Fin cfg0.N, (cfg0.win 7).flush t = true ∧ i ∈ ((cfg0.win 7).blk t).view.set := by
  have h0 : (i 0).val < 16 := (i 0).isLt
  have h1 : (i 1).val < 8 := (i 1).isLt
  have h2 : (i 2).val < 1024 := (i 2).isLt
  obtain ⟨t, ht⟩ : ∃ t : Fin cfg0.N, t.val = 8 * (i 0).val + 7 := ⟨point ⟨(i 0).val, h0⟩ 7, rfl⟩
  refine ⟨t, (flush0_7 t).mpr (by omega), ?_⟩
  show i ∈ ((View.whole main_v26_2).slice (win0_7.rect t)).set
  rw [View.set_slice_whole, Rect.mem_set_unit]
  have e : win0_7.index t = ![t.val / 8, 0, 0] := (idx t).2.2.2.2.2.2.2
  have e0 : win0_7.index t (0 : Fin 3) = t.val / 8 := congrFun e 0
  have e1 : win0_7.index t (1 : Fin 3) = 0 := congrFun e 1
  have e2 : win0_7.index t (2 : Fin 3) = 0 := congrFun e 2
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 8 ≤ (i 1).val ∧ (i 1).val < win0_7.index t (1 : Fin 3) * 8 + 8; omega
  | ⟨2, _⟩ => show win0_7.index t (2 : Fin 3) * 1024 ≤ (i 2).val ∧ (i 2).val < win0_7.index t (2 : Fin 3) * 1024 + 1024; omega

/-! ## The arrays after the call -/

theorem final_wide : (dats m 0 c).arrAt 5 cfg0.N = wideG m c :=
  (dats m 0 c).arrAt_eq_of_cover 5 (wideG m c) (fun t _ => flushed_wide m c t) covered_wide

theorem final_narrow : (dats m 0 c).arrAt 6 cfg0.N = narrowG m c :=
  (dats m 0 c).arrAt_eq_of_cover 6 (narrowG m c) (fun t _ => flushed_narrow m c t) covered_narrow

theorem final_turned : (dats m 0 c).arrAt 7 cfg0.N = turnedG m c :=
  (dats m 0 c).arrAt_eq_of_cover 7 (turnedG m c) (fun t _ => flushed_turned m c t) covered_turned

/-- The call's run ends with the three results, the arguments unchanged. -/
theorem run_results (ρ : Dev nD → PrngReg) : θ_run defs (onTc (τ := τ) (main (F := Ideal))) ⟨m, fun _ => 0, ρ⟩ (fun r => ∀ c : Dev nD,
      r.2.mem ((c.tc : Thread nD τ).loc main_v26_0) = wideG m c
      ∧ r.2.mem ((c.tc : Thread nD τ).loc main_v26_1) = narrowG m c
      ∧ r.2.mem ((c.tc : Thread nD τ).loc main_v26_2) = turnedG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 5).trans (final_wide m c), ((h.1 c).1 6).trans (final_narrow m c),
    ((h.1 c).1 7).trans (final_turned m c), h.2 c⟩)
    (θ_run_and (run_arrays m ρ) (frame_of m ρ (dats m) (A_eq m) (run_arrays m ρ)))

end Cert.Kernel3Ideal.InProj

end
-- ==== Proof.InProj.Final.lean ====
/-
  The input projection's call computes the reference's three results. The reference multiplies the normalised rows by the whole weight
  and takes the columns of the product apart; the call takes the columns of the weight apart before it multiplies.
-/
module

public import proofs.«01_k».proof.Defs
public import proofs.«01_k».proof.Proof.InProj.Call
public import proofs.«01_k».proof.Proof.Gen.Reference3Ideal.Run

@[expose] public section

set_option maxRecDepth 16384

noncomputable section

namespace Cert.Reference3Ideal.InProj

open Idealize.ShloMosaic Idealize.ShloMosaic.TcCoe Idealize.ShloMosaic.Tactic Cert.Reference3Ideal Cert.Reference3Ideal.Gen
open Idealize.SL.Sem
open Cert.InProj (Data factor wideCol narrowCol gateCol inGroup)

variable (x : FVec Ideal S16384x1024 .f32) (g : FVec Ideal S1024 .f32) (w : FVec Ideal S1024x8216 .f32)

/-- The normalised rows. -/
def rows : FVec Ideal S16384x1024 .f32 :=
  mulf (mulf x (broadcastInDim S16384x1024 ![0, 1] bcast_S16384x1_S16384x1024_0_1
      (Host.rsqrt (addf (Host.divf (broadcastInDim S16384x1 ![0] bcast_S16384_S16384x1_0
          (Host.reduceAdd (mulf x x) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x358637BD#32)))) : FVec Ideal S16384x1024 .f32))
    (broadcastInDim S16384x1024 ![0, 1] bcast_S1x1024_S16384x1024_0_1 (broadcastInDim S1x1024 ![1] bcast_S1024_S1x1024_1 g))

theorem rows_at (r : Fin 16384) (k : Fin 1024) : rows x g (ix2 r k) = (Data.of x g w).h r k := by
  unfold rows
  pointwise []
  rfl

/-- Their product with the weight. -/
def product : FVec Ideal S16384x8216 .f32 := Host.dotGeneral dot_S16384x1024_S1024x8216_S16384x8216_1_0_0_1_n_n none (rows x g) w

theorem product_at (r : Fin 16384) (j : Fin 8216) : product x g w (ix2 r j) = (Data.of x g w).u r j := by
  unfold Data.u
  simp only [← rows_at x g w]
  unfold product
  generalize rows x g = X
  pointwise []
  rfl

/-- The product at a column given by its number. -/
theorem product_of (r : Fin 16384) {a b : Fin 8216} (h : a.val = b.val) : product x g w (ix2 r a) = (Data.of x g w).u r b := by
  rw [Fin.ext h, product_at]

/-- The three results, from the product. -/
def wide (u : FVec Ideal S16384x8216 .f32) : FVec Ideal S16384x8192 .f32 :=
  concatenate S16384x8192 1 [⟨S16384x1024, extractStridedSlice S16384x1024 ![0, 0] u slices_S16384x8216_S16384x1024_0_0⟩,
    ⟨S16384x1024, extractStridedSlice S16384x1024 ![0, 1040] u slices_S16384x8216_S16384x1024_0_1040⟩,
    ⟨S16384x6144, extractStridedSlice S16384x6144 ![0, 2072] u slices_S16384x8216_S16384x6144_0_2072⟩]
    concatenates_S16384x1024_S16384x1024_S16384x6144_S16384x8192_d1

def narrow (u : FVec Ideal S16384x8216 .f32) : FVec Ideal S16384x128 .f32 :=
  pad S16384x128 ![0, 0] ![0, 104] ![0, 0]
    (concatenate S16384x24 1 [⟨S16384x16, extractStridedSlice S16384x16 ![0, 1024] u slices_S16384x8216_S16384x16_0_1024⟩,
      ⟨S16384x8, extractStridedSlice S16384x8 ![0, 2064] u slices_S16384x8216_S16384x8_0_2064⟩]
      concatenates_S16384x16_S16384x8_S16384x24_d1)
    (sitofp .f32 (constantI S_ 32 0#32)) pads_S16384x24_S16384x128_000_01040 h_S_

def turned (u : FVec Ideal S16384x8216 .f32) : FVec Ideal S16x8x1024 .f32 :=
  transpose S16x8x1024 [0, 2, 1]
    (shapeCast S16x1024x8 (extractStridedSlice S16384x8 ![0, 2064] u slices_S16384x8216_S16384x8_0_2064) shapeCasts_S16384x8_S16x1024x8)
    transposes_S16x1024x8_S16x8x1024_0_2_1

theorem wide_at (r : Fin 16384) (j : Fin 8192) : wide (product x g w) (ix2 r j) = (Data.of x g w).wide r j := by
  have h := fun a => product_of x g w r (a := a) (b := wideCol j)
  have hj := Cert.InProj.wideCol_val j
  unfold wide Data.wide
  generalize product x g w = X at h ⊢
  pointwise []
  repeat' refine Cert.InProj.either (fun _ => ?_) (fun _ => ?_)
  all_goals
    refine h _ ?_
    dsimp only
    omega

theorem narrow_at (r : Fin 16384) (j : Fin 128) : narrow (product x g w) (ix2 r j) = (Data.of x g w).narrow r j := by
  unfold narrow Data.narrow
  by_cases hj : j.val < 24
  · have h := fun a => product_of x g w r (a := a) (b := narrowCol ⟨j.val, hj⟩)
    generalize product x g w = X at h ⊢
    pointwise []
    rw [dif_pos hj, dif_pos hj]
    refine Cert.InProj.either (fun h1 => ?_) (fun h1 => ?_)
    · exact h _ (by simp only [narrowCol, if_pos h1])
    · exact h _ (by simp only [narrowCol, if_neg h1]; omega)
  · generalize product x g w = X
    pointwise []
    rw [dif_neg hj, dif_neg hj]
    exact sitofp_zero (φ := .f32)

theorem turned_at (b : Fin 16) (s : Fin 8) (r : Fin 1024) : turned (product x g w) (ix3 b s r) = (Data.of x g w).turned b s r := by
  have h := fun q a => product_of x g w q (a := a) (b := gateCol s)
  unfold turned Data.turned
  generalize product x g w = X at h ⊢
  pointwise []
  refine (h _ _ rfl).trans ?_
  exact congrArg (fun q => (Data.of x g w).u q (gateCol s)) (Fin.ext (by show b.val * 1024 + r.val = 1024 * b.val + r.val; omega))

end Cert.Reference3Ideal.InProj

namespace Cert.InProj

open Idealize.ShloMosaic Idealize.ShloMosaic.TcCoe Idealize.SL.Sem

/-- The call computes the reference's three results. -/
theorem algebraic : Cert.algebraic_Kernel3Ideal_Reference3Ideal (hKernel3Ideal := Cert.Kernel3Ideal.Gen.facts)
    (hReference3Ideal := Cert.Reference3Ideal.Gen.facts) := by
  intro m ρ m' ρ' _ hargs
  refine ⟨Cert.Kernel3Ideal.InProj.wideG m, Cert.Kernel3Ideal.InProj.narrowG m, Cert.Kernel3Ideal.InProj.turnedG m,
    Cert.Kernel3Ideal.InProj.run_results m ρ, ?_⟩
  refine (θ_run _ _ _).mono (fun _ h c => ?_) (Cert.Reference3Ideal.Value.run m' ρ')
  obtain ⟨h0, h1, h2, h3⟩ := h c
  obtain ⟨a0, a1, a2⟩ := hargs c
  refine ⟨h0.trans ?_, h1.trans ?_, h2.trans ?_, h3⟩
  · rw [a0, a1, a2]
    funext i
    obtain ⟨r, s, rfl⟩ : ∃ r s, i = ix2 r s := ⟨_, _, eq_ix2 i⟩
    exact Cert.Reference3Ideal.InProj.wide_at _ _ _ r s
  · rw [a0, a1, a2]
    funext i
    obtain ⟨r, s, rfl⟩ : ∃ r s, i = ix2 r s := ⟨_, _, eq_ix2 i⟩
    exact Cert.Reference3Ideal.InProj.narrow_at _ _ _ r s
  · rw [a0, a1, a2]
    funext i
    obtain ⟨b, s, r, rfl⟩ : ∃ b s r, i = ix3 b s r := ⟨_, _, _, eq_ix3 i⟩
    exact Cert.Reference3Ideal.InProj.turned_at _ _ _ b s r

end Cert.InProj

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2Ideal.Value
public import proofs.«01_k».proof.Proof.Gen.Reference2Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference3Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Mlstm.Final
public import proofs.«01_k».proof.Proof.Merge.Final
public import proofs.«01_k».proof.Proof.InProj.RunKernel
public import proofs.«01_k».proof.Proof.InProj.Final
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    fun m ρ _ => Cert.Kernel.Gen.frame m ρ, fun m ρ _ => Cert.KernelIdeal.Gen.frame m ρ,
    fun m ρ _ => (θ_run Cert.ReferenceIdeal.defs _ _).mono
      (fun r h => ⟨fun c => (h c).2.2.2.2.2, Idealize.ShloMosaic.sem_eq_zero_of_no_sems (by decide) r.2⟩) (Cert.ReferenceIdeal.Value.run m ρ),
    fun m ρ _ => Cert.Kernel2.Gen.frame m ρ, fun m ρ _ => Cert.Kernel2Ideal.Gen.frame m ρ,
    fun m ρ _ => (θ_run Cert.Reference2Ideal.defs _ _).mono
      (fun r h => ⟨fun c => (h c).2, Idealize.ShloMosaic.sem_eq_zero_of_no_sems (by decide) r.2⟩) (Cert.Reference2Ideal.Value.run m ρ),
    fun m ρ _ => Cert.Kernel3.InProj.frame_holds m ρ, fun m ρ _ => Cert.Kernel3Ideal.InProj.frame_holds m ρ,
    fun m ρ _ => (θ_run Cert.Reference3Ideal.defs _ _).mono
      (fun r h => ⟨fun c => (h c).2.2.2, Idealize.ShloMosaic.sem_eq_zero_of_no_sems (by decide) r.2⟩) (Cert.Reference3Ideal.Value.run m ρ),
    trivial, Cert.Mlstm.Final.algebraic, trivial, Cert.Merge.algebraic, trivial, Cert.InProj.algebraic⟩

end Cert.Proof

end
